-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![512, 2048]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x512 : Shape := ⟨2, ![512, 512]⟩
abbrev S512x128 : Shape := ⟨2, ![512, 128]⟩
abbrev S8192x128 : Shape := ⟨2, ![8192, 128]⟩
abbrev S4x2x256x256 : Shape := ⟨4, ![4, 2, 256, 256]⟩
abbrev S4x2 : Shape := ⟨2, ![4, 2]⟩
abbrev S_ : Shape := ⟨0, ![]⟩
abbrev S512x256 : Shape := ⟨2, ![512, 256]⟩
abbrev S256x512 : Shape := ⟨2, ![256, 512]⟩
abbrev S256x256 : Shape := ⟨2, ![256, 256]⟩
abbrev S1x1x256x256 : Shape := ⟨4, ![1, 1, 256, 256]⟩
abbrev S1x1 : Shape := ⟨2, ![1, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x128, .f32⟩
  | .hbm, ⟨3, _⟩ => ⟨S8192x128, .f32⟩
  | .local _ .vmem, ⟨0, _⟩ => ⟨S8192x512, .f32⟩
  | .local _ .vmem, ⟨1, _⟩ => ⟨S512x512, .f32⟩
  | .local _ .vmem, ⟨2, _⟩ => ⟨S512x128, .f32⟩
  | .local _ .vmem, ⟨3, _⟩ => ⟨S8192x128, .f32⟩
  | .local _ .vmem, ⟨4, _⟩ => ⟨S4x2x256x256, .f32⟩
  | .local _ .vmem, ⟨5, _⟩ => ⟨S4x2x256x256, .f32⟩
  | .local _ .vmem, ⟨6, _⟩ => ⟨S4x2x256x256, .f32⟩
  | .local _ .vmem, ⟨7, _⟩ => ⟨S4x2x256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 5 68 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 16
abbrev τ : Topo := Topo.v7x

variable {F : FTy → Type} [FloatOps F]

abbrev grid0 : Pipeline.Grid := .none

def k0_off1 (d0 : Dev nD) (c0_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v25 : BitVec 32 := Scalar.subi v2 c1_i32_13
  let c16_i32_14 : BitVec 32 := 16#32
  let c0_i32_15 : BitVec 32 := 0#32
  let v26 : BitVec 1 := Scalar.cmpi .eq c16_i32_14 c0_i32_15
  let c1_i32_16 : BitVec 32 := 1#32
  let v27 : BitVec 32 := Scalar.select v26 c1_i32_16 c16_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c512_i32 : BitVec 32 := 512#32
  let v49 : BitVec 32 := Scalar.muli v35 c512_i32
  let v50 : BitVec 32 := Scalar.addi v49 c0_i32_28
  let v51 : Index := Scalar.indexCast v50
  let c0_29 : Index := 0#32
  ![v51.toNat, 0]
def k0_off2 (d0 : Dev nD) (c0_i32_35 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v36 : BitVec 32 := Scalar.addi v2 c1_i32_20
  let c16_i32_21 : BitVec 32 := 16#32
  let c0_i32_22 : BitVec 32 := 0#32
  let v37 : BitVec 1 := Scalar.cmpi .eq c16_i32_21 c0_i32_22
  let c1_i32_23 : BitVec 32 := 1#32
  let v38 : BitVec 32 := Scalar.select v37 c1_i32_23 c16_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c512_i32_34 : BitVec 32 := 512#32
  let v60 : BitVec 32 := Scalar.muli v46 c512_i32_34
  let v61 : BitVec 32 := Scalar.addi v60 c0_i32_35
  let v62 : Index := Scalar.indexCast v61
  let c0_36 : Index := 0#32
  ![v62.toNat, 0]
def k0_dev1 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v92 : BitVec 32 := Scalar.muli v13 c1_i32_61
  let v93 : BitVec 32 := Scalar.addi c0_i32_62 v92
  v93.toNat
def k0_dev2 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_64 : BitVec 32 := 1#32
  let v94 : BitVec 32 := Scalar.muli v24 c1_i32_64
  let v95 : BitVec 32 := Scalar.addi c0_i32_65 v94
  v95.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_73 : BitVec 32 := 1#32
  let v96 : BitVec 32 := Scalar.muli v24 c1_i32_73
  let v97 : BitVec 32 := Scalar.addi c0_i32_74 v96
  v97.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v106 : BitVec 32 := Scalar.muli v13 c1_i32_87
  let v107 : BitVec 32 := Scalar.addi c0_i32_88 v106
  v107.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_101 : BitVec 32 := 1#32
  let v116 : BitVec 32 := Scalar.muli v24 c1_i32_101
  let v117 : BitVec 32 := Scalar.addi c0_i32_102 v116
  v117.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_115 : BitVec 32 := 1#32
  let v126 : BitVec 32 := Scalar.muli v13 c1_i32_115
  let v127 : BitVec 32 := Scalar.addi c0_i32_116 v126
  v127.toNat
def k0_off3 (d0 : Dev nD) (c0_i32_121 : BitVec 32) (c0_i32_140 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v136 : BitVec 32 := Scalar.subi v2 c0_i32_121
  let c2_i32_122 : BitVec 32 := 2#32
  let v137 : BitVec 32 := Scalar.subi v136 c2_i32_122
  let c16_i32_123 : BitVec 32 := 16#32
  let c0_i32_124 : BitVec 32 := 0#32
  let v138 : BitVec 1 := Scalar.cmpi .eq c16_i32_123 c0_i32_124
  let c1_i32_125 : BitVec 32 := 1#32
  let v139 : BitVec 32 := Scalar.select v138 c1_i32_125 c16_i32_123
  let v140 : BitVec 32 := Scalar.remsi v137 v139
  let c0_i32_127 : BitVec 32 := 0#32
  let v142 : BitVec 1 := Scalar.cmpi .slt v140 c0_i32_127
  let c0_i32_128 : BitVec 32 := 0#32
  let v143 : BitVec 1 := Scalar.cmpi .slt v139 c0_i32_128
  let v144 : BitVec 1 := Scalar.xori v142 v143
  let c0_i32_126 : BitVec 32 := 0#32
  let v141 : BitVec 1 := Scalar.cmpi .ne v140 c0_i32_126
  let v145 : BitVec 1 := Scalar.andi v144 v141
  let v146 : BitVec 32 := Scalar.addi v140 v139
  let v147 : BitVec 32 := Scalar.select v145 v146 v140
  let c512_i32_139 : BitVec 32 := 512#32
  let v162 : BitVec 32 := Scalar.muli v147 c512_i32_139
  let v163 : BitVec 32 := Scalar.addi v162 c0_i32_140
  let v164 : Index := Scalar.indexCast v163
  let c0_141 : Index := 0#32
  ![v164.toNat, 0]
def k0_off4 (d0 : Dev nD) (c0_i32_129 : BitVec 32) (c0_i32_146 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v148 : BitVec 32 := Scalar.addi v2 c0_i32_129
  let c2_i32_130 : BitVec 32 := 2#32
  let v149 : BitVec 32 := Scalar.addi v148 c2_i32_130
  let c16_i32_131 : BitVec 32 := 16#32
  let c0_i32_132 : BitVec 32 := 0#32
  let v150 : BitVec 1 := Scalar.cmpi .eq c16_i32_131 c0_i32_132
  let c1_i32_133 : BitVec 32 := 1#32
  let v151 : BitVec 32 := Scalar.select v150 c1_i32_133 c16_i32_131
  let v152 : BitVec 32 := Scalar.remsi v149 v151
  let c0_i32_135 : BitVec 32 := 0#32
  let v154 : BitVec 1 := Scalar.cmpi .slt v152 c0_i32_135
  let c0_i32_136 : BitVec 32 := 0#32
  let v155 : BitVec 1 := Scalar.cmpi .slt v151 c0_i32_136
  let v156 : BitVec 1 := Scalar.xori v154 v155
  let c0_i32_134 : BitVec 32 := 0#32
  let v153 : BitVec 1 := Scalar.cmpi .ne v152 c0_i32_134
  let v157 : BitVec 1 := Scalar.andi v156 v153
  let v158 : BitVec 32 := Scalar.addi v152 v151
  let v159 : BitVec 32 := Scalar.select v157 v158 v152
  let c512_i32_145 : BitVec 32 := 512#32
  let v170 : BitVec 32 := Scalar.muli v159 c512_i32_145
  let v171 : BitVec 32 := Scalar.addi v170 c0_i32_146
  let v172 : Index := Scalar.indexCast v171
  let c0_147 : Index := 0#32
  ![v172.toNat, 0]
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_179 : BitVec 32 := 1#32
  let v190 : BitVec 32 := Scalar.muli v24 c1_i32_179
  let v191 : BitVec 32 := Scalar.addi c0_i32_180 v190
  v191.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v214 : BitVec 32 := Scalar.muli v13 c1_i32_215
  let v215 : BitVec 32 := Scalar.addi c0_i32_216 v214
  v215.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_263 : BitVec 32 := 1#32
  let v254 : BitVec 32 := Scalar.muli v24 c1_i32_263
  let v255 : BitVec 32 := Scalar.addi c0_i32_264 v254
  v255.toNat
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_299 : BitVec 32 := 1#32
  let v278 : BitVec 32 := Scalar.muli v13 c1_i32_299
  let v279 : BitVec 32 := Scalar.addi c0_i32_300 v278
  v279.toNat
def k0_dev11 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_358 : BitVec 32 := 1#32
  let v312 : BitVec 32 := Scalar.muli v13 c1_i32_358
  let v313 : BitVec 32 := Scalar.addi c0_i32_359 v312
  v313.toNat
def k0_dev12 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_361 : BitVec 32 := 1#32
  let v314 : BitVec 32 := Scalar.muli v24 c1_i32_361
  let v315 : BitVec 32 := Scalar.addi c0_i32_362 v314
  v315.toNat
def k0_dev13 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_421 : BitVec 32 := 1#32
  let v370 : BitVec 32 := Scalar.muli v24 c1_i32_421
  let v371 : BitVec 32 := Scalar.addi c0_i32_422 v370
  v371.toNat
def k0_dev14 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v394 : BitVec 32 := Scalar.muli v13 c1_i32_457
  let v395 : BitVec 32 := Scalar.addi c0_i32_458 v394
  v395.toNat
def k0_dev15 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_505 : BitVec 32 := 1#32
  let v434 : BitVec 32 := Scalar.muli v24 c1_i32_505
  let v435 : BitVec 32 := Scalar.addi c0_i32_506 v434
  v435.toNat
def k0_dev16 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_541 : BitVec 32 := 1#32
  let v458 : BitVec 32 := Scalar.muli v13 c1_i32_541
  let v459 : BitVec 32 := Scalar.addi c0_i32_542 v458
  v459.toNat
def k0_dev17 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_600 : BitVec 32 := 1#32
  let v492 : BitVec 32 := Scalar.muli v13 c1_i32_600
  let v493 : BitVec 32 := Scalar.addi c0_i32_601 v492
  v493.toNat
def k0_dev18 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_603 : BitVec 32 := 1#32
  let v494 : BitVec 32 := Scalar.muli v24 c1_i32_603
  let v495 : BitVec 32 := Scalar.addi c0_i32_604 v494
  v495.toNat
def k0_dev19 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_664 : BitVec 32 := 1#32
  let v550 : BitVec 32 := Scalar.muli v24 c1_i32_664
  let v551 : BitVec 32 := Scalar.addi c0_i32_665 v550
  v551.toNat
def k0_dev20 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_702 : BitVec 32 := 1#32
  let v574 : BitVec 32 := Scalar.muli v13 c1_i32_702
  let v575 : BitVec 32 := Scalar.addi c0_i32_703 v574
  v575.toNat
def k0_dev21 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_750 : BitVec 32 := 1#32
  let v614 : BitVec 32 := Scalar.muli v24 c1_i32_750
  let v615 : BitVec 32 := Scalar.addi c0_i32_751 v614
  v615.toNat
def k0_dev22 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_786 : BitVec 32 := 1#32
  let v638 : BitVec 32 := Scalar.muli v13 c1_i32_786
  let v639 : BitVec 32 := Scalar.addi c0_i32_787 v638
  v639.toNat
def k0_dev23 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_845 : BitVec 32 := 1#32
  let v672 : BitVec 32 := Scalar.muli v13 c1_i32_845
  let v673 : BitVec 32 := Scalar.addi c0_i32_846 v672
  v673.toNat
def k0_dev24 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_848 : BitVec 32 := 1#32
  let v674 : BitVec 32 := Scalar.muli v24 c1_i32_848
  let v675 : BitVec 32 := Scalar.addi c0_i32_849 v674
  v675.toNat
def k0_dev25 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_910 : BitVec 32 := 1#32
  let v730 : BitVec 32 := Scalar.muli v24 c1_i32_910
  let v731 : BitVec 32 := Scalar.addi c0_i32_911 v730
  v731.toNat
def k0_dev26 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_948 : BitVec 32 := 1#32
  let v754 : BitVec 32 := Scalar.muli v13 c1_i32_948
  let v755 : BitVec 32 := Scalar.addi c0_i32_949 v754
  v755.toNat
def k0_dev27 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_996 : BitVec 32 := 1#32
  let v794 : BitVec 32 := Scalar.muli v24 c1_i32_996
  let v795 : BitVec 32 := Scalar.addi c0_i32_997 v794
  v795.toNat
def k0_dev28 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1032 : BitVec 32 := 1#32
  let v818 : BitVec 32 := Scalar.muli v13 c1_i32_1032
  let v819 : BitVec 32 := Scalar.addi c0_i32_1033 v818
  v819.toNat
def k0_dev29 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1091 : BitVec 32 := 1#32
  let v852 : BitVec 32 := Scalar.muli v13 c1_i32_1091
  let v853 : BitVec 32 := Scalar.addi c0_i32_1092 v852
  v853.toNat
def k0_dev30 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1094 : BitVec 32 := 1#32
  let v854 : BitVec 32 := Scalar.muli v24 c1_i32_1094
  let v855 : BitVec 32 := Scalar.addi c0_i32_1095 v854
  v855.toNat
def k0_dev31 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1155 : BitVec 32 := 1#32
  let v910 : BitVec 32 := Scalar.muli v24 c1_i32_1155
  let v911 : BitVec 32 := Scalar.addi c0_i32_1156 v910
  v911.toNat
def k0_dev32 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1193 : BitVec 32 := 1#32
  let v934 : BitVec 32 := Scalar.muli v13 c1_i32_1193
  let v935 : BitVec 32 := Scalar.addi c0_i32_1194 v934
  v935.toNat
def k0_dev33 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1241 : BitVec 32 := 1#32
  let v974 : BitVec 32 := Scalar.muli v24 c1_i32_1241
  let v975 : BitVec 32 := Scalar.addi c0_i32_1242 v974
  v975.toNat
def k0_dev34 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1277 : BitVec 32 := 1#32
  let v998 : BitVec 32 := Scalar.muli v13 c1_i32_1277
  let v999 : BitVec 32 := Scalar.addi c0_i32_1278 v998
  v999.toNat
def k0_dev35 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1336 : BitVec 32 := 1#32
  let v1032 : BitVec 32 := Scalar.muli v13 c1_i32_1336
  let v1033 : BitVec 32 := Scalar.addi c0_i32_1337 v1032
  v1033.toNat
def k0_dev36 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1339 : BitVec 32 := 1#32
  let v1034 : BitVec 32 := Scalar.muli v24 c1_i32_1339
  let v1035 : BitVec 32 := Scalar.addi c0_i32_1340 v1034
  v1035.toNat
def k0_dev37 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1400 : BitVec 32 := 1#32
  let v1090 : BitVec 32 := Scalar.muli v24 c1_i32_1400
  let v1091 : BitVec 32 := Scalar.addi c0_i32_1401 v1090
  v1091.toNat
def k0_dev38 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1438 : BitVec 32 := 1#32
  let v1114 : BitVec 32 := Scalar.muli v13 c1_i32_1438
  let v1115 : BitVec 32 := Scalar.addi c0_i32_1439 v1114
  v1115.toNat
def k0_dev39 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1486 : BitVec 32 := 1#32
  let v1154 : BitVec 32 := Scalar.muli v24 c1_i32_1486
  let v1155 : BitVec 32 := Scalar.addi c0_i32_1487 v1154
  v1155.toNat
def k0_dev40 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1522 : BitVec 32 := 1#32
  let v1178 : BitVec 32 := Scalar.muli v13 c1_i32_1522
  let v1179 : BitVec 32 := Scalar.addi c0_i32_1523 v1178
  v1179.toNat
def k0_dev41 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1581 : BitVec 32 := 1#32
  let v1212 : BitVec 32 := Scalar.muli v13 c1_i32_1581
  let v1213 : BitVec 32 := Scalar.addi c0_i32_1582 v1212
  v1213.toNat
def k0_dev42 (d0 : Dev nD) : Nat :=
  let c0_i32_1585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1584 : BitVec 32 := 1#32
  let v1214 : BitVec 32 := Scalar.muli v24 c1_i32_1584
  let v1215 : BitVec 32 := Scalar.addi c0_i32_1585 v1214
  v1215.toNat
def k0_dev43 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1645 : BitVec 32 := 1#32
  let v1270 : BitVec 32 := Scalar.muli v24 c1_i32_1645
  let v1271 : BitVec 32 := Scalar.addi c0_i32_1646 v1270
  v1271.toNat
def k0_dev44 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1683 : BitVec 32 := 1#32
  let v1294 : BitVec 32 := Scalar.muli v13 c1_i32_1683
  let v1295 : BitVec 32 := Scalar.addi c0_i32_1684 v1294
  v1295.toNat
def k0_dev45 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1731 : BitVec 32 := 1#32
  let v1334 : BitVec 32 := Scalar.muli v24 c1_i32_1731
  let v1335 : BitVec 32 := Scalar.addi c0_i32_1732 v1334
  v1335.toNat
def k0_dev46 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1767 : BitVec 32 := 1#32
  let v1358 : BitVec 32 := Scalar.muli v13 c1_i32_1767
  let v1359 : BitVec 32 := Scalar.addi c0_i32_1768 v1358
  v1359.toNat
def k0_dev47 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1826 : BitVec 32 := 1#32
  let v1392 : BitVec 32 := Scalar.muli v13 c1_i32_1826
  let v1393 : BitVec 32 := Scalar.addi c0_i32_1827 v1392
  v1393.toNat
def k0_dev48 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1829 : BitVec 32 := 1#32
  let v1394 : BitVec 32 := Scalar.muli v24 c1_i32_1829
  let v1395 : BitVec 32 := Scalar.addi c0_i32_1830 v1394
  v1395.toNat
def k0_dev49 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1890 : BitVec 32 := 1#32
  let v1450 : BitVec 32 := Scalar.muli v24 c1_i32_1890
  let v1451 : BitVec 32 := Scalar.addi c0_i32_1891 v1450
  v1451.toNat
def k0_dev50 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1928 : BitVec 32 := 1#32
  let v1474 : BitVec 32 := Scalar.muli v13 c1_i32_1928
  let v1475 : BitVec 32 := Scalar.addi c0_i32_1929 v1474
  v1475.toNat
def k0_dev51 (d0 : Dev nD) : Nat :=
  let c0_i32_1977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1976 : BitVec 32 := 1#32
  let v1514 : BitVec 32 := Scalar.muli v24 c1_i32_1976
  let v1515 : BitVec 32 := Scalar.addi c0_i32_1977 v1514
  v1515.toNat
def k0_dev52 (d0 : Dev nD) : Nat :=
  let c0_i32_2013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2012 : BitVec 32 := 1#32
  let v1538 : BitVec 32 := Scalar.muli v13 c1_i32_2012
  let v1539 : BitVec 32 := Scalar.addi c0_i32_2013 v1538
  v1539.toNat
def k0_dev53 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2071 : BitVec 32 := 1#32
  let v1572 : BitVec 32 := Scalar.muli v13 c1_i32_2071
  let v1573 : BitVec 32 := Scalar.addi c0_i32_2072 v1572
  v1573.toNat
def k0_dev54 (d0 : Dev nD) : Nat :=
  let c0_i32_2075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2074 : BitVec 32 := 1#32
  let v1574 : BitVec 32 := Scalar.muli v24 c1_i32_2074
  let v1575 : BitVec 32 := Scalar.addi c0_i32_2075 v1574
  v1575.toNat
def k0_dev55 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2135 : BitVec 32 := 1#32
  let v1630 : BitVec 32 := Scalar.muli v24 c1_i32_2135
  let v1631 : BitVec 32 := Scalar.addi c0_i32_2136 v1630
  v1631.toNat
def k0_dev56 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2173 : BitVec 32 := 1#32
  let v1654 : BitVec 32 := Scalar.muli v13 c1_i32_2173
  let v1655 : BitVec 32 := Scalar.addi c0_i32_2174 v1654
  v1655.toNat
def k0_dev57 (d0 : Dev nD) : Nat :=
  let c0_i32_2222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2221 : BitVec 32 := 1#32
  let v1694 : BitVec 32 := Scalar.muli v24 c1_i32_2221
  let v1695 : BitVec 32 := Scalar.addi c0_i32_2222 v1694
  v1695.toNat
def k0_dev58 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2257 : BitVec 32 := 1#32
  let v1718 : BitVec 32 := Scalar.muli v13 c1_i32_2257
  let v1719 : BitVec 32 := Scalar.addi c0_i32_2258 v1718
  v1719.toNat
def k0_dev59 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2316 : BitVec 32 := 1#32
  let v1752 : BitVec 32 := Scalar.muli v13 c1_i32_2316
  let v1753 : BitVec 32 := Scalar.addi c0_i32_2317 v1752
  v1753.toNat
def k0_dev60 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2319 : BitVec 32 := 1#32
  let v1754 : BitVec 32 := Scalar.muli v24 c1_i32_2319
  let v1755 : BitVec 32 := Scalar.addi c0_i32_2320 v1754
  v1755.toNat
def k0_dev61 (d0 : Dev nD) : Nat :=
  let c0_i32_2381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2380 : BitVec 32 := 1#32
  let v1810 : BitVec 32 := Scalar.muli v24 c1_i32_2380
  let v1811 : BitVec 32 := Scalar.addi c0_i32_2381 v1810
  v1811.toNat
def k0_dev62 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2418 : BitVec 32 := 1#32
  let v1834 : BitVec 32 := Scalar.muli v13 c1_i32_2418
  let v1835 : BitVec 32 := Scalar.addi c0_i32_2419 v1834
  v1835.toNat
def k0_dev63 (d0 : Dev nD) : Nat :=
  let c0_i32_2467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2466 : BitVec 32 := 1#32
  let v1874 : BitVec 32 := Scalar.muli v24 c1_i32_2466
  let v1875 : BitVec 32 := Scalar.addi c0_i32_2467 v1874
  v1875.toNat
def k0_dev64 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2502 : BitVec 32 := 1#32
  let v1898 : BitVec 32 := Scalar.muli v13 c1_i32_2502
  let v1899 : BitVec 32 := Scalar.addi c0_i32_2503 v1898
  v1899.toNat
def k0_dev65 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2561 : BitVec 32 := 1#32
  let v1932 : BitVec 32 := Scalar.muli v13 c1_i32_2561
  let v1933 : BitVec 32 := Scalar.addi c0_i32_2562 v1932
  v1933.toNat
def k0_dev66 (d0 : Dev nD) : Nat :=
  let c0_i32_2565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2564 : BitVec 32 := 1#32
  let v1934 : BitVec 32 := Scalar.muli v24 c1_i32_2564
  let v1935 : BitVec 32 := Scalar.addi c0_i32_2565 v1934
  v1935.toNat
def k0_dev67 (d0 : Dev nD) : Nat :=
  let c0_i32_2626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2625 : BitVec 32 := 1#32
  let v1990 : BitVec 32 := Scalar.muli v24 c1_i32_2625
  let v1991 : BitVec 32 := Scalar.addi c0_i32_2626 v1990
  v1991.toNat
def k0_dev68 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2663 : BitVec 32 := 1#32
  let v2014 : BitVec 32 := Scalar.muli v13 c1_i32_2663
  let v2015 : BitVec 32 := Scalar.addi c0_i32_2664 v2014
  v2015.toNat
def k0_dev69 (d0 : Dev nD) : Nat :=
  let c0_i32_2712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2711 : BitVec 32 := 1#32
  let v2054 : BitVec 32 := Scalar.muli v24 c1_i32_2711
  let v2055 : BitVec 32 := Scalar.addi c0_i32_2712 v2054
  v2055.toNat
def k0_dev70 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2747 : BitVec 32 := 1#32
  let v2078 : BitVec 32 := Scalar.muli v13 c1_i32_2747
  let v2079 : BitVec 32 := Scalar.addi c0_i32_2748 v2078
  v2079.toNat
def k0_dev71 (d0 : Dev nD) : Nat :=
  let c0_i32_2807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2806 : BitVec 32 := 1#32
  let v2112 : BitVec 32 := Scalar.muli v13 c1_i32_2806
  let v2113 : BitVec 32 := Scalar.addi c0_i32_2807 v2112
  v2113.toNat
def k0_dev72 (d0 : Dev nD) : Nat :=
  let c0_i32_2810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2809 : BitVec 32 := 1#32
  let v2114 : BitVec 32 := Scalar.muli v24 c1_i32_2809
  let v2115 : BitVec 32 := Scalar.addi c0_i32_2810 v2114
  v2115.toNat
def k0_dev73 (d0 : Dev nD) : Nat :=
  let c0_i32_2871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2870 : BitVec 32 := 1#32
  let v2170 : BitVec 32 := Scalar.muli v24 c1_i32_2870
  let v2171 : BitVec 32 := Scalar.addi c0_i32_2871 v2170
  v2171.toNat
def k0_dev74 (d0 : Dev nD) : Nat :=
  let c0_i32_2909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2908 : BitVec 32 := 1#32
  let v2194 : BitVec 32 := Scalar.muli v13 c1_i32_2908
  let v2195 : BitVec 32 := Scalar.addi c0_i32_2909 v2194
  v2195.toNat
def k0_dev75 (d0 : Dev nD) : Nat :=
  let c0_i32_2957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2956 : BitVec 32 := 1#32
  let v2234 : BitVec 32 := Scalar.muli v24 c1_i32_2956
  let v2235 : BitVec 32 := Scalar.addi c0_i32_2957 v2234
  v2235.toNat
def k0_dev76 (d0 : Dev nD) : Nat :=
  let c0_i32_2993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2992 : BitVec 32 := 1#32
  let v2258 : BitVec 32 := Scalar.muli v13 c1_i32_2992
  let v2259 : BitVec 32 := Scalar.addi c0_i32_2993 v2258
  v2259.toNat
def k0_dev77 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3051 : BitVec 32 := 1#32
  let v2292 : BitVec 32 := Scalar.muli v13 c1_i32_3051
  let v2293 : BitVec 32 := Scalar.addi c0_i32_3052 v2292
  v2293.toNat
def k0_dev78 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3054 : BitVec 32 := 1#32
  let v2294 : BitVec 32 := Scalar.muli v24 c1_i32_3054
  let v2295 : BitVec 32 := Scalar.addi c0_i32_3055 v2294
  v2295.toNat
def k0_dev79 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3115 : BitVec 32 := 1#32
  let v2350 : BitVec 32 := Scalar.muli v24 c1_i32_3115
  let v2351 : BitVec 32 := Scalar.addi c0_i32_3116 v2350
  v2351.toNat
def k0_dev80 (d0 : Dev nD) : Nat :=
  let c0_i32_3154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3153 : BitVec 32 := 1#32
  let v2374 : BitVec 32 := Scalar.muli v13 c1_i32_3153
  let v2375 : BitVec 32 := Scalar.addi c0_i32_3154 v2374
  v2375.toNat
def k0_dev81 (d0 : Dev nD) : Nat :=
  let c0_i32_3202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3201 : BitVec 32 := 1#32
  let v2414 : BitVec 32 := Scalar.muli v24 c1_i32_3201
  let v2415 : BitVec 32 := Scalar.addi c0_i32_3202 v2414
  v2415.toNat
def k0_dev82 (d0 : Dev nD) : Nat :=
  let c0_i32_3238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3237 : BitVec 32 := 1#32
  let v2438 : BitVec 32 := Scalar.muli v13 c1_i32_3237
  let v2439 : BitVec 32 := Scalar.addi c0_i32_3238 v2438
  v2439.toNat
def k0_dev83 (d0 : Dev nD) : Nat :=
  let c0_i32_3355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3354 : BitVec 32 := 1#32
  let v2526 : BitVec 32 := Scalar.muli v24 c1_i32_3354
  let v2527 : BitVec 32 := Scalar.addi c0_i32_3355 v2526
  v2527.toNat
def k0_dev84 (d0 : Dev nD) : Nat :=
  let c0_i32_3393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3392 : BitVec 32 := 1#32
  let v2550 : BitVec 32 := Scalar.muli v13 c1_i32_3392
  let v2551 : BitVec 32 := Scalar.addi c0_i32_3393 v2550
  v2551.toNat
def k0_dev85 (d0 : Dev nD) : Nat :=
  let c0_i32_3441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3440 : BitVec 32 := 1#32
  let v2590 : BitVec 32 := Scalar.muli v24 c1_i32_3440
  let v2591 : BitVec 32 := Scalar.addi c0_i32_3441 v2590
  v2591.toNat
def k0_dev86 (d0 : Dev nD) : Nat :=
  let c0_i32_3477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3476 : BitVec 32 := 1#32
  let v2614 : BitVec 32 := Scalar.muli v13 c1_i32_3476
  let v2615 : BitVec 32 := Scalar.addi c0_i32_3477 v2614
  v2615.toNat
def k0_dev87 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3721 : BitVec 32 := 1#32
  let v2784 : BitVec 32 := Scalar.muli v24 c1_i32_3721
  let v2785 : BitVec 32 := Scalar.addi c0_i32_3722 v2784
  v2785.toNat
def k0_dev88 (d0 : Dev nD) : Nat :=
  let c0_i32_3736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3735 : BitVec 32 := 1#32
  let v2794 : BitVec 32 := Scalar.muli v13 c1_i32_3735
  let v2795 : BitVec 32 := Scalar.addi c0_i32_3736 v2794
  v2795.toNat
def k0_dev89 (d0 : Dev nD) : Nat :=
  let c0_i32_3750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3749 : BitVec 32 := 1#32
  let v2804 : BitVec 32 := Scalar.muli v24 c1_i32_3749
  let v2805 : BitVec 32 := Scalar.addi c0_i32_3750 v2804
  v2805.toNat
def k0_dev90 (d0 : Dev nD) : Nat :=
  let c0_i32_3764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3763 : BitVec 32 := 1#32
  let v2814 : BitVec 32 := Scalar.muli v13 c1_i32_3763
  let v2815 : BitVec 32 := Scalar.addi c0_i32_3764 v2814
  v2815.toNat
def k0_dev91 (d0 : Dev nD) : Nat :=
  let c0_i32_3792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3791 : BitVec 32 := 1#32
  let v2832 : BitVec 32 := Scalar.muli v24 c1_i32_3791
  let v2833 : BitVec 32 := Scalar.addi c0_i32_3792 v2832
  v2833.toNat
def k0_dev92 (d0 : Dev nD) : Nat :=
  let c0_i32_3820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3819 : BitVec 32 := 1#32
  let v2850 : BitVec 32 := Scalar.muli v13 c1_i32_3819
  let v2851 : BitVec 32 := Scalar.addi c0_i32_3820 v2850
  v2851.toNat
def k0_dev93 (d0 : Dev nD) : Nat :=
  let c0_i32_3848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3847 : BitVec 32 := 1#32
  let v2868 : BitVec 32 := Scalar.muli v24 c1_i32_3847
  let v2869 : BitVec 32 := Scalar.addi c0_i32_3848 v2868
  v2869.toNat
def k0_dev94 (d0 : Dev nD) : Nat :=
  let c0_i32_3876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3875 : BitVec 32 := 1#32
  let v2886 : BitVec 32 := Scalar.muli v13 c1_i32_3875
  let v2887 : BitVec 32 := Scalar.addi c0_i32_3876 v2886
  v2887.toNat
def k0_off5 (d0 : Dev nD) (c0_i32_3896 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_3895 : BitVec 32 := 512#32
  let v2907 : BitVec 32 := Scalar.muli v2 c512_i32_3895
  let v2908 : BitVec 32 := Scalar.addi v2907 c0_i32_3896
  let v2909 : Index := Scalar.indexCast v2908
  let c0_3897 : Index := 0#32
  ![v2909.toNat, 0]
def k0_dev95 (d0 : Dev nD) : Nat :=
  let c0_i32_3990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3989 : BitVec 32 := 1#32
  let v2958 : BitVec 32 := Scalar.muli v24 c1_i32_3989
  let v2959 : BitVec 32 := Scalar.addi c0_i32_3990 v2958
  v2959.toNat
def k0_dev96 (d0 : Dev nD) : Nat :=
  let c0_i32_4018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4017 : BitVec 32 := 1#32
  let v2976 : BitVec 32 := Scalar.muli v13 c1_i32_4017
  let v2977 : BitVec 32 := Scalar.addi c0_i32_4018 v2976
  v2977.toNat
def k0_dev97 (d0 : Dev nD) : Nat :=
  let c0_i32_4046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4045 : BitVec 32 := 1#32
  let v2994 : BitVec 32 := Scalar.muli v24 c1_i32_4045
  let v2995 : BitVec 32 := Scalar.addi c0_i32_4046 v2994
  v2995.toNat
def k0_dev98 (d0 : Dev nD) : Nat :=
  let c0_i32_4074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4073 : BitVec 32 := 1#32
  let v3012 : BitVec 32 := Scalar.muli v13 c1_i32_4073
  let v3013 : BitVec 32 := Scalar.addi c0_i32_4074 v3012
  v3013.toNat
def k0_off6 (d0 : Dev nD) (c1_i32_4079 : BitVec 32) (c0_i32_4108 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3022 : BitVec 32 := Scalar.subi v2 c1_i32_4079
  let c16_i32_4080 : BitVec 32 := 16#32
  let c0_i32_4081 : BitVec 32 := 0#32
  let v3023 : BitVec 1 := Scalar.cmpi .eq c16_i32_4080 c0_i32_4081
  let c1_i32_4082 : BitVec 32 := 1#32
  let v3024 : BitVec 32 := Scalar.select v3023 c1_i32_4082 c16_i32_4080
  let v3025 : BitVec 32 := Scalar.remsi v3022 v3024
  let c0_i32_4084 : BitVec 32 := 0#32
  let v3027 : BitVec 1 := Scalar.cmpi .slt v3025 c0_i32_4084
  let c0_i32_4085 : BitVec 32 := 0#32
  let v3028 : BitVec 1 := Scalar.cmpi .slt v3024 c0_i32_4085
  let v3029 : BitVec 1 := Scalar.xori v3027 v3028
  let c0_i32_4083 : BitVec 32 := 0#32
  let v3026 : BitVec 1 := Scalar.cmpi .ne v3025 c0_i32_4083
  let v3030 : BitVec 1 := Scalar.andi v3029 v3026
  let v3031 : BitVec 32 := Scalar.addi v3025 v3024
  let v3032 : BitVec 32 := Scalar.select v3030 v3031 v3025
  let c512_i32_4107 : BitVec 32 := 512#32
  let v3054 : BitVec 32 := Scalar.muli v3032 c512_i32_4107
  let v3055 : BitVec 32 := Scalar.addi v3054 c0_i32_4108
  let v3058 : Index := Scalar.indexCast v3055
  let c0_4111 : Index := 0#32
  ![v3058.toNat, 0]
def k0_off7 (d0 : Dev nD) (c1_i32_4086 : BitVec 32) (c0_i32_4110 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3033 : BitVec 32 := Scalar.addi v2 c1_i32_4086
  let c16_i32_4087 : BitVec 32 := 16#32
  let c0_i32_4088 : BitVec 32 := 0#32
  let v3034 : BitVec 1 := Scalar.cmpi .eq c16_i32_4087 c0_i32_4088
  let c1_i32_4089 : BitVec 32 := 1#32
  let v3035 : BitVec 32 := Scalar.select v3034 c1_i32_4089 c16_i32_4087
  let v3036 : BitVec 32 := Scalar.remsi v3033 v3035
  let c0_i32_4091 : BitVec 32 := 0#32
  let v3038 : BitVec 1 := Scalar.cmpi .slt v3036 c0_i32_4091
  let c0_i32_4092 : BitVec 32 := 0#32
  let v3039 : BitVec 1 := Scalar.cmpi .slt v3035 c0_i32_4092
  let v3040 : BitVec 1 := Scalar.xori v3038 v3039
  let c0_i32_4090 : BitVec 32 := 0#32
  let v3037 : BitVec 1 := Scalar.cmpi .ne v3036 c0_i32_4090
  let v3041 : BitVec 1 := Scalar.andi v3040 v3037
  let v3042 : BitVec 32 := Scalar.addi v3036 v3035
  let v3043 : BitVec 32 := Scalar.select v3041 v3042 v3036
  let c512_i32_4109 : BitVec 32 := 512#32
  let v3056 : BitVec 32 := Scalar.muli v3043 c512_i32_4109
  let v3057 : BitVec 32 := Scalar.addi v3056 c0_i32_4110
  let v3060 : Index := Scalar.indexCast v3057
  let c0_4112 : Index := 0#32
  ![v3060.toNat, 0]
def k0_off7_at (r : Fin 28) : BitVec 32 × BitVec 32 :=
  if r.val < 14 then
    if r.val < 7 then
      if r.val < 3 then
        if r.val < 1 then
          (1#32, 0#32)
        else
          if r.val < 2 then
            (1#32, 256#32)
          else
            (2#32, 0#32)
      else
        if r.val < 5 then
          if r.val < 4 then
            (2#32, 256#32)
          else
            (3#32, 0#32)
        else
          if r.val < 6 then
            (3#32, 256#32)
          else
            (4#32, 0#32)
    else
      if r.val < 10 then
        if r.val < 8 then
          (4#32, 256#32)
        else
          if r.val < 9 then
            (5#32, 0#32)
          else
            (5#32, 256#32)
      else
        if r.val < 12 then
          if r.val < 11 then
            (6#32, 0#32)
          else
            (6#32, 256#32)
        else
          if r.val < 13 then
            (7#32, 0#32)
          else
            (7#32, 256#32)
  else
    if r.val < 21 then
      if r.val < 17 then
        if r.val < 15 then
          (9#32, 0#32)
        else
          if r.val < 16 then
            (9#32, 256#32)
          else
            (10#32, 0#32)
      else
        if r.val < 19 then
          if r.val < 18 then
            (10#32, 256#32)
          else
            (11#32, 0#32)
        else
          if r.val < 20 then
            (11#32, 256#32)
          else
            (12#32, 0#32)
    else
      if r.val < 24 then
        if r.val < 22 then
          (12#32, 256#32)
        else
          if r.val < 23 then
            (13#32, 0#32)
          else
            (13#32, 256#32)
      else
        if r.val < 26 then
          if r.val < 25 then
            (14#32, 0#32)
          else
            (14#32, 256#32)
        else
          if r.val < 27 then
            (15#32, 0#32)
          else
            (15#32, 256#32)
def k0_dev99 (d0 : Dev nD) : Nat :=
  let c0_i32_4187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4186 : BitVec 32 := 1#32
  let v3104 : BitVec 32 := Scalar.muli v13 c1_i32_4186
  let v3105 : BitVec 32 := Scalar.addi c0_i32_4187 v3104
  v3105.toNat
def k0_dev100 (d0 : Dev nD) : Nat :=
  let c0_i32_4190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4189 : BitVec 32 := 1#32
  let v3106 : BitVec 32 := Scalar.muli v24 c1_i32_4189
  let v3107 : BitVec 32 := Scalar.addi c0_i32_4190 v3106
  v3107.toNat
def k0_dev101 (d0 : Dev nD) : Nat :=
  let c0_i32_4214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4213 : BitVec 32 := 1#32
  let v3116 : BitVec 32 := Scalar.muli v24 c1_i32_4213
  let v3117 : BitVec 32 := Scalar.addi c0_i32_4214 v3116
  v3117.toNat
def k0_dev102 (d0 : Dev nD) : Nat :=
  let c0_i32_4242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4241 : BitVec 32 := 1#32
  let v3134 : BitVec 32 := Scalar.muli v13 c1_i32_4241
  let v3135 : BitVec 32 := Scalar.addi c0_i32_4242 v3134
  v3135.toNat
def k0_dev103 (d0 : Dev nD) : Nat :=
  let c0_i32_4270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4269 : BitVec 32 := 1#32
  let v3152 : BitVec 32 := Scalar.muli v24 c1_i32_4269
  let v3153 : BitVec 32 := Scalar.addi c0_i32_4270 v3152
  v3153.toNat
def k0_dev104 (d0 : Dev nD) : Nat :=
  let c0_i32_4298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4297 : BitVec 32 := 1#32
  let v3170 : BitVec 32 := Scalar.muli v13 c1_i32_4297
  let v3171 : BitVec 32 := Scalar.addi c0_i32_4298 v3170
  v3171.toNat
def k0_dev105 (d0 : Dev nD) : Nat :=
  let c0_i32_4411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4410 : BitVec 32 := 1#32
  let v3262 : BitVec 32 := Scalar.muli v13 c1_i32_4410
  let v3263 : BitVec 32 := Scalar.addi c0_i32_4411 v3262
  v3263.toNat
def k0_dev106 (d0 : Dev nD) : Nat :=
  let c0_i32_4414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4413 : BitVec 32 := 1#32
  let v3264 : BitVec 32 := Scalar.muli v24 c1_i32_4413
  let v3265 : BitVec 32 := Scalar.addi c0_i32_4414 v3264
  v3265.toNat
def k0_dev107 (d0 : Dev nD) : Nat :=
  let c0_i32_4440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4439 : BitVec 32 := 1#32
  let v3274 : BitVec 32 := Scalar.muli v24 c1_i32_4439
  let v3275 : BitVec 32 := Scalar.addi c0_i32_4440 v3274
  v3275.toNat
def k0_dev108 (d0 : Dev nD) : Nat :=
  let c0_i32_4470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4469 : BitVec 32 := 1#32
  let v3292 : BitVec 32 := Scalar.muli v13 c1_i32_4469
  let v3293 : BitVec 32 := Scalar.addi c0_i32_4470 v3292
  v3293.toNat
def k0_dev109 (d0 : Dev nD) : Nat :=
  let c0_i32_4498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4497 : BitVec 32 := 1#32
  let v3310 : BitVec 32 := Scalar.muli v24 c1_i32_4497
  let v3311 : BitVec 32 := Scalar.addi c0_i32_4498 v3310
  v3311.toNat
def k0_dev110 (d0 : Dev nD) : Nat :=
  let c0_i32_4526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4525 : BitVec 32 := 1#32
  let v3328 : BitVec 32 := Scalar.muli v13 c1_i32_4525
  let v3329 : BitVec 32 := Scalar.addi c0_i32_4526 v3328
  v3329.toNat
def k0_dev111 (d0 : Dev nD) : Nat :=
  let c0_i32_4639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4638 : BitVec 32 := 1#32
  let v3420 : BitVec 32 := Scalar.muli v13 c1_i32_4638
  let v3421 : BitVec 32 := Scalar.addi c0_i32_4639 v3420
  v3421.toNat
def k0_dev112 (d0 : Dev nD) : Nat :=
  let c0_i32_4642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4641 : BitVec 32 := 1#32
  let v3422 : BitVec 32 := Scalar.muli v24 c1_i32_4641
  let v3423 : BitVec 32 := Scalar.addi c0_i32_4642 v3422
  v3423.toNat
def k0_dev113 (d0 : Dev nD) : Nat :=
  let c0_i32_4668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4667 : BitVec 32 := 1#32
  let v3432 : BitVec 32 := Scalar.muli v24 c1_i32_4667
  let v3433 : BitVec 32 := Scalar.addi c0_i32_4668 v3432
  v3433.toNat
def k0_dev114 (d0 : Dev nD) : Nat :=
  let c0_i32_4698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4697 : BitVec 32 := 1#32
  let v3450 : BitVec 32 := Scalar.muli v13 c1_i32_4697
  let v3451 : BitVec 32 := Scalar.addi c0_i32_4698 v3450
  v3451.toNat
def k0_dev115 (d0 : Dev nD) : Nat :=
  let c0_i32_4726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4725 : BitVec 32 := 1#32
  let v3468 : BitVec 32 := Scalar.muli v24 c1_i32_4725
  let v3469 : BitVec 32 := Scalar.addi c0_i32_4726 v3468
  v3469.toNat
def k0_dev116 (d0 : Dev nD) : Nat :=
  let c0_i32_4754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4753 : BitVec 32 := 1#32
  let v3486 : BitVec 32 := Scalar.muli v13 c1_i32_4753
  let v3487 : BitVec 32 := Scalar.addi c0_i32_4754 v3486
  v3487.toNat
def k0_dev117 (d0 : Dev nD) : Nat :=
  let c0_i32_4867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4866 : BitVec 32 := 1#32
  let v3578 : BitVec 32 := Scalar.muli v13 c1_i32_4866
  let v3579 : BitVec 32 := Scalar.addi c0_i32_4867 v3578
  v3579.toNat
def k0_dev118 (d0 : Dev nD) : Nat :=
  let c0_i32_4870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4869 : BitVec 32 := 1#32
  let v3580 : BitVec 32 := Scalar.muli v24 c1_i32_4869
  let v3581 : BitVec 32 := Scalar.addi c0_i32_4870 v3580
  v3581.toNat
def k0_dev119 (d0 : Dev nD) : Nat :=
  let c0_i32_4896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4895 : BitVec 32 := 1#32
  let v3590 : BitVec 32 := Scalar.muli v24 c1_i32_4895
  let v3591 : BitVec 32 := Scalar.addi c0_i32_4896 v3590
  v3591.toNat
def k0_dev120 (d0 : Dev nD) : Nat :=
  let c0_i32_4926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4925 : BitVec 32 := 1#32
  let v3608 : BitVec 32 := Scalar.muli v13 c1_i32_4925
  let v3609 : BitVec 32 := Scalar.addi c0_i32_4926 v3608
  v3609.toNat
def k0_dev121 (d0 : Dev nD) : Nat :=
  let c0_i32_4954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4953 : BitVec 32 := 1#32
  let v3626 : BitVec 32 := Scalar.muli v24 c1_i32_4953
  let v3627 : BitVec 32 := Scalar.addi c0_i32_4954 v3626
  v3627.toNat
def k0_dev122 (d0 : Dev nD) : Nat :=
  let c0_i32_4982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4981 : BitVec 32 := 1#32
  let v3644 : BitVec 32 := Scalar.muli v13 c1_i32_4981
  let v3645 : BitVec 32 := Scalar.addi c0_i32_4982 v3644
  v3645.toNat
def k0_dev123 (d0 : Dev nD) : Nat :=
  let c0_i32_5095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5094 : BitVec 32 := 1#32
  let v3736 : BitVec 32 := Scalar.muli v13 c1_i32_5094
  let v3737 : BitVec 32 := Scalar.addi c0_i32_5095 v3736
  v3737.toNat
def k0_dev124 (d0 : Dev nD) : Nat :=
  let c0_i32_5098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5097 : BitVec 32 := 1#32
  let v3738 : BitVec 32 := Scalar.muli v24 c1_i32_5097
  let v3739 : BitVec 32 := Scalar.addi c0_i32_5098 v3738
  v3739.toNat
def k0_dev125 (d0 : Dev nD) : Nat :=
  let c0_i32_5124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5123 : BitVec 32 := 1#32
  let v3748 : BitVec 32 := Scalar.muli v24 c1_i32_5123
  let v3749 : BitVec 32 := Scalar.addi c0_i32_5124 v3748
  v3749.toNat
def k0_dev126 (d0 : Dev nD) : Nat :=
  let c0_i32_5154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5153 : BitVec 32 := 1#32
  let v3766 : BitVec 32 := Scalar.muli v13 c1_i32_5153
  let v3767 : BitVec 32 := Scalar.addi c0_i32_5154 v3766
  v3767.toNat
def k0_dev127 (d0 : Dev nD) : Nat :=
  let c0_i32_5182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5181 : BitVec 32 := 1#32
  let v3784 : BitVec 32 := Scalar.muli v24 c1_i32_5181
  let v3785 : BitVec 32 := Scalar.addi c0_i32_5182 v3784
  v3785.toNat
def k0_dev128 (d0 : Dev nD) : Nat :=
  let c0_i32_5210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5209 : BitVec 32 := 1#32
  let v3802 : BitVec 32 := Scalar.muli v13 c1_i32_5209
  let v3803 : BitVec 32 := Scalar.addi c0_i32_5210 v3802
  v3803.toNat
def k0_dev129 (d0 : Dev nD) : Nat :=
  let c0_i32_5323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5322 : BitVec 32 := 1#32
  let v3894 : BitVec 32 := Scalar.muli v13 c1_i32_5322
  let v3895 : BitVec 32 := Scalar.addi c0_i32_5323 v3894
  v3895.toNat
def k0_dev130 (d0 : Dev nD) : Nat :=
  let c0_i32_5326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5325 : BitVec 32 := 1#32
  let v3896 : BitVec 32 := Scalar.muli v24 c1_i32_5325
  let v3897 : BitVec 32 := Scalar.addi c0_i32_5326 v3896
  v3897.toNat
def k0_dev131 (d0 : Dev nD) : Nat :=
  let c0_i32_5352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5351 : BitVec 32 := 1#32
  let v3906 : BitVec 32 := Scalar.muli v24 c1_i32_5351
  let v3907 : BitVec 32 := Scalar.addi c0_i32_5352 v3906
  v3907.toNat
def k0_dev132 (d0 : Dev nD) : Nat :=
  let c0_i32_5382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5381 : BitVec 32 := 1#32
  let v3924 : BitVec 32 := Scalar.muli v13 c1_i32_5381
  let v3925 : BitVec 32 := Scalar.addi c0_i32_5382 v3924
  v3925.toNat
def k0_dev133 (d0 : Dev nD) : Nat :=
  let c0_i32_5410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5409 : BitVec 32 := 1#32
  let v3942 : BitVec 32 := Scalar.muli v24 c1_i32_5409
  let v3943 : BitVec 32 := Scalar.addi c0_i32_5410 v3942
  v3943.toNat
def k0_dev134 (d0 : Dev nD) : Nat :=
  let c0_i32_5438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5437 : BitVec 32 := 1#32
  let v3960 : BitVec 32 := Scalar.muli v13 c1_i32_5437
  let v3961 : BitVec 32 := Scalar.addi c0_i32_5438 v3960
  v3961.toNat
def k0_dev135 (d0 : Dev nD) : Nat :=
  let c0_i32_5551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5550 : BitVec 32 := 1#32
  let v4052 : BitVec 32 := Scalar.muli v13 c1_i32_5550
  let v4053 : BitVec 32 := Scalar.addi c0_i32_5551 v4052
  v4053.toNat
def k0_dev136 (d0 : Dev nD) : Nat :=
  let c0_i32_5554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5553 : BitVec 32 := 1#32
  let v4054 : BitVec 32 := Scalar.muli v24 c1_i32_5553
  let v4055 : BitVec 32 := Scalar.addi c0_i32_5554 v4054
  v4055.toNat
def k0_dev137 (d0 : Dev nD) : Nat :=
  let c0_i32_5580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5579 : BitVec 32 := 1#32
  let v4064 : BitVec 32 := Scalar.muli v24 c1_i32_5579
  let v4065 : BitVec 32 := Scalar.addi c0_i32_5580 v4064
  v4065.toNat
def k0_dev138 (d0 : Dev nD) : Nat :=
  let c0_i32_5610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5609 : BitVec 32 := 1#32
  let v4082 : BitVec 32 := Scalar.muli v13 c1_i32_5609
  let v4083 : BitVec 32 := Scalar.addi c0_i32_5610 v4082
  v4083.toNat
def k0_dev139 (d0 : Dev nD) : Nat :=
  let c0_i32_5638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5637 : BitVec 32 := 1#32
  let v4100 : BitVec 32 := Scalar.muli v24 c1_i32_5637
  let v4101 : BitVec 32 := Scalar.addi c0_i32_5638 v4100
  v4101.toNat
def k0_dev140 (d0 : Dev nD) : Nat :=
  let c0_i32_5666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5665 : BitVec 32 := 1#32
  let v4118 : BitVec 32 := Scalar.muli v13 c1_i32_5665
  let v4119 : BitVec 32 := Scalar.addi c0_i32_5666 v4118
  v4119.toNat
def k0_dev141 (d0 : Dev nD) : Nat :=
  let c0_i32_5766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5765 : BitVec 32 := 1#32
  let v4193 : BitVec 32 := Scalar.muli v13 c1_i32_5765
  let v4194 : BitVec 32 := Scalar.addi c0_i32_5766 v4193
  v4194.toNat
def k0_dev142 (d0 : Dev nD) : Nat :=
  let c0_i32_5769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5768 : BitVec 32 := 1#32
  let v4195 : BitVec 32 := Scalar.muli v24 c1_i32_5768
  let v4196 : BitVec 32 := Scalar.addi c0_i32_5769 v4195
  v4196.toNat
def k0_dev143 (d0 : Dev nD) : Nat :=
  let c0_i32_5795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5794 : BitVec 32 := 1#32
  let v4205 : BitVec 32 := Scalar.muli v24 c1_i32_5794
  let v4206 : BitVec 32 := Scalar.addi c0_i32_5795 v4205
  v4206.toNat
def k0_dev144 (d0 : Dev nD) : Nat :=
  let c0_i32_5825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5824 : BitVec 32 := 1#32
  let v4223 : BitVec 32 := Scalar.muli v13 c1_i32_5824
  let v4224 : BitVec 32 := Scalar.addi c0_i32_5825 v4223
  v4224.toNat
def k0_dev145 (d0 : Dev nD) : Nat :=
  let c0_i32_5853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5852 : BitVec 32 := 1#32
  let v4241 : BitVec 32 := Scalar.muli v24 c1_i32_5852
  let v4242 : BitVec 32 := Scalar.addi c0_i32_5853 v4241
  v4242.toNat
def k0_dev146 (d0 : Dev nD) : Nat :=
  let c0_i32_5881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5880 : BitVec 32 := 1#32
  let v4259 : BitVec 32 := Scalar.muli v13 c1_i32_5880
  let v4260 : BitVec 32 := Scalar.addi c0_i32_5881 v4259
  v4260.toNat
def k0_dev147 (d0 : Dev nD) : Nat :=
  let c0_i32_5998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5997 : BitVec 32 := 1#32
  let v4367 : BitVec 32 := Scalar.muli v13 c1_i32_5997
  let v4368 : BitVec 32 := Scalar.addi c0_i32_5998 v4367
  v4368.toNat
def k0_dev148 (d0 : Dev nD) : Nat :=
  let c0_i32_6001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6000 : BitVec 32 := 1#32
  let v4369 : BitVec 32 := Scalar.muli v24 c1_i32_6000
  let v4370 : BitVec 32 := Scalar.addi c0_i32_6001 v4369
  v4370.toNat
def k0_dev149 (d0 : Dev nD) : Nat :=
  let c0_i32_6027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6026 : BitVec 32 := 1#32
  let v4379 : BitVec 32 := Scalar.muli v24 c1_i32_6026
  let v4380 : BitVec 32 := Scalar.addi c0_i32_6027 v4379
  v4380.toNat
def k0_dev150 (d0 : Dev nD) : Nat :=
  let c0_i32_6057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6056 : BitVec 32 := 1#32
  let v4397 : BitVec 32 := Scalar.muli v13 c1_i32_6056
  let v4398 : BitVec 32 := Scalar.addi c0_i32_6057 v4397
  v4398.toNat
def k0_dev151 (d0 : Dev nD) : Nat :=
  let c0_i32_6085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6084 : BitVec 32 := 1#32
  let v4415 : BitVec 32 := Scalar.muli v24 c1_i32_6084
  let v4416 : BitVec 32 := Scalar.addi c0_i32_6085 v4415
  v4416.toNat
def k0_dev152 (d0 : Dev nD) : Nat :=
  let c0_i32_6113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6112 : BitVec 32 := 1#32
  let v4433 : BitVec 32 := Scalar.muli v13 c1_i32_6112
  let v4434 : BitVec 32 := Scalar.addi c0_i32_6113 v4433
  v4434.toNat
def k0_dev153 (d0 : Dev nD) : Nat :=
  let c0_i32_6230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6229 : BitVec 32 := 1#32
  let v4541 : BitVec 32 := Scalar.muli v13 c1_i32_6229
  let v4542 : BitVec 32 := Scalar.addi c0_i32_6230 v4541
  v4542.toNat
def k0_dev154 (d0 : Dev nD) : Nat :=
  let c0_i32_6233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6232 : BitVec 32 := 1#32
  let v4543 : BitVec 32 := Scalar.muli v24 c1_i32_6232
  let v4544 : BitVec 32 := Scalar.addi c0_i32_6233 v4543
  v4544.toNat
def k0_dev155 (d0 : Dev nD) : Nat :=
  let c0_i32_6259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6258 : BitVec 32 := 1#32
  let v4553 : BitVec 32 := Scalar.muli v24 c1_i32_6258
  let v4554 : BitVec 32 := Scalar.addi c0_i32_6259 v4553
  v4554.toNat
def k0_dev156 (d0 : Dev nD) : Nat :=
  let c0_i32_6289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6288 : BitVec 32 := 1#32
  let v4571 : BitVec 32 := Scalar.muli v13 c1_i32_6288
  let v4572 : BitVec 32 := Scalar.addi c0_i32_6289 v4571
  v4572.toNat
def k0_dev157 (d0 : Dev nD) : Nat :=
  let c0_i32_6317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6316 : BitVec 32 := 1#32
  let v4589 : BitVec 32 := Scalar.muli v24 c1_i32_6316
  let v4590 : BitVec 32 := Scalar.addi c0_i32_6317 v4589
  v4590.toNat
def k0_dev158 (d0 : Dev nD) : Nat :=
  let c0_i32_6345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6344 : BitVec 32 := 1#32
  let v4607 : BitVec 32 := Scalar.muli v13 c1_i32_6344
  let v4608 : BitVec 32 := Scalar.addi c0_i32_6345 v4607
  v4608.toNat
def k0_dev159 (d0 : Dev nD) : Nat :=
  let c0_i32_6462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6461 : BitVec 32 := 1#32
  let v4715 : BitVec 32 := Scalar.muli v13 c1_i32_6461
  let v4716 : BitVec 32 := Scalar.addi c0_i32_6462 v4715
  v4716.toNat
def k0_dev160 (d0 : Dev nD) : Nat :=
  let c0_i32_6465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6464 : BitVec 32 := 1#32
  let v4717 : BitVec 32 := Scalar.muli v24 c1_i32_6464
  let v4718 : BitVec 32 := Scalar.addi c0_i32_6465 v4717
  v4718.toNat
def k0_dev161 (d0 : Dev nD) : Nat :=
  let c0_i32_6491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6490 : BitVec 32 := 1#32
  let v4727 : BitVec 32 := Scalar.muli v24 c1_i32_6490
  let v4728 : BitVec 32 := Scalar.addi c0_i32_6491 v4727
  v4728.toNat
def k0_dev162 (d0 : Dev nD) : Nat :=
  let c0_i32_6521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6520 : BitVec 32 := 1#32
  let v4745 : BitVec 32 := Scalar.muli v13 c1_i32_6520
  let v4746 : BitVec 32 := Scalar.addi c0_i32_6521 v4745
  v4746.toNat
def k0_dev163 (d0 : Dev nD) : Nat :=
  let c0_i32_6549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6548 : BitVec 32 := 1#32
  let v4763 : BitVec 32 := Scalar.muli v24 c1_i32_6548
  let v4764 : BitVec 32 := Scalar.addi c0_i32_6549 v4763
  v4764.toNat
def k0_dev164 (d0 : Dev nD) : Nat :=
  let c0_i32_6577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6576 : BitVec 32 := 1#32
  let v4781 : BitVec 32 := Scalar.muli v13 c1_i32_6576
  let v4782 : BitVec 32 := Scalar.addi c0_i32_6577 v4781
  v4782.toNat
def k0_dev165 (d0 : Dev nD) : Nat :=
  let c0_i32_6717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6716 : BitVec 32 := 1#32
  let v4897 : BitVec 32 := Scalar.muli v24 c1_i32_6716
  let v4898 : BitVec 32 := Scalar.addi c0_i32_6717 v4897
  v4898.toNat
def k0_dev166 (d0 : Dev nD) : Nat :=
  let c0_i32_6747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6746 : BitVec 32 := 1#32
  let v4915 : BitVec 32 := Scalar.muli v13 c1_i32_6746
  let v4916 : BitVec 32 := Scalar.addi c0_i32_6747 v4915
  v4916.toNat
def k0_dev167 (d0 : Dev nD) : Nat :=
  let c0_i32_6775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6774 : BitVec 32 := 1#32
  let v4933 : BitVec 32 := Scalar.muli v24 c1_i32_6774
  let v4934 : BitVec 32 := Scalar.addi c0_i32_6775 v4933
  v4934.toNat
def k0_dev168 (d0 : Dev nD) : Nat :=
  let c0_i32_6803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6802 : BitVec 32 := 1#32
  let v4951 : BitVec 32 := Scalar.muli v13 c1_i32_6802
  let v4952 : BitVec 32 := Scalar.addi c0_i32_6803 v4951
  v4952.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x2048, .f32⟩
  | .hbm, ⟨3, _⟩ => ⟨S8192x512, .f32⟩
  | .hbm, ⟨4, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Body.lean ====
/-
# The kernel's body as a program over hops

The printed body is a straight line of some nine hundred memory operations. This module writes the same line as
a program in a few pieces — a hop's send, a hop's receive, a step of the reduce-scatter, a step of the all-gather,
a store of an output block — each taking the direction, the hop number and the half `q` of a block as arguments
and the rest of the program as its continuation, and proves that the printed body is that program.

Names. `d : Bool` is a direction: `false` is the ring that sends to the device on the right, `true` the one that
sends to the left. `ph : Bool` is a phase: `false` the reduce-scatter, `true` the all-gather.
-/
module

public import proofs.«01_k».proof.Proof.Gen.KernelIdeal
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-- A program of one core that returns nothing. -/
abbrev PP (F : FTy → Type) [FloatOps F] : Type 1 := Prog (TpuEff nD τ sig (Elt F) Λ₀ .tc) PUnit

/-! ## Buffers, semaphores, devices -/

abbrev xM : Memref sig .tc .vmem S8192x512 .f32 := Memref.whole cc0_stg0_0
abbrev w1M : Memref sig .tc .vmem S512x512 .f32 := Memref.whole cc0_stg1_0
abbrev w2M : Memref sig .tc .vmem S512x128 .f32 := Memref.whole cc0_stg2_0
abbrev oM : Memref sig .tc .vmem S8192x128 .f32 := Memref.whole cc0_stg3_0

/-- The buffer of a phase and direction. -/
def bufR (ph d : Bool) : Ref sig .tc :=
  match ph, d with
  | false, false => cc0_scratch0
  | false, true => cc0_scratch1
  | true, false => cc0_scratch2
  | true, true => cc0_scratch3

/-- The same as a memref: four slots of two halves. -/
def bufM (ph d : Bool) : Memref sig .tc .vmem S4x2x256x256 .f32 :=
  match ph, d with
  | false, false => Memref.whole cc0_scratch0
  | false, true => Memref.whole cc0_scratch1
  | true, false => Memref.whole cc0_scratch2
  | true, true => Memref.whole cc0_scratch3

/-- The send semaphores of a phase and direction. -/
def sendA (ph d : Bool) : DmaSems sig S4x2 :=
  match ph, d with
  | false, false => cc0_scratch4
  | false, true => cc0_scratch6
  | true, false => cc0_scratch8
  | true, true => cc0_scratch10

/-- The receive semaphores of a phase and direction. -/
def recvA (ph d : Bool) : DmaSems sig S4x2 :=
  match ph, d with
  | false, false => cc0_scratch5
  | false, true => cc0_scratch7
  | true, false => cc0_scratch9
  | true, true => cc0_scratch11

/-- The credit semaphore of a phase and direction. -/
def credS (ph d : Bool) : Sem sig :=
  match ph, d with
  | false, false => cc0_scratch12.sem
  | false, true => cc0_scratch13.sem
  | true, false => cc0_scratch14.sem
  | true, true => cc0_scratch15.sem

/-- The entry barrier's semaphore. -/
def barS : Sem sig := (SemArray.scalar (sig.barrier 0 rfl) : Sems sig S_).sem

/-- The slot a hop lands in. -/
def sl (h : ℕ) : Fin 4 := ⟨h % 4, Nat.mod_lt _ (by decide)⟩

/-- Half a slot lies within its buffer. -/
theorem slot_inb : ∀ (k : Fin 4) (q : Fin 2), ∀ a, (![k.val, q.val, 0, 0] : Fin 4 → Nat) a + S1x1x256x256.size a ≤ S4x2x256x256.size a := by decide
/-- A half slot's semaphore lies within its array. -/
theorem sem_inb : ∀ (k : Fin 4) (q : Fin 2), ∀ a, (![k.val, q.val] : Fin 2 → Nat) a + S1x1.size a ≤ S4x2.size a := by decide

/-- The rectangle of half `q` of slot `k`. -/
abbrev slotR (k : Fin 4) (q : Fin 2) : Rect S4x2x256x256 := Rect.unit (s := S4x2x256x256) ![k.val, q.val, 0, 0] S1x1x256x256.size (slot_inb k q)

/-- Half `q` of slot `k` of a buffer, as the transfers name it. -/
abbrev slotM (b : Memref sig .tc .vmem S4x2x256x256 .f32) (k : Fin 4) (q : Fin 2) : Memref sig .tc .vmem S256x256 .f32 :=
  (b.slice (slotR k q) (fun _ => rfl)).squeeze S256x256 squeezes_S1x1x256x256_S256x256

/-- The semaphore of half `q` of slot `k`. -/
abbrev semAt (a : DmaSems sig S4x2) (k : Fin 4) (q : Fin 2) : DmaSem sig :=
  ((a.slice (Rect.unit (s := S4x2) ![k.val, q.val] S1x1.size (sem_inb k q))).squeeze S_ squeezes_S1x1_S_).sem

/-- The device a direction sends to. -/
def toDev (d : Bool) (c : Dev nD) : Dev nD :=
  match d with
  | false => ⟨k0_dev3 c, k0_dev3_lt c⟩
  | true => ⟨k0_dev4 c, k0_dev4_lt c⟩

/-- The device a direction receives from. -/
abbrev fromDev (d : Bool) (c : Dev nD) : Dev nD := toDev (!d) c

/-- The phase of the buffer a hop's source slot lies in: the first hop of the all-gather reads the
    reduce-scatter's buffer. -/
def srcPh (ph : Bool) (h : ℕ) : Bool := match ph, h with
  | true, 0 => false
  | ph, _ => ph

/-- The slot a hop is sent from. -/
def srcSlot (ph : Bool) (h : ℕ) : Fin 4 := match ph, h with
  | true, 0 => 2
  | _, h => sl (h + 3)

abbrev srcM (ph d : Bool) (h : ℕ) (q : Fin 2) : Memref sig .tc .vmem S256x256 .f32 := slotM (bufM (srcPh ph h) d) (srcSlot ph h) q
abbrev dstM (ph d : Bool) (h : ℕ) (q : Fin 2) : Memref sig .tc .vmem S256x256 .f32 := slotM (bufM ph d) (sl h) q

/-! ## The pieces -/

/-- Hop `h`'s transfer of half `q`. -/
def sendK (c : Dev nD) (ph d : Bool) (h : ℕ) (q : Fin 2) (k : PP F) : PP F :=
  .op (.enqueueDma (srcM ph d h q) (.remote (Dev.tc (toDev d c)) (dstM ph d h q) (.dma (semAt (sendA ph d) (sl h) q))) (.dma (semAt (recvA ph d) (sl h) q))
    ((View.wordExact_bits rfl).reshape _ _) ((View.wordExact_bits rfl).reshape _ _) ⟨⟨rfl, Or.inl rfl⟩, trivial⟩) fun _ => k

/-- The wait for hop `h`'s half `q` to have landed here. -/
def waitRecvK (ph d : Bool) (h : ℕ) (q : Fin 2) (k : PP F) : PP F :=
  .op (.waitDma2 (semAt (recvA ph d) (sl h) q) (srcM ph d h q) (dstM ph d h q)
    ((View.wordExact_bits rfl).reshape _ _) ((View.wordExact_bits rfl).reshape _ _)) fun _ => k

/-- The wait for the source of hop `h`'s half `q` to be free again. -/
def waitSendK (ph d : Bool) (h : ℕ) (q : Fin 2) (k : PP F) : PP F :=
  .op (.waitDma2 (semAt (sendA ph d) (sl h) q) (dstM ph d h q) (srcM ph d h q)
    ((View.wordExact_bits rfl).reshape _ _) ((View.wordExact_bits rfl).reshape _ _)) fun _ => k

/-- A wait for one credit of a phase and direction. -/
def waitCreditK (ph d : Bool) (k : PP F) : PP F := .op (.semWait (credS ph d) (1#32 : BitVec 32).toInt) fun _ => k

/-- A credit given to the device that sends here. -/
def signalCreditK (c : Dev nD) (ph d : Bool) (k : PP F) : PP F :=
  .op (.semSignal (fromDev d c, .tc) (credS ph d) (1#32 : BitVec 32).toInt) fun _ => k

/-- A direction's half of the columns of `W1` lies within it. -/
theorem w1_inb : ∀ d : Bool, ∀ a, (![0, if d then 256 else 0] : Fin 2 → Nat) a + S512x256.size a ≤ S512x512.size a := by decide
/-- A direction's half of the rows of `W2` lies within it. -/
theorem w2_inb : ∀ d : Bool, ∀ a, (![if d then 256 else 0, 0] : Fin 2 → Nat) a + S256x128.size a ≤ S512x128.size a := by decide

abbrev w1R (d : Bool) : Rect S512x512 := Rect.unit (s := S512x512) ![0, if d then 256 else 0] S512x256.size (w1_inb d)
abbrev w2R (d : Bool) : Rect S512x128 := Rect.unit (s := S512x128) ![if d then 256 else 0, 0] S256x128.size (w2_inb d)

/-- A row window of `x` times half the columns of `W1`. -/
def mm1 (w : Vec F S512x256 .f32) (x : Vec F S256x512 .f32) : FVec F S256x256 .f32 :=
  matmul dot_S256x512_S512x256_S256x256_1_0_0_1_n_n none (shapeCast S256x512 x shapeCasts_S256x512_S256x512)
    (shapeCast S512x256 w shapeCasts_S512x256_S512x256) (constant S256x256 .f32 0x00000000#32)

/-- A slot's half times half the rows of `W2`. -/
def mm2 (a : Vec F S1x1x256x256 .f32) (w : Vec F S256x128 .f32) : FVec F S256x128 .f32 :=
  matmul dot_S256x256_S256x128_S256x128_1_0_0_1_n_n none (shapeCast S256x256 a shapeCasts_S1x1x256x256_S256x256)
    (shapeCast S256x128 w shapeCasts_S256x128_S256x128) (constant S256x128 .f32 0x00000000#32)

/-- A slot's half, added to. -/
def addSlot (v : Vec F S1x1x256x256 .f32) (p : FVec F S256x256 .f32) : FVec F S256x256 .f32 :=
  addf (shapeCast S256x256 v shapeCasts_S1x1x256x256_S256x256) p

/-- The product of the row window of `x` at `off` with direction `d`'s half of `W1`. -/
def psubK (d : Bool) (off : Fin 2 → Nat) (hoff : ∀ a, off a + S256x512.size a ≤ S8192x512.size a) (k : FVec F S256x256 .f32 → PP F) : PP F :=
  .op (.load w1M (w1R d).toLoadRect (View.loadsAt_vmem h_S512x256)) fun w =>
  .op (.load xM (Rect.unit (s := S8192x512) off S256x512.size hoff).toLoadRect (View.loadsAt_vmem h_S256x512)) fun x => k (mm1 w x)

/-- A slot's half written. -/
def storeSlotK (d : Bool) (k : Fin 4) (q : Fin 2) (p : FVec F S256x256 .f32) (kt : PP F) : PP F :=
  .op (.load (bufM false d) (slotR k q).toLoadRect (View.loadsAt_vmem h_S1x1x256x256)) fun _ =>
  .op (.store (bufM false d) (slotR k q) (shapeCast S1x1x256x256 p shapeCasts_S256x256_S1x1x256x256 : FVec F S1x1x256x256 .f32) Finset.univ
    (View.stores_vmem_bits_univ h_S1x1x256x256 rfl) (.inl rfl)) fun _ => kt

/-- A slot's half read. -/
def loadSlotK (ph d : Bool) (k : Fin 4) (q : Fin 2) (kt : Vec F S1x1x256x256 .f32 → PP F) : PP F :=
  .op (.load (bufM ph d) (slotR k q).toLoadRect (View.loadsAt_vmem h_S1x1x256x256)) kt

/-- The window of `x` read first, for the partial product sent at hop 0. -/
def xoff0 (d : Bool) (c : Dev nD) (q : Fin 2) : Fin 2 → Nat :=
  match d with
  | false => k0_off1 c (BitVec.ofNat 32 (256 * q.val))
  | true => k0_off2 c (BitVec.ofNat 32 (256 * q.val))

/-- The window of `x` read in step `s` of the reduce-scatter. -/
def xoff (d : Bool) (c : Dev nD) (s : ℕ) (q : Fin 2) : Fin 2 → Nat :=
  match d with
  | false => k0_off3 c (BitVec.ofNat 32 (s % 15)) (BitVec.ofNat 32 (256 * q.val))
  | true => k0_off4 c (BitVec.ofNat 32 (s % 15)) (BitVec.ofNat 32 (256 * q.val))

/-- The window of the output the all-gather's step `t + 1` stores direction `d`'s block in. -/
def ooff (d : Bool) (c : Dev nD) (t : ℕ) (q : Fin 2) : Fin 2 → Nat :=
  match d with
  | false => k0_off6 c (BitVec.ofNat 32 (1 + t % 15)) (BitVec.ofNat 32 (256 * q.val))
  | true => k0_off7 c (BitVec.ofNat 32 (1 + t % 15)) (BitVec.ofNat 32 (256 * q.val))

/-- The first window of `x` lies within it. -/
theorem xoff0_inb (d : Bool) (c : Dev nD) (q : Fin 2) : ∀ a, xoff0 d c q a + S256x512.size a ≤ S8192x512.size a := by
  cases d
  · exact k0_off1_inb c q
  · exact k0_off2_inb c q

/-- A step's window of `x` lies within it. -/
theorem xoff_inb (d : Bool) (c : Dev nD) (s : ℕ) (q : Fin 2) : ∀ a, xoff d c s q a + S256x512.size a ≤ S8192x512.size a := by
  cases d
  · exact k0_off3_inb c ⟨s % 15, Nat.mod_lt _ (by decide)⟩ q
  · exact k0_off4_inb c ⟨s % 15, Nat.mod_lt _ (by decide)⟩ q

/-- The left-going direction's output windows lie within the output. -/
theorem off7_inb : ∀ d0 : Dev nD, ∀ (r₁ : Fin 15) (r₂ : Fin 2), ∀ a, (k0_off7 d0 (BitVec.ofNat 32 (1 + r₁.val)) (BitVec.ofNat 32 (256 * r₂.val))) a + S256x128.size a ≤ S8192x128.size a := by
  decide +kernel

/-- A step's output window lies within the output. -/
theorem ooff_inb (d : Bool) (c : Dev nD) (t : ℕ) (q : Fin 2) : ∀ a, ooff d c t q a + S256x128.size a ≤ S8192x128.size a := by
  cases d
  · exact k0_off6_inb c ⟨t % 15, Nat.mod_lt _ (by decide)⟩ q
  · exact off7_inb c ⟨t % 15, Nat.mod_lt _ (by decide)⟩ q

/-- A window of the output written. -/
def storeOutK (off : Fin 2 → Nat) (hoff : ∀ a, off a + S256x128.size a ≤ S8192x128.size a) (v : FVec F S256x128 .f32) (k : PP F) : PP F :=
  .op (.load oM (Rect.unit (s := S8192x128) off S256x128.size hoff).toLoadRect (View.loadsAt_vmem h_S256x128)) fun _ =>
  .op (.store oM (Rect.unit (s := S8192x128) off S256x128.size hoff) v Finset.univ (View.stores_vmem_bits_univ h_S256x128 rfl) (.inl rfl)) fun _ => k

/-- A window of the output added to. -/
def addOutK (off : Fin 2 → Nat) (hoff : ∀ a, off a + S256x128.size a ≤ S8192x128.size a) (v : FVec F S256x128 .f32) (k : PP F) : PP F :=
  .op (.load oM (Rect.unit (s := S8192x128) off S256x128.size hoff).toLoadRect (View.loadsAt_vmem h_S256x128)) fun o =>
  storeOutK off hoff (addf (shapeCast S256x128 o shapeCasts_S256x128_S256x128) v) k

/-! ## The program -/

/-- The first partial products, of half `q`. -/
def introK (c : Dev nD) (q : Fin 2) (k : PP F) : PP F :=
  psubK false (xoff0 false c q) (xoff0_inb false c q) fun p => storeSlotK false 3 q p <|
  psubK true (xoff0 true c q) (xoff0_inb true c q) fun p => storeSlotK true 3 q p k

/-- The entry barrier: both neighbours signalled, both heard. -/
def barrierK (c : Dev nD) (k : PP F) : PP F :=
  .op (.semSignal (toDev true c, .tc) barS (1#32 : BitVec 32).toInt) fun _ =>
  .op (.semSignal (toDev false c, .tc) barS (1#32 : BitVec 32).toInt) fun _ =>
  .op (.semWait barS (2#32 : BitVec 32).toInt) fun _ => k

/-- Hop `h`'s send, where there is one, after a credit where one is asked for (from hop `lim` on, once for both
    halves). -/
def nextK (c : Dev nD) (ph d : Bool) (lim h : ℕ) (q : Fin 2) (k : PP F) : PP F :=
  if h < 15 then
    if lim ≤ h ∧ q = 0 then waitCreditK ph d (sendK c ph d h q k) else sendK c ph d h q k
  else k

/-- The reduce-scatter's step `s` in direction `d`: the hop received, the partial product `p` added, the sum sent on. -/
def rsDirK (c : Dev nD) (d : Bool) (s : ℕ) (q : Fin 2) (p : FVec F S256x256 .f32) (k : PP F) : PP F :=
  waitRecvK false d s q <| loadSlotK false d (sl s) q fun v => storeSlotK d (sl s) q (addSlot v p) <|
  nextK c false d 3 (s + 1) q k

/-- The reduce-scatter's step `s`, half `q`. -/
def rsHalfK (c : Dev nD) (s : ℕ) (q : Fin 2) (k : PP F) : PP F :=
  psubK false (xoff false c s q) (xoff_inb false c s q) fun pA =>
  psubK true (xoff true c s q) (xoff_inb true c s q) fun pB =>
  rsDirK c false s q pA <| rsDirK c true s q pB k

/-- The four sources of hop `h` free again. -/
def waitSendsK (ph : Bool) (h : ℕ) (k : PP F) : PP F :=
  waitSendK ph false h 0 <| waitSendK ph true h 0 <| waitSendK ph false h 1 <| waitSendK ph true h 1 k

/-- The credits of hop `h`, where there are any. -/
def creditsK (c : Dev nD) (ph : Bool) (b : Bool) (k : PP F) : PP F :=
  if b then signalCreditK c ph false <| signalCreditK c ph true k else k

def rsStepK (c : Dev nD) (s : ℕ) (k : PP F) : PP F :=
  rsHalfK c s 0 <| rsHalfK c s 1 <| waitSendsK false s <| creditsK c false (decide (s ≤ 11)) k

/-- The reduce-scatter from step `s` on, `n` steps. -/
def rsK (c : Dev nD) : ℕ → ℕ → PP F → PP F
  | 0, _, k => k
  | n + 1, s, k => rsStepK c s (rsK c n (s + 1) k)

/-- The all-gather's hop `t` in direction `d` received and sent on. -/
def agDirK (c : Dev nD) (d : Bool) (t : ℕ) (q : Fin 2) (k : PP F) : PP F :=
  waitRecvK true d t q <| nextK c true d 4 (t + 1) q k

/-- The device's own block of the output, half `q`. -/
def ownK (c : Dev nD) (q : Fin 2) (k : PP F) : PP F :=
  loadSlotK false false 2 q fun a => .op (.load w2M (w2R false).toLoadRect (View.loadsAt_vmem h_S256x128)) fun w =>
  loadSlotK false true 2 q fun b => .op (.load w2M (w2R true).toLoadRect (View.loadsAt_vmem h_S256x128)) fun w' =>
  storeOutK (k0_off5 c (BitVec.ofNat 32 (256 * q.val))) (k0_off5_inb c q) (addf (mm2 a w) (mm2 b w')) k

/-- The blocks the hop before step `t + 1` brought, half `q`, into the output: stored while each block has one direction's part
    only, summed when both come at once, added from then on. -/
def otherK (c : Dev nD) (t : ℕ) (q : Fin 2) (k : PP F) : PP F :=
  loadSlotK true false (sl t) q fun a => .op (.load w2M (w2R false).toLoadRect (View.loadsAt_vmem h_S256x128)) fun w =>
  loadSlotK true true (sl t) q fun b => .op (.load w2M (w2R true).toLoadRect (View.loadsAt_vmem h_S256x128)) fun w' =>
  if t < 7 then
    storeOutK (ooff false c t q) (ooff_inb false c t q) (mm2 a w) <| storeOutK (ooff true c t q) (ooff_inb true c t q) (mm2 b w') k
  else if t = 7 then
    storeOutK (ooff false c t q) (ooff_inb false c t q) (addf (mm2 a w) (mm2 b w')) k
  else
    addOutK (ooff false c t q) (ooff_inb false c t q) (mm2 a w) <| addOutK (ooff true c t q) (ooff_inb true c t q) (mm2 b w') k

/-- The store that goes with the all-gather's step `t`. -/
def gemmK (c : Dev nD) (t : ℕ) (k : PP F) : PP F :=
  match t with
  | 0 => ownK c 0 (ownK c 1 k)
  | t + 1 => otherK c t 0 (otherK c t 1 k)

def agStepK (c : Dev nD) (t : ℕ) (k : PP F) : PP F :=
  agDirK c false t 0 <| agDirK c true t 0 <| agDirK c false t 1 <| agDirK c true t 1 <|
  gemmK c t <| waitSendsK true t <| creditsK c true (decide (1 ≤ t ∧ t ≤ 11)) k

/-- The all-gather from step `t` on, `n` steps. -/
def agK (c : Dev nD) : ℕ → ℕ → PP F → PP F
  | 0, _, k => k
  | n + 1, t, k => agStepK c t (agK c n (t + 1) k)

def sendsK (c : Dev nD) (ph : Bool) (k : PP F) : PP F :=
  sendK c ph false 0 0 <| sendK c ph true 0 0 <| sendK c ph false 0 1 <| sendK c ph true 0 1 k

/-- The whole body on device `c`. -/
def mainK (c : Dev nD) : PP F :=
  introK c 0 <| introK c 1 <| barrierK c <| sendsK c false <| rsK c 15 0 <| sendsK c true <| agK c 15 0 <| gemmK c 15 <| .ret ⟨⟩

end Cert.Ring

end
-- ==== Proof.Sched.lean ====
/-
# The protocol: cells, contents, the schedule of payments, levels

Every semaphore the kernel uses is a cell with a schedule of rounds.

* A send or receive semaphore of half `q` of slot `k` serves the hops `k, k + 4, k + 8, …`: hop `h` is round `h / 4`.
  A receive cell's payment carries the landed half slot, a send cell's the half share of the source lent to the transfer.
* A credit semaphore has one round in which hop `h` (from the first hop that asks for a credit on) is a duty of one unit;
  its payment carries the news that the destinations of the hops up to `h` have been released. Slots released are
  kept in invariants of the release library until the sender takes them.
* The entry barrier's payment carries the slots of the neighbour the first hops land in.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Release
public import Mathlib.Data.Fintype.Sum
public import Mathlib.Data.Fintype.Prod

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A slot's half of a phase and direction on a device. -/
abbrev SK : Type := Dev nD × Bool × Bool × Fin 4 × Fin 2
abbrev UB : Type := URounds (GSem nD τ sig) ℕ
abbrev US : Type := USlots SK
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

instance : (ER (F := F)).LandsIn (upEmb : UEmb _ 𝕄) := by unfold ER; infer_instance
instance : (ES (F := F)).LandsIn (upEmb : UEmb _ 𝕄) := by unfold ES; infer_instance
instance (e : EltTy) : Nonempty (Elt F e) := inferInstance

/-! ## Cells -/

/-- A slot's semaphore: of the receives or of the sends, the phase, the direction, the slot, the half. -/
abbrev DK : Type := Bool × Bool × Bool × Fin 4 × Fin 2
/-- The kernel's own semaphores: the slots', and a credit semaphore per phase and direction. -/
abbrev OK : Type := DK ⊕ (Bool × Bool)
/-- With the entry barrier's. -/
abbrev CK : Type := OK ⊕ Unit

instance : DecidableEq OK := instDecidableEqSum
instance : DecidableEq CK := instDecidableEqSum

def osem : OK → SemLoc sig
  | .inl (true, ph, d, k, q) => .dma (semAt (recvA ph d) k q)
  | .inl (false, ph, d, k, q) => .dma (semAt (sendA ph d) k q)
  | .inr (ph, d) => .reg (credS ph d)

def csem : CK → SemLoc sig
  | .inl o => osem o
  | .inr _ => .reg barS

/-- Different places have different semaphores. -/
theorem csem_injective : Function.Injective csem := by
  have h : ∀ a b : CK, csem a = csem b → a = b := by decide +kernel
  exact fun a b => h a b

/-- A device's cell. -/
abbrev cell (c : Dev nD) (k : CK) : GSem nD τ sig := ((c : Thread nD τ), csem k)

/-- The key of a cell, if it is one of the ring's. -/
def keyOf (g : GSem nD τ sig) : Option CK := if g.1.2 = .tc then Function.partialInv csem g.2 else none

/-- The place of a cell is found back. -/
theorem keyOf_cell (c : Dev nD) (k : CK) : keyOf (cell c k) = some k := by
  unfold keyOf; rw [if_pos rfl]; exact Function.partialInv_left csem_injective k

/-- A semaphore with a place is the cell of that place. -/
theorem keyOf_eq {g : GSem nD τ sig} {k : CK} (h : keyOf g = some k) : g = cell g.1.1 k := by
  unfold keyOf at h
  split at h
  · next ht =>
    have := (Function.partialInv_of_injective csem_injective k g.2).mp h
    obtain ⟨⟨d, t⟩, s⟩ := g
    simp only at ht this
    subst ht; subst this; rfl
  · cases h

abbrev recvCell (c : Dev nD) (ph d : Bool) (h : ℕ) (q : Fin 2) : GSem nD τ sig := ((c : Thread nD τ), .dma (semAt (recvA ph d) (sl h) q))
abbrev sendCell (c : Dev nD) (ph d : Bool) (h : ℕ) (q : Fin 2) : GSem nD τ sig := ((c : Thread nD τ), .dma (semAt (sendA ph d) (sl h) q))
abbrev credCell (c : Dev nD) (ph d : Bool) : GSem nD τ sig := ((c : Thread nD τ), .reg (credS ph d))
abbrev barCell (c : Dev nD) : GSem nD τ sig := ((c : Thread nD τ), .reg barS)

abbrev recvKey (ph d : Bool) (h : ℕ) (q : Fin 2) : CK := .inl (.inl (true, ph, d, sl h, q))
abbrev sendKey (ph d : Bool) (h : ℕ) (q : Fin 2) : CK := .inl (.inl (false, ph, d, sl h, q))
abbrev credKey (ph d : Bool) : CK := .inl (.inr (ph, d))
abbrev barKey : CK := .inr ()

/-- The receive cell of a hop, by its place. -/
theorem cell_recv (c : Dev nD) (ph d : Bool) (h : ℕ) (q : Fin 2) : cell c (recvKey ph d h q) = recvCell c ph d h q := rfl
/-- The send cell of a hop, by its place. -/
theorem cell_send (c : Dev nD) (ph d : Bool) (h : ℕ) (q : Fin 2) : cell c (sendKey ph d h q) = sendCell c ph d h q := rfl
/-- The credit cell, by its place. -/
theorem cell_cred (c : Dev nD) (ph d : Bool) : cell c (credKey ph d) = credCell c ph d := rfl
/-- The barrier's cell, by its place. -/
theorem cell_bar (c : Dev nD) : cell c barKey = barCell c := rfl

/-- A half slot's credit. -/
def N : ℕ := (slotM (bufM false false) 0 0).view.dmaCredit

/-- Half a slot has some size. -/
theorem N_pos : 0 < N := View.dmaCredit_pos _ (by decide)
/-- Every half slot has the same size. -/
theorem credit_slot (ph d : Bool) (k : Fin 4) (q : Fin 2) : (slotM (bufM ph d) k q).view.dmaCredit = N := by
  cases ph <;> cases d <;> rfl

/-! ## The ring of devices -/

/-- There and back again is the same device. -/
theorem toDev_toDev (d : Bool) (c : Dev nD) : toDev d (toDev (!d) c) = c := by revert d c; decide +kernel
/-- Back and there again is the same device. -/
theorem toDev_toDev' (d : Bool) (c : Dev nD) : toDev (!d) (toDev d c) = c := by revert d c; decide +kernel

def ringE (d : Bool) : Dev nD ≃ Dev nD := ⟨toDev d, toDev (!d), toDev_toDev' d, toDev_toDev d⟩

/-! ## Contents -/

/-- What the devices hold of the three operands. -/
structure Ins (F : FTy → Type) [FloatOps F] where
  x : Dev nD → (cc0_stg0_0 : Ref sig .tc).ty.Contents (Elt F)
  w1 : Dev nD → (cc0_stg1_0 : Ref sig .tc).ty.Contents (Elt F)
  w2 : Dev nD → (cc0_stg2_0 : Ref sig .tc).ty.Contents (Elt F)

variable (I : Ins F)

/-- The product of device `c`'s row window of `x` at `off` with direction `d`'s half of `W1`. -/
def psub (d : Bool) (c : Dev nD) (off : Fin 2 → Nat) (hoff : ∀ a, off a + S256x512.size a ≤ S8192x512.size a) : FVec F S256x256 .f32 :=
  mm1 ((w1M : Memref sig .tc .vmem S512x512 .f32).view.readAt (Elt F) (w1R d).toLoadRect (I.w1 c))
    ((xM : Memref sig .tc .vmem S8192x512 .f32).view.readAt (Elt F) (Rect.unit (s := S8192x512) off S256x512.size hoff).toLoadRect (I.x c))

/-- What device `c` sends at hop `h` of the reduce-scatter (at `15`: what it ends with). -/
def rsV (d : Bool) (q : Fin 2) : ℕ → Dev nD → FVec F S256x256 .f32
  | 0, c => psub I d c (xoff0 d c q) (xoff0_inb d c q)
  | h + 1, c => addf (rsV d q h (fromDev d c)) (psub I d c (xoff d c h q) (xoff_inb d c h q))

/-- What device `c` sends at hop `t` of the all-gather. -/
def agV (d : Bool) (q : Fin 2) : ℕ → Dev nD → FVec F S256x256 .f32
  | 0, c => rsV I d q 15 c
  | t + 1, c => agV d q t (fromDev d c)

def val (ph d : Bool) (q : Fin 2) (h : ℕ) (c : Dev nD) : Vec F S256x256 .f32 := match ph with
  | false => rsV I d q h c
  | true => agV I d q h c

/-- Half a slot held at the share `π`, with contents `v`. -/
def slotPt (π : PosShare TreeShare) (c : Dev nD) (ph d : Bool) (k : Fin 4) (q : Fin 2) (v : Vec F S256x256 .f32) : sProp 𝕄 :=
  (slotM (bufM ph d) k q).view.loc (c : Thread nD τ) ↦[(slotM (bufM ph d) k q).view.set]{π} (slotM (bufM ph d) k q).view.rep v

/-- Half a slot held in full, contents not said. -/
def slotRaw (c : Dev nD) (ph d : Bool) (k : Fin 4) (q : Fin 2) : sProp 𝕄 :=
  slot ((slotM (bufM ph d) k q).view.loc (c : Thread nD τ)) (slotM (bufM ph d) k q).view.set

instance slotPt_storable (π : PosShare TreeShare) (c : Dev nD) (ph d : Bool) (k : Fin 4) (q : Fin 2) (v : Vec F S256x256 .f32) :
    BI.Storable (upEmb : UEmb _ 𝕄) (slotPt π c ph d k q v) := by unfold slotPt; infer_instance
instance slotRaw_storable (c : Dev nD) (ph d : Bool) (k : Fin 4) (q : Fin 2) :
    BI.Storable (upEmb : UEmb _ 𝕄) (slotRaw (F := F) c ph d k q) := by unfold slotRaw; infer_instance

omit [FloatOps F] in
/-- A half slot with known contents is a half slot. -/
theorem slotPt_raw [FloatOps F] (c : Dev nD) (ph d : Bool) (k : Fin 4) (q : Fin 2) (v : Vec F S256x256 .f32) :
    slotPt fullShare c ph d k q v ⊢ (slotRaw c ph d k q : sProp 𝕄) := by
  unfold slotPt slotRaw slot
  iintro H; iexists _; iexact H

/-- Half a slot has cells. -/
theorem slotM_nonempty (ph d : Bool) (k : Fin 4) (q : Fin 2) : (slotM (bufM ph d) k q).view.set.Nonempty :=
  ⟨_, Finset.mem_map_of_mem _ (Finset.mem_univ (fun a => ⟨0, by revert a; decide⟩))⟩

/-- Half a slot is held only once. -/
theorem slotRaw_excl (c : Dev nD) (ph d : Bool) (k : Fin 4) (q : Fin 2) :
    iprop(slotRaw c ph d k q ∗ slotRaw c ph d k q) ⊢ (False : sProp 𝕄) := slot_slot_false (slotM_nonempty ph d k q)

/-! ## Releases -/

/-- The first hop that asks for a credit. -/
def lim (ph : Bool) : ℕ := if ph then 4 else 3

/-- How often a slot's half has been released before hop `h` may fill it. -/
def relN (ph : Bool) (h : ℕ) : ℕ := if ph then h / 4 else (h + 1) / 4

/-- What the sender of hop `h` has to know of the receiver `e`: both halves released, both receive cells at the round. -/
def relFacts (e : Dev nD) (ph d : Bool) (h : ℕ) : sProp 𝕄 :=
  iprop((released ES (e, ph, d, sl h, (0 : Fin 2)) (relN ph h) ∗ reached ER (recvCell e ph d h 0) (h / 4))
    ∗ (released ES (e, ph, d, sl h, (1 : Fin 2)) (relN ph h) ∗ reached ER (recvCell e ph d h 1) (h / 4)))

instance (e : Dev nD) (ph d : Bool) (h : ℕ) : BI.Persistent (relFacts (F := F) e ph d h) := by unfold relFacts; infer_instance
instance (e : Dev nD) (ph d : Bool) (h : ℕ) : BI.Storable (upEmb : UEmb _ 𝕄) (relFacts (F := F) e ph d h) := by unfold relFacts; infer_instance

/-- The news of the hops below `h`. -/
def cum (e : Dev nD) (ph d : Bool) : ℕ → sProp 𝕄
  | 0 => iprop(emp)
  | h + 1 => if lim ph ≤ h ∧ h < 15 then iprop(cum e ph d h ∗ relFacts e ph d h) else cum e ph d h

instance cum_persistent (e : Dev nD) (ph d : Bool) (h : ℕ) : BI.Persistent (cum (F := F) e ph d h) := by
  induction h with
  | zero => unfold cum; infer_instance
  | succ h ih => unfold cum; split <;> infer_instance
instance cum_storable (e : Dev nD) (ph d : Bool) (h : ℕ) : BI.Storable (upEmb : UEmb _ 𝕄) (cum (F := F) e ph d h) := by
  induction h with
  | zero => unfold cum; infer_instance
  | succ h ih => unfold cum; split <;> infer_instance

/-- Among the news up to hop `n` is that of each earlier hop that waits for a credit. -/
theorem cum_elim (e : Dev nD) (ph d : Bool) {h : ℕ} (hl : lim ph ≤ h) (h15 : h < 15) : ∀ n, h < n → cum e ph d n ⊢ (relFacts e ph d h : sProp 𝕄)
  | 0, hn => absurd hn (Nat.not_lt_zero _)
  | n + 1, hn => by
    rcases Nat.lt_succ_iff_lt_or_eq.mp hn with hlt | rfl
    · unfold cum
      split
      · iintro ⟨H, -⟩; iapply (cum_elim e ph d hl h15 n hlt); iexact H
      · exact cum_elim e ph d hl h15 n hlt
    · unfold cum; rw [if_pos ⟨hl, h15⟩]; iintro ⟨-, H⟩; iexact H

/-- The news grows by that of a hop that waits for a credit. -/
theorem cum_succ (e : Dev nD) (ph d : Bool) {h : ℕ} (hl : lim ph ≤ h) (h15 : h < 15) :
    cum e ph d (h + 1) = (iprop(cum e ph d h ∗ relFacts e ph d h) : sProp 𝕄) := by
  conv_lhs => unfold cum
  exact if_pos ⟨hl, h15⟩

/-- A hop that waits for no credit adds nothing to the news. -/
theorem cum_skip (e : Dev nD) (ph d : Bool) {h : ℕ} (hl : ¬ (lim ph ≤ h ∧ h < 15)) :
    cum e ph d (h + 1) = (cum e ph d h : sProp 𝕄) := by
  conv_lhs => unfold cum
  exact if_neg hl

/-! ## The schedule -/

/-- Both halves of hop `h`'s slot, contents not said. -/
def rawPair (e : Dev nD) (ph d : Bool) (h : ℕ) : sProp 𝕄 := iprop(slotRaw e ph d (sl h) 0 ∗ slotRaw e ph d (sl h) 1)

instance (e : Dev nD) (ph d : Bool) (h : ℕ) : BI.Storable (upEmb : UEmb _ 𝕄) (rawPair (F := F) e ph d h) := by unfold rawPair; infer_instance

/-- The destinations of the hops from `n` on that need no credit, on the device `e` that direction `d` sends to. -/
def pre (e : Dev nD) (ph d : Bool) (n : ℕ) : sProp 𝕄 := bigSep (Finset.Ico n (lim ph)) fun h => rawPair e ph d h

instance (e : Dev nD) (ph d : Bool) (n : ℕ) : BI.Storable (upEmb : UEmb _ 𝕄) (pre (F := F) e ph d n) := by unfold pre; infer_instance

/-- What the neighbour's barrier signal hands over. -/
def barPay (c : Dev nD) (d : Bool) : sProp 𝕄 := iprop(pre (toDev d c) false d 0 ∗ pre (toDev d c) true d 0)

instance (c : Dev nD) (d : Bool) : BI.Storable (upEmb : UEmb _ 𝕄) (barPay (F := F) c d) := by unfold barPay; infer_instance

def dutiesOf : CK → ℕ → Finset ℕ
  | .inl (.inl (_, _, _, k, _)), r => if 4 * r + k.val < 15 then {0} else ∅
  | .inl (.inr (ph, _)), r => if r = 0 then Finset.Ico (lim ph) 15 else ∅
  | .inr _, r => if r = 0 then {0, 1} else ∅

def unitsOf : CK → ℕ
  | .inl (.inl _) => N
  | _ => 1

def payOf (c : Dev nD) : CK → ℕ → ℕ → sProp 𝕄
  | .inl (.inl (true, ph, d, k, q)), r, _ => slotPt fullShare c ph d k q (val I ph d q (4 * r + k.val) (fromDev d c))
  | .inl (.inl (false, ph, d, k, q)), r, _ =>
    slotPt fullShare.left c (srcPh ph (4 * r + k.val)) d (srcSlot ph (4 * r + k.val)) q (val I ph d q (4 * r + k.val) c)
  | .inl (.inr (ph, d)), _, h => cum (toDev d c) ph d (h + 1)
  | .inr _, _, δ => barPay c (decide (δ = 1))

instance payOf_storable (c : Dev nD) (k : CK) (r d : ℕ) : BI.Storable (upEmb : UEmb _ 𝕄) (payOf I c k r d) := by
  rcases k with ((⟨b, ph, d', k, q⟩ | ⟨ph, d'⟩) | u)
  · cases b <;> (unfold payOf; infer_instance)
  · unfold payOf; infer_instance
  · unfold payOf; infer_instance

def ringRd : Rounds.Schedule (GSem nD τ sig) ℕ 𝕄 where
  duties g r := match keyOf g with
    | some k => dutiesOf k r
    | none => ∅
  unitless _ := False
  amount g _ _ := match keyOf g with
    | some k => unitsOf k
    | none => 1
  payload g r d := match keyOf g with
    | some k => payOf I g.1.1 k r d
    | none => iprop(emp)
  amount_pos g _ _ _ := by
    split
    · next k _ => rcases k with ((_ | _) | _) <;> first | exact N_pos | exact Nat.one_pos
    · exact Nat.one_pos

/-- The payments a cell expects, by its place. -/
theorem duties_cell (c : Dev nD) (k : CK) (r : ℕ) : (ringRd I).duties (cell c k) r = dutiesOf k r := by
  dsimp only [ringRd]; rw [keyOf_cell]
/-- The size of a cell's payments, by its place. -/
theorem amount_cell (c : Dev nD) (k : CK) (r d : ℕ) : (ringRd I).amount (cell c k) r d = unitsOf k := by
  dsimp only [ringRd]; rw [keyOf_cell]
/-- What a cell's payments hand over, by its place. -/
theorem payload_cell (c : Dev nD) (k : CK) (r d : ℕ) : (ringRd I).payload (cell c k) r d = payOf I c k r d := by
  dsimp only [ringRd]; rw [keyOf_cell]

instance ringRd_payload_storable (g : GSem nD τ sig) (r d : ℕ) : BI.Storable (upEmb : UEmb _ 𝕄) ((ringRd I).payload g r d) := by
  dsimp only [ringRd]; split <;> infer_instance

/-- What a cell expects in all in a round, by its place. -/
theorem expect_cell (c : Dev nD) (k : CK) (r : ℕ) : (ringRd I).expect (cell c k) r = (dutiesOf k r).card * unitsOf k := by
  unfold Schedule.expect Schedule.amountOf
  rw [duties_cell, Finset.sum_congr rfl fun d _ => amount_cell I c k r d, Finset.sum_const, smul_eq_mul]

/-- A hop is its slot and the number of the slot's use. -/
theorem hop_div (h : ℕ) : 4 * (h / 4) + (sl h).val = h := by show 4 * (h / 4) + h % 4 = h; omega

/-! ## Levels -/

def L (g : GSem nD τ sig) : Finset ℕ := if g.1.2 = .tc then Finset.range 16 else ∅

/-- How late in the run a payment under a hop number comes. -/
def lvOf : CK → ℕ → ℕ
  | .inl (.inl (true, ph, _, _, _)), h => 2 * h + 8 + (if ph then 100 else 0)
  | .inl (.inl (false, _, _, _, _)), _ => 0
  | .inl (.inr (ph, _)), h => 2 * h + 3 + (if ph then 100 else 0)
  | .inr _, _ => 1

def lv (g : GSem nD τ sig) (h : ℕ) : ℕ := match keyOf g with
  | some k => lvOf k h
  | none => 0

/-- The level of a cell, by its place. -/
theorem lv_cell (c : Dev nD) (k : CK) (h : ℕ) : lv (cell c k) h = lvOf k h := by unfold lv; rw [keyOf_cell]
/-- Other processors have no levels. -/
theorem L_of_ne (g : GSem nD τ sig) (h : g.1.2 ≠ .tc) : L g = ∅ := if_neg h
/-- Every cell has sixteen levels, one for each index. -/
theorem L_tc (c : Dev nD) (sm : SemLoc sig) : L ((c : Thread nD τ), sm) = Finset.range 16 := if_pos rfl

/-- An index below sixteen has a level. -/
theorem mem_L' (c : Dev nD) (sm : SemLoc sig) {i : ℕ} (h : i < 16) : i ∈ L ((c : Thread nD τ), sm) := by
  rw [L_tc]; exact Finset.mem_range.mpr h

/-! ## What a device owes, in program order -/

abbrev Debt : Type := GSem nD τ sig × ℕ × ℕ

def sumD : List Debt → CellTallies nD τ sig ℕ
  | [] => 0
  | a :: l => sumD l + tallyAt a.1 a.2.1 a.2.2

/-- The debts of `l` lie above level `n`. -/
def Above (n : ℕ) (l : List Debt) : Prop := ∀ a ∈ l, a.2.1 ∈ L a.1 ∧ n < lv a.1 a.2.1

/-- What lies above more debts by more lies above fewer by less. -/
theorem Above.mono {n n' : ℕ} {l l' : List Debt} (h : Above n l) (hn : n' ≤ n) (hl : ∀ a ∈ l', a ∈ l) : Above n' l' :=
  fun a ha => ⟨(h a (hl a ha)).1, lt_of_le_of_lt hn (h a (hl a ha)).2⟩

/-- What lies above two lists of debts lies above both together. -/
theorem Above.append {n : ℕ} {l l' : List Debt} (h : Above n l) (h' : Above n l') : Above n (l ++ l') := fun a ha =>
  (List.mem_append.mp ha).elim (h a) (h' a)

/-- A debt that is there is one of the list. -/
theorem sumD_pos {l : List Debt} {g : GSem nD τ sig} {i : ℕ} (h : 0 < sumD l g i) : ∃ a ∈ l, g = a.1 ∧ i = a.2.1 := by
  induction l with
  | nil => exact absurd h (Nat.lt_irrefl 0)
  | cons a l ih =>
    unfold sumD at h
    rw [Pi.add_apply, Finsupp.add_apply, tallyAt_apply] at h
    by_cases h' : g = a.1 ∧ i = a.2.1
    · exact ⟨a, List.mem_cons_self, h'⟩
    · rw [if_neg h', Nat.add_zero] at h
      obtain ⟨b, hb, hb'⟩ := ih h
      exact ⟨b, List.mem_cons_of_mem _ hb, hb'⟩

/-- A wait is allowed below everything owed. -/
theorem mayWait (c : Dev nD) (sm : SemLoc sig) (i : ℕ) (hi : i < 16) {l : List Debt} (h : Above (lv ((c : Thread nD τ), sm) i) l) :
    (levAts L lv : sProp 𝕄) ⊢ MayWait (c : Thread nD τ) sm i (sumD l) :=
  Pipeline.mayWait_of_levAts (by rw [L_tc]; exact Finset.mem_range.mpr hi) fun g j hg => by
    obtain ⟨a, ha, rfl, rfl⟩ := sumD_pos hg
    exact h a ha

def debtSend (c : Dev nD) (ph d : Bool) (h : ℕ) (q : Fin 2) : Debt := (recvCell (toDev d c) ph d h q, h, N)
def debtCred (c : Dev nD) (ph d : Bool) (h : ℕ) : Debt := (credCell (fromDev d c) ph d, h, 1)
def debtBar (c : Dev nD) (d : Bool) : Debt := (barCell (toDev d c), 0, 1)

def sendDebts (c : Dev nD) (ph : Bool) (h : ℕ) : List Debt :=
  if h < 15 then [debtSend c ph false h 0, debtSend c ph true h 0, debtSend c ph false h 1, debtSend c ph true h 1] else []
def credDebts (c : Dev nD) (ph : Bool) (h : ℕ) : List Debt :=
  if lim ph ≤ h ∧ h < 15 then [debtCred c ph false h, debtCred c ph true h] else []
def stepDebts (c : Dev nD) (ph : Bool) : ℕ → ℕ → List Debt → List Debt
  | 0, _, l => l
  | n + 1, s, l => sendDebts c ph (s + 1) ++ (credDebts c ph (s + 3) ++ stepDebts c ph n (s + 1) l)

/-- All of it. -/
def allDebts (c : Dev nD) : List Debt :=
  debtBar c true :: debtBar c false ::
    (sendDebts c false 0 ++ stepDebts c false 15 0 (sendDebts c true 0 ++ stepDebts c true 15 0 []))

/-- A hop's transfers lie above what is below their level. -/
theorem above_send (c : Dev nD) (ph : Bool) {h n : ℕ} (hn : n < 2 * h + 8 + (if ph then 100 else 0)) : Above n (sendDebts c ph h) := by
  intro a ha
  unfold sendDebts at ha
  split at ha
  · next h15 =>
    simp only [List.mem_cons, List.not_mem_nil, or_false] at ha
    rcases ha with rfl | rfl | rfl | rfl <;>
      exact ⟨mem_L' _ _ (i := h) (by omega), by unfold debtSend; rw [← cell_recv, lv_cell]; exact hn⟩
  · cases ha

/-- A hop's credits lie above what is below their level. -/
theorem above_cred (c : Dev nD) (ph : Bool) {h n : ℕ} (hn : n < 2 * h + 3 + (if ph then 100 else 0)) : Above n (credDebts c ph h) := by
  intro a ha
  unfold credDebts at ha
  split at ha
  · next h15 =>
    simp only [List.mem_cons, List.not_mem_nil, or_false] at ha
    rcases ha with rfl | rfl <;>
      exact ⟨mem_L' _ _ (i := h) (by omega), by unfold debtCred; rw [← cell_cred, lv_cell]; exact hn⟩
  · cases ha

/-- From step `s` on every debt lies above what step `s` waits for. -/
theorem above_steps (c : Dev nD) (ph : Bool) {l : List Debt} (hl : Above (100 + (if ph then 100 else 0)) l) :
    ∀ n s, s + n ≤ 15 → Above (2 * s + 8 + (if ph then 100 else 0)) (stepDebts c ph n s l)
  | 0, s, hs => hl.mono (by omega) fun _ h => h
  | n + 1, s, hs => by
    unfold stepDebts
    refine (above_send c ph (by omega)).append ((above_cred c ph (by omega)).append ?_)
    exact (above_steps c ph hl n (s + 1) (by omega)).mono (by omega) fun _ h => h

/-- All debts lie above zero. -/
theorem above_all (c : Dev nD) : Above 0 (allDebts c) := by
  have hag : Above 100 (sendDebts c true 0 ++ stepDebts c true 15 0 []) :=
    (above_send c true (by decide)).append ((above_steps c true (fun _ h => by cases h) 15 0 le_rfl).mono (by decide) fun _ h => h)
  have hrs : Above 1 (sendDebts c false 0 ++ stepDebts c false 15 0 (sendDebts c true 0 ++ stepDebts c true 15 0 [])) :=
    (above_send c false (by decide)).append ((above_steps c false hag 15 0 le_rfl).mono (by decide) fun _ h => h)
  have hb : ∀ d, (debtBar c d).2.1 ∈ L (debtBar c d).1 ∧ 0 < lv (debtBar c d).1 (debtBar c d).2.1 := fun d =>
    ⟨mem_L' _ _ (i := 0) (by decide), by unfold debtBar; rw [← cell_bar, lv_cell]; exact Nat.one_pos⟩
  intro a ha
  rcases List.mem_cons.mp ha with rfl | ha
  · exact hb true
  rcases List.mem_cons.mp ha with rfl | ha
  · exact hb false
  exact hrs.mono (by decide) (fun _ h => h) a ha

/-- A core's account: it owes the debts of `l`. -/
def owe (c : Dev nD) (l : List Debt) : sProp 𝕄 := iprop(∃ W, owes (c : Thread nD τ) (sumD l) W)

end Cert.Ring

end
-- ==== Proof.Pieces.lean ====
/-
# The pieces' rules

One rule for each piece of the body: what it takes of the device's resources and what it gives back.
-/
module

public import proofs.«01_k».proof.Proof.Sched

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The weakest precondition of a program of device `c`'s core. -/
abbrev WP (c : Dev nD) (p : PP F) (Q : PUnit → sProp 𝕄) : sProp 𝕄 :=
  wp frame (wpE (defs₀ (F := F)) 𝒱₀ (c : Thread nD τ) none) Set.univ p Q

/-- One part of a resource for each of a set. -/
theorem bigSep_at {ι : Type} [DecidableEq ι] {s : Finset ι} {i : ι} (hi : i ∈ s) (Φ : ι → sProp 𝕄) : bigSep s Φ ⊢ Φ i := bigSep_elim hi

variable (I : Ins F) (κ : Dev nD × CK → ℕ) (κ' : SK → ℕ)

/-- The invariants under the names they were allocated at, the levels, and that every cell is at its first round. -/
def recs : sProp 𝕄 :=
  iprop(bigSep Finset.univ (fun x : Dev nD × CK => cellInv ER (ringRd I) (κ x) (cell x.1 x.2))
    ∗ bigSep Finset.univ (fun x : SK => slotInv ES (κ' x) x (slotRaw x.1 x.2.1 x.2.2.1 x.2.2.2.1 x.2.2.2.2))
    ∗ levAts L lv
    ∗ bigSep Finset.univ (fun x : Dev nD × CK => reached ER (cell x.1 x.2) 0))

instance recs_persistent : BI.Persistent (recs I κ κ') := by unfold recs; infer_instance

/-- The invariant of a cell. -/
theorem recs_inv (c : Dev nD) (k : CK) : recs I κ κ' ⊢ (cellInv ER (ringRd I) (κ (c, k)) (cell c k) : sProp 𝕄) := by
  unfold recs
  iintro ⟨H, -⟩
  iapply (bigSep_at (Finset.mem_univ (c, k)) (fun x : Dev nD × CK => cellInv ER (ringRd I) (κ x) (cell x.1 x.2))) $$ H
/-- The invariant of half a slot. -/
theorem recs_slot (c : Dev nD) (ph d : Bool) (k : Fin 4) (q : Fin 2) :
    recs I κ κ' ⊢ (slotInv ES (κ' (c, ph, d, k, q)) (c, ph, d, k, q) (slotRaw c ph d k q) : sProp 𝕄) := by
  unfold recs
  iintro ⟨-, H, -⟩
  iapply (bigSep_at (Finset.mem_univ (c, ph, d, k, q)) (fun x : SK => slotInv ES (κ' x) x (slotRaw x.1 x.2.1 x.2.2.1 x.2.2.2.1 x.2.2.2.2))) $$ H
/-- The levels of all cells. -/
theorem recs_lev : recs I κ κ' ⊢ (levAts L lv : sProp 𝕄) := by unfold recs; iintro ⟨-, -, H, -⟩; iexact H
/-- A device may wait below everything it owes. -/
theorem recs_mayWait (c : Dev nD) (sm : SemLoc sig) (i : ℕ) (hi : i < 16) {l : List Debt} (h : Above (lv ((c : Thread nD τ), sm) i) l) :
    recs I κ κ' ⊢ (MayWait (c : Thread nD τ) sm i (sumD l) : sProp 𝕄) := (recs_lev I κ κ').trans (mayWait c sm i hi h)
/-- Every cell has reached its first round. -/
theorem recs_reached (c : Dev nD) (k : CK) : recs I κ κ' ⊢ (reached ER (cell c k) 0 : sProp 𝕄) := by
  unfold recs
  iintro ⟨-, -, -, H⟩
  iapply (bigSep_at (Finset.mem_univ (c, k)) (fun x : Dev nD × CK => reached ER (cell x.1 x.2) 0)) $$ H

/-! ## Positions -/

/-- Device `c` stands at the round of hop `h` of that hop's receive cell. -/
def recvPos (c : Dev nD) (ph d : Bool) (q : Fin 2) (h : ℕ) : sProp 𝕄 :=
  iprop(atPos ER (recvCell c ph d h q) (h / 4) ∅ 0 ∗ reached ER (recvCell c ph d h q) (h / 4))
/-- Device `c` stands at the round of hop `h` of that hop's send cell. -/
def sendPos (c : Dev nD) (ph d : Bool) (q : Fin 2) (h : ℕ) : sProp 𝕄 :=
  iprop(atPos ER (sendCell c ph d h q) (h / 4) ∅ 0 ∗ reached ER (sendCell c ph d h q) (h / 4))

/-- Four hops later the slot is the same. -/
theorem sl_add_four (h : ℕ) : sl (h + 4) = sl h := Fin.ext (by show (h + 4) % 4 = h % 4; omega)
/-- Four hops later the slot's use is the next. -/
theorem div_add_four (h : ℕ) : (h + 4) / 4 = h / 4 + 1 := by omega

/-- The invariant of a hop's receive cell. -/
theorem recs_recv (c : Dev nD) (ph d : Bool) (h : ℕ) (q : Fin 2) :
    recs I κ κ' ⊢ (cellInv ER (ringRd I) (κ (c, recvKey ph d h q)) (recvCell c ph d h q) : sProp 𝕄) := recs_inv I κ κ' c (recvKey ph d h q)
/-- The invariant of a hop's send cell. -/
theorem recs_send (c : Dev nD) (ph d : Bool) (h : ℕ) (q : Fin 2) :
    recs I κ κ' ⊢ (cellInv ER (ringRd I) (κ (c, sendKey ph d h q)) (sendCell c ph d h q) : sProp 𝕄) := recs_inv I κ κ' c (sendKey ph d h q)
/-- The invariant of a credit cell. -/
theorem recs_cred (c : Dev nD) (ph d : Bool) :
    recs I κ κ' ⊢ (cellInv ER (ringRd I) (κ (c, credKey ph d)) (credCell c ph d) : sProp 𝕄) := recs_inv I κ κ' c (credKey ph d)
/-- The invariant of the barrier's cell. -/
theorem recs_bar (c : Dev nD) :
    recs I κ κ' ⊢ (cellInv ER (ringRd I) (κ (c, barKey)) (barCell c) : sProp 𝕄) := recs_inv I κ κ' c barKey

/-- A transfer's cell expects one payment in each use. -/
theorem duties_dma (c : Dev nD) (b ph d : Bool) {h : ℕ} (q : Fin 2) (h15 : h < 15) :
    (ringRd I).duties (cell c (.inl (.inl (b, ph, d, sl h, q)))) (h / 4) = {0} := by
  rw [duties_cell]; unfold dutiesOf; exact if_pos (by rw [hop_div]; exact h15)
/-- A receive cell expects one payment in each use. -/
theorem duties_recv (c : Dev nD) (ph d : Bool) {h : ℕ} (q : Fin 2) (h15 : h < 15) :
    (ringRd I).duties (recvCell c ph d h q) (h / 4) = {0} := duties_dma I c true ph d q h15
/-- A send cell expects one payment in each use. -/
theorem duties_send (c : Dev nD) (ph d : Bool) {h : ℕ} (q : Fin 2) (h15 : h < 15) :
    (ringRd I).duties (sendCell c ph d h q) (h / 4) = {0} := duties_dma I c false ph d q h15

/-- That payment is the size of half a slot. -/
theorem expect_dma (c : Dev nD) (b ph d : Bool) {h : ℕ} (q : Fin 2) (h15 : h < 15) :
    (ringRd I).expect (cell c (.inl (.inl (b, ph, d, sl h, q)))) (h / 4) = N := by
  rw [expect_cell, ← duties_cell I c, duties_dma I c b ph d q h15, Finset.card_singleton, Nat.one_mul]; rfl

/-- A landing hands over the half slot with what the sender sent. -/
theorem payload_recv (c : Dev nD) (ph d : Bool) (h : ℕ) (q : Fin 2) :
    (ringRd I).payload (recvCell c ph d h q) (h / 4) 0 = slotPt fullShare c ph d (sl h) q (val I ph d q h (fromDev d c)) := by
  rw [← cell_recv, payload_cell]; simp only [payOf, hop_div]

/-- A finished send gives back half of the source's share. -/
theorem payload_send (c : Dev nD) (ph d : Bool) (h : ℕ) (q : Fin 2) :
    (ringRd I).payload (sendCell c ph d h q) (h / 4) 0 = slotPt fullShare.left c (srcPh ph h) d (srcSlot ph h) q (val I ph d q h c) := by
  rw [← cell_send, payload_cell]; simp only [payOf, hop_div]

/-- A receive cell's payment is the size of half a slot. -/
theorem amount_recv (c : Dev nD) (ph d : Bool) (h : ℕ) (q : Fin 2) (r i : ℕ) : (ringRd I).amount (recvCell c ph d h q) r i = N :=
  amount_cell I c (recvKey ph d h q) r i
/-- A send cell's payment is the size of half a slot. -/
theorem amount_send (c : Dev nD) (ph d : Bool) (h : ℕ) (q : Fin 2) (r i : ℕ) : (ringRd I).amount (sendCell c ph d h q) r i = N :=
  amount_cell I c (sendKey ph d h q) r i

/-- Waiting for a landing yields the half slot with what was sent. -/
theorem rest_recv (c : Dev nD) (ph d : Bool) {h : ℕ} (q : Fin 2) (h15 : h < 15) :
    bigSep ((ringRd I).duties (recvCell c ph d h q) (h / 4) \ ∅) (fun d' => (ringRd I).payload (recvCell c ph d h q) (h / 4) d')
      = slotPt fullShare c ph d (sl h) q (val I ph d q h (fromDev d c)) := by
  rw [Finset.sdiff_empty, duties_recv I c ph d q h15, bigSep_singleton, payload_recv]
/-- Waiting for a finished send yields the source's share. -/
theorem rest_send (c : Dev nD) (ph d : Bool) {h : ℕ} (q : Fin 2) (h15 : h < 15) :
    bigSep ((ringRd I).duties (sendCell c ph d h q) (h / 4) \ ∅) (fun d' => (ringRd I).payload (sendCell c ph d h q) (h / 4) d')
      = slotPt fullShare.left c (srcPh ph h) d (srcSlot ph h) q (val I ph d q h c) := by
  rw [Finset.sdiff_empty, duties_send I c ph d q h15, bigSep_singleton, payload_send]

/-- The level of a receive cell grows with the hop. -/
theorem lv_recv (c : Dev nD) (ph d : Bool) (h : ℕ) (q : Fin 2) : lv (recvCell c ph d h q) h = 2 * h + 8 + (if ph then 100 else 0) := by
  rw [← cell_recv, lv_cell]; rfl
/-- Send cells lie lowest: nobody else is waited for. -/
theorem lv_send (c : Dev nD) (ph d : Bool) (h : ℕ) (q : Fin 2) (i : ℕ) : lv (sendCell c ph d h q) i = 0 := by
  rw [← cell_send, lv_cell]; rfl
/-- The level of a credit cell grows with the hop. -/
theorem lv_cred (c : Dev nD) (ph d : Bool) (h : ℕ) : lv (credCell c ph d) h = 2 * h + 3 + (if ph then 100 else 0) := by
  rw [← cell_cred, lv_cell]; rfl
/-- The barrier's level is below those of all hops. -/
theorem lv_bar (c : Dev nD) (h : ℕ) : lv (barCell c) h = 1 := by
  rw [← cell_bar, lv_cell]; rfl

/-! ## Waits -/

/-- The wait for a hop's half to land. -/
theorem wp_waitRecv (c : Dev nD) (ph d : Bool) (h : ℕ) (q : Fin 2) (h15 : h < 15) {l : List Debt}
    (hl : Above (2 * h + 8 + (if ph then 100 else 0)) l) (kt : PP F) (Q : PUnit → sProp 𝕄) :
    iprop(recs I κ κ' ∗ cred (tallyAt (recvCell c ph d h q) h N) ∗ owe c l ∗ recvPos c ph d q h)
      ⊢ iprop(((owe c l ∗ recvPos c ph d q (h + 4) ∗ slotPt fullShare c ph d (sl h) q (val I ph d q h (fromDev d c))) -∗ WP c kt Q)
          -∗ WP c (waitRecvK ph d h q kt) Q) := by
  unfold owe recvPos waitRecvK
  rw [show recvCell c ph d (h + 4) q = recvCell c ph d h q from by unfold recvCell; rw [sl_add_four], div_add_four]
  iintro ⟨#HR, Hc, ⟨%W, HO⟩, Hat, -⟩ Hk
  iapply (Rounds.wp_wait_rest_token 𝒱₀ ER (ringRd I) (c : Thread nD τ) none (κ := κ (c, recvKey ph d h q))
      (sm := .dma (semAt (recvA ph d) (sl h) q))
      (wpE_waitDma2_eq 𝒱₀ (c : Thread nD τ) none Set.univ) (Set.mem_univ _) h (O := sumD l) (W := W) (R := h / 4) (m := 0) (T := ∅)
      (by rw [Nat.zero_add, credit_slot]; exact (expect_dma I c true ph d q h15).symm)) $$ [Hc HO Hat]
  · isplitr; · iapply (recs_recv I κ κ' c ph d h q); iexact HR
    isplitl [Hc]; · rw [credit_slot]; iexact Hc
    isplitl [HO]; · iexact HO
    isplitr; · iapply (recs_mayWait I κ κ' c (.dma (semAt (recvA ph d) (sl h) q)) h (by omega) (by rw [lv_recv]; exact hl)); iexact HR
    iexact Hat
  iintro ⟨HO, Hat, Hr, Hpay⟩
  iapply Hk
  isplitl [HO]; · iexists _; iexact HO
  isplitl [Hat Hr]
  · isplitl [Hat] <;> iassumption
  ihave Hp := (Entails.of_eq (rest_recv I c ph d q h15)) $$ Hpay
  iexact Hp

/-- The wait for a hop's source to be free. -/
theorem wp_waitSend (c : Dev nD) (ph d : Bool) (h : ℕ) (q : Fin 2) (h15 : h < 15) {l : List Debt}
    (hl : Above 0 l) (kt : PP F) (Q : PUnit → sProp 𝕄) :
    iprop(recs I κ κ' ∗ cred (tallyAt (sendCell c ph d h q) 0 N) ∗ owe c l ∗ sendPos c ph d q h)
      ⊢ iprop(((owe c l ∗ sendPos c ph d q (h + 4) ∗ slotPt fullShare.left c (srcPh ph h) d (srcSlot ph h) q (val I ph d q h c)) -∗ WP c kt Q)
          -∗ WP c (waitSendK ph d h q kt) Q) := by
  unfold owe sendPos waitSendK
  rw [show sendCell c ph d (h + 4) q = sendCell c ph d h q from by unfold sendCell; rw [sl_add_four], div_add_four]
  iintro ⟨#HR, Hc, ⟨%W, HO⟩, Hat, -⟩ Hk
  iapply (Rounds.wp_wait_rest_token 𝒱₀ ER (ringRd I) (c : Thread nD τ) none (κ := κ (c, sendKey ph d h q))
      (sm := .dma (semAt (sendA ph d) (sl h) q))
      (wpE_waitDma2_eq 𝒱₀ (c : Thread nD τ) none Set.univ) (Set.mem_univ _) 0 (O := sumD l) (W := W) (R := h / 4) (m := 0) (T := ∅)
      (by rw [Nat.zero_add, credit_slot]; exact (expect_dma I c false ph d q h15).symm)) $$ [Hc HO Hat]
  · isplitr; · iapply (recs_send I κ κ' c ph d h q); iexact HR
    isplitl [Hc]; · rw [credit_slot]; iexact Hc
    isplitl [HO]; · iexact HO
    isplitr; · iapply (recs_mayWait I κ κ' c (.dma (semAt (sendA ph d) (sl h) q)) 0 (by omega) (by rw [lv_send]; exact hl)); iexact HR
    iexact Hat
  iintro ⟨HO, Hat, Hr, Hpay⟩
  iapply Hk
  isplitl [HO]; · iexists _; iexact HO
  isplitl [Hat Hr]
  · isplitl [Hat] <;> iassumption
  ihave Hp := (Entails.of_eq (rest_send I c ph d q h15)) $$ Hpay
  iexact Hp

/-! ## Credits -/

/-- Device `c` has consumed `n` credits, and has heard the news of at least as many hops. -/
def creditSt (c : Dev nD) (ph d : Bool) (n : ℕ) : sProp 𝕄 :=
  iprop(∃ S : Finset ℕ, ⌜n ≤ S.card ∧ S ⊆ Finset.Ico (lim ph) 15⌝ ∗ atPos ER (credCell c ph d) 0 S n
    ∗ bigSep S (fun h => cum (toDev d c) ph d (h + 1)))

/-- A credit cell expects one payment for each hop that waits. -/
theorem duties_cred (c : Dev nD) (ph d : Bool) : (ringRd I).duties (credCell c ph d) 0 = Finset.Ico (lim ph) 15 := by
  rw [← cell_cred, duties_cell]; rfl
/-- A credit cell expects as many units as there are hops that wait. -/
theorem expect_cred (c : Dev nD) (ph d : Bool) : (ringRd I).expect (credCell c ph d) 0 = 15 - lim ph := by
  rw [← cell_cred, expect_cell, ← duties_cell I c, cell_cred, duties_cred, Nat.card_Ico]; exact Nat.mul_one _
/-- A credit hands over the receiver's news up to its hop. -/
theorem payload_cred (c : Dev nD) (ph d : Bool) (h : ℕ) : (ringRd I).payload (credCell c ph d) 0 h = cum (toDev d c) ph d (h + 1) := by
  rw [← cell_cred, payload_cell]; rfl

/-- The wait for a credit. -/
theorem wp_waitCredit (c : Dev nD) (ph d : Bool) (h : ℕ) (hlim : lim ph ≤ h) (h15 : h < 15) {l : List Debt}
    (hl : Above (2 * h + 3 + (if ph then 100 else 0)) l) (kt : PP F) (Q : PUnit → sProp 𝕄) :
    iprop(recs I κ κ' ∗ cred (tallyAt (credCell c ph d) h 1) ∗ owe c l ∗ creditSt c ph d (h - lim ph))
      ⊢ iprop(((owe c l ∗ creditSt c ph d (h - lim ph + 1) ∗ relFacts (toDev d c) ph d h) -∗ WP c kt Q)
          -∗ WP c (waitCreditK ph d kt) Q) := by
  unfold owe creditSt waitCreditK
  iintro ⟨#HR, Hc, ⟨%W, HO⟩, ⟨%S, %hS, Hat, HSp⟩⟩ Hk
  iapply (Rounds.wp_wait 𝒱₀ ER (ringRd I) (c : Thread nD τ) none (κ := κ (c, credKey ph d)) (sm := .reg (credS ph d))
      (wpE_semWait_eq 𝒱₀ (c : Thread nD τ) none Set.univ) (Set.mem_univ _) (cr := Finsupp.single h 1) (O := sumD l) (W := W)
      {((.reg (credS ph d) : SemLoc sig), h)} (R := 0) (m := h - lim ph) (T := S) (by rw [Util.total_single]; rfl)
      (image_single_subset _ h 1)) $$ [Hc HO Hat]
  · isplitr; · iapply (recs_cred I κ κ' c ph d); iexact HR
    isplitl [Hc]; · iexact Hc
    isplitl [HO]; · iexact HO
    isplitr; · iapply (recs_mayWait I κ κ' c (.reg (credS ph d)) h (by omega) (by rw [lv_cred]; exact hl)); iexact HR
    iexact Hat
  iintro %S' ⟨%hS', HO, Hat, Hpay⟩
  obtain ⟨hsub, hdut, hcard⟩ := hS'
  have hdut' : S' ⊆ Finset.Ico (lim ph) 15 := by rw [← duties_cred I c ph d]; exact hdut
  have hc' : h - lim ph + 1 ≤ S'.card := by
    have h1 := expect_cred I c ph d
    have h2 : ((ringRd I).duties (credCell c ph d) 0 \ S').card = 15 - lim ph - S'.card := by
      rw [duties_cred, Finset.card_sdiff_of_subset hdut', Nat.card_Ico]
    have h3 : S'.card ≤ 15 - lim ph := by rw [← Nat.card_Ico]; exact Finset.card_le_card hdut'
    have h4 : h - lim ph + 1 + ((ringRd I).duties (credCell c ph d) 0 \ S').card ≤ (ringRd I).expect (credCell c ph d) 0 := hcard
    omega
  obtain ⟨i, hi, hhi⟩ : ∃ i ∈ S', h ≤ i := by
    by_contra hn
    have : S' ⊆ Finset.Ico (lim ph) h := fun i hi =>
      Finset.mem_Ico.mpr ⟨(Finset.mem_Ico.mp (hdut' hi)).1, by by_contra hh; exact hn ⟨i, hi, by omega⟩⟩
    have := Finset.card_le_card this
    rw [Nat.card_Ico] at this; omega
  ihave Hall : bigSep S' (fun h => cum (toDev d c) ph d (h + 1)) $$ [HSp Hpay]
  · ihave Hp := (Entails.of_eq (show bigSep (S' \ S) (fun d' => (ringRd I).payload (credCell c ph d) 0 d') = bigSep (S' \ S) (fun h => cum (toDev d c) ph d (h + 1)) from
      bigSep_congr fun h' _ => payload_cred I c ph d h')) $$ Hpay
    iapply (Entails.of_eq (show iprop(bigSep S (fun h => cum (toDev d c) ph d (h + 1)) ∗ bigSep (S' \ S) (fun h => cum (toDev d c) ph d (h + 1)))
      = (bigSep S' (fun h => cum (toDev d c) ph d (h + 1)) : sProp 𝕄) from by
        exact (bigSep_sdiff_split hsub).symm))
    isplitl [HSp] <;> iassumption
  icases Hall with #Hall
  iapply Hk
  isplitl [HO]; · iexists _; iexact HO
  isplitl [Hat]
  · iexists S'
    isplitr; · ipureintro; exact ⟨hc', hdut'⟩
    isplitl [Hat]; · iexact Hat
    iexact Hall
  iapply (cum_elim (toDev d c) ph d hlim h15 (i + 1) (by omega))
  iapply (bigSep_at hi (fun h => (cum (toDev d c) ph d (h + 1) : sProp 𝕄))) $$ Hall

/-- A credit given. -/
theorem wp_signalCredit (c : Dev nD) (ph d : Bool) (h : ℕ) (hlim : lim ph ≤ h) (h15 : h < 15) (l : List Debt) (kt : PP F) (Q : PUnit → sProp 𝕄) :
    iprop(recs I κ κ' ∗ owe c (debtCred c ph d h :: l) ∗ dutyTok ER (credCell (fromDev d c) ph d) 0 h ∗ cum c ph d (h + 1))
      ⊢ iprop((owe c l -∗ WP c kt Q) -∗ WP c (signalCreditK c ph d kt) Q) := by
  unfold owe signalCreditK
  iintro ⟨#HR, ⟨%W, HO⟩, Ht, Hcum⟩ Hk
  iapply (Rounds.wp_signal 𝒱₀ ER (ringRd I) (c : Thread nD τ) none (dst := (fromDev d c : Thread nD τ)) (κ := κ (fromDev d c, credKey ph d))
      (sem := credS ph d) (r := 0) (d := h) (by rw [duties_cred]; exact Finset.mem_Ico.mpr ⟨hlim, h15⟩)
      ((amount_cell I (fromDev d c) (credKey ph d) 0 h).trans (show 1 = (1#32 : BitVec 32).toNat from by decide)) h (sumD l) rfl) $$ [HO Ht Hcum]
  · isplitr; · iapply (recs_cred I κ κ' (fromDev d c) ph d); iexact HR
    isplitl [HO]; · iexact HO
    isplitl [Ht]; · iexact Ht
    isplitl [Hcum]
    · iapply (Entails.of_eq (payload_cred I (fromDev d c) ph d h).symm)
      rw [show toDev d (fromDev d c) = c from toDev_toDev d c]; iexact Hcum
    iapply (recs_reached I κ κ' (fromDev d c) (credKey ph d)); iexact HR
  iintro HO
  iapply Hk
  iexists _; iexact HO

/-! ## Sends -/

/-- Half a slot lies in its buffer. -/
theorem slot_loc (ph d : Bool) (k : Fin 4) (q : Fin 2) (c : Dev nD) :
    (slotM (bufM ph d) k q).view.loc (c : Thread nD τ) = (bufM ph d).view.loc (c : Thread nD τ) := rfl

/-- A hop's half sent. -/
theorem wp_sendHop (c : Dev nD) (ph d : Bool) (h : ℕ) (q : Fin 2) (h15 : h < 15) (l : List Debt) (kt : PP F) (Q : PUnit → sProp 𝕄) :
    iprop(recs I κ κ' ∗ owe c (debtSend c ph d h q :: l)
        ∗ slotPt fullShare c (srcPh ph h) d (srcSlot ph h) q (val I ph d q h c) ∗ slotRaw (toDev d c) ph d (sl h) q
        ∗ dutyTok ER (sendCell c ph d h q) (h / 4) 0 ∗ reached ER (sendCell c ph d h q) (h / 4)
        ∗ dutyTok ER (recvCell (toDev d c) ph d h q) (h / 4) 0 ∗ reached ER (recvCell (toDev d c) ph d h q) (h / 4))
      ⊢ iprop(((owe c l ∗ cred (tallyAt (sendCell c ph d h q) 0 N) ∗ slotPt fullShare.right c (srcPh ph h) d (srcSlot ph h) q (val I ph d q h c)) -∗ WP c kt Q)
          -∗ WP c (sendK c ph d h q kt) Q) := by
  unfold owe sendK slotRaw slot
  iintro ⟨#HR, ⟨%W, HO⟩, Hs, ⟨%fd, Hd⟩, Ht1, Hr1, Ht2, Hr2⟩ Hk
  unfold slotPt
  ihave Hs' := (pointsTo_share (PosShare.mem_left_op_right fullShare)).1 $$ Hs
  icases Hs' with ⟨HsL, HsR⟩
  iapply (Rounds.wp_send_pointsTo 𝒱₀ ER (ringRd I) (c : Thread nD τ) none
    (κ₁ := κ (c, sendKey ph d h q)) (κ₂ := κ (toDev d c, recvKey ph d h q))
    (r₁ := h / 4) (r₂ := h / 4) (d₁ := 0) (d₂ := 0) (fd := fd)
    (by rw [duties_send I c ph d q h15]; exact Finset.mem_singleton_self _)
    (by rw [duties_recv I (toDev d c) ph d q h15]; exact Finset.mem_singleton_self _)
    h 0 N (by exact credit_slot ph d (sl h) q) (amount_send I c ph d h q _ _) (amount_recv I (toDev d c) ph d h q _ _)
    (sumD l) rfl (W := W)
    (Entails.of_eq (payload_send I c ph d h q).symm)
    (by
      refine BIBase.Entails.trans ?_ (Entails.of_eq (payload_recv I (toDev d c) ph d h q).symm)
      rw [show fromDev d (toDev d c) = c from toDev_toDev' d c, View.read_rep]
      unfold slotPt
      refine (pointsTo_rep_entails (toDev d c : Thread nD τ) (slotM (bufM ph d) (sl h) q) _ fullShare).trans (Entails.of_eq ?_)
      rw [View.read_write_univ])) $$ [HO HsL Hd Ht1 Hr1 Ht2 Hr2]
  · isplitr; · iapply (recs_send I κ κ' c ph d h q); iexact HR
    isplitr; · iapply (recs_recv I κ κ' (toDev d c) ph d h q); iexact HR
    isplitl [HsL]; · iexact HsL
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists _; iexact HO
  isplitl [Hc]; · iexact Hc
  iexact HsR

end Cert.Ring

end
-- ==== Proof.Tiles.lean ====
/-
# The local pieces' rules: slots, operands, output windows, the barrier

The pieces that touch only the device's own buffers, each with the tile it reads or writes as a value, and the entry
barrier.
-/
module

public import proofs.«01_k».proof.Proof.Pieces
public import Idealize.ShloMosaic.Lib.Pipeline.Value

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Slots -/

/-- A half slot's tile as the vector a load of it returns. -/
abbrev tileV (v : Vec F S256x256 .f32) : Vec F S1x1x256x256 .f32 := shapeCast S1x1x256x256 v shapeCasts_S256x256_S1x1x256x256

/-- The cells of half a slot, named by its rectangle or as the transfers name it, are the same. -/
theorem slot_set (ph d : Bool) (k : Fin 4) (q : Fin 2) :
    ((bufM ph d).access (slotR k q)).set = (slotM (bufM ph d) k q).view.set :=
  (View.set_reshape ((bufM ph d).access (slotR k q)) _).symm

/-- Read as a transfer does, a half slot is what a load reads, reshaped. -/
theorem slot_read (ph d : Bool) (k : Fin 4) (q : Fin 2) (f : (bufM ph d).view.ty.Contents (Elt F)) :
    (slotM (bufM ph d) k q).view.read (Elt F) f
      = shapeCast S256x256 (((bufM ph d).access (slotR k q)).read (Elt F) f : Vec F S1x1x256x256 .f32) shapeCasts_S1x1x256x256_S256x256 := rfl

/-- A tile read from its slot is the tile. -/
theorem tileV_cast (v : Vec F S256x256 .f32) : shapeCast S256x256 (tileV v) shapeCasts_S1x1x256x256_S256x256 = v := by
  unfold tileV; rw [shapeCast_shapeCast]

/-- A slot's half read as a tile and put back is the same. -/
theorem cast_tileV (w : Vec F S1x1x256x256 .f32) : tileV (shapeCast S256x256 w shapeCasts_S1x1x256x256_S256x256) = w := by
  unfold tileV; rw [shapeCast_shapeCast]

/-- A load of a half slot that holds `v` reads `v`. -/
theorem slot_load (ph d : Bool) (k : Fin 4) (q : Fin 2) (v : Vec F S256x256 .f32) :
    (((bufM ph d).access (slotR k q)).read (Elt F) ((slotM (bufM ph d) k q).view.rep v) : Vec F S1x1x256x256 .f32) = tileV v := by
  have h := slot_read ph d k q ((slotM (bufM ph d) k q).view.rep v)
  rw [View.read_rep] at h
  exact (cast_tileV _).symm.trans (congrArg tileV h.symm)

/-- A tile read from its slot and added to is the sum. -/
theorem addSlot_tileV (v : Vec F S256x256 .f32) (p : FVec F S256x256 .f32) : addSlot (tileV v) p = addf v p := by
  unfold addSlot; rw [tileV_cast]

/-- The load of a half slot held at any share. -/
theorem wp_loadSlot (π : PosShare TreeShare) (c : Dev nD) (ph d : Bool) (k : Fin 4) (q : Fin 2) (v : Vec F S256x256 .f32)
    (kt : Vec F S1x1x256x256 .f32 → PP F) (Q : PUnit → sProp 𝕄) :
    slotPt π c ph d k q v ⊢ iprop((slotPt π c ph d k q v -∗ WP c (kt (tileV v)) Q) -∗ WP c (loadSlotK ph d k q kt) Q) := by
  unfold slotPt loadSlotK
  iintro H Hk
  iapply (wp_load_rect 𝒱₀ (c : Thread nD τ) none Set.univ (m := bufM ph d) (r := slotR k q)
    (S := (slotM (bufM ph d) k q).view.set) (le_of_eq (slot_set ph d k q))) $$ [H]
  · iexact H
  iintro H
  rw [slot_load]
  iapply Hk
  iexact H

/-- The store of a half slot held in full. -/
theorem wp_storeSlot (c : Dev nD) (d : Bool) (k : Fin 4) (q : Fin 2) (p : FVec F S256x256 .f32) (kt : PP F) (Q : PUnit → sProp 𝕄) :
    slotRaw c false d k q ⊢ iprop((slotPt fullShare c false d k q p -∗ WP c kt Q) -∗ WP c (storeSlotK d k q p kt) Q) := by
  unfold slotRaw slot slotPt storeSlotK
  iintro ⟨%f, H⟩ Hk
  iapply (wp_load_rect 𝒱₀ (c : Thread nD τ) none Set.univ (m := bufM false d) (r := slotR k q)
    (S := (slotM (bufM false d) k q).view.set) (le_of_eq (slot_set false d k q))) $$ [H]
  · iexact H
  iintro H
  iapply (wp_store 𝒱₀ (c : Thread nD τ) none Set.univ (m := bufM false d) (r := slotR k q)
    (S := (slotM (bufM false d) k q).view.set) (le_of_eq (slot_set false d k q))) $$ [H]
  · iexact H
  iintro H
  iapply Hk
  ihave H' := (pointsTo_rep_entails (c : Thread nD τ) (slotM (bufM false d) k q) _ fullShare) $$ H
  rw [slot_read, View.read_write_univ]
  rw [show shapeCast S256x256 (shapeCast S1x1x256x256 p shapeCasts_S256x256_S1x1x256x256 : FVec F S1x1x256x256 .f32) shapeCasts_S1x1x256x256_S256x256 = p
    from tileV_cast p]
  iexact H'

/-- The two half shares of a half slot, joined. -/
theorem slot_join (c : Dev nD) (ph d : Bool) (k : Fin 4) (q : Fin 2) (v : Vec F S256x256 .f32) :
    iprop(slotPt fullShare.left c ph d k q v ∗ slotPt fullShare.right c ph d k q v) ⊢ (slotPt fullShare c ph d k q v : sProp 𝕄) :=
  (pointsTo_share (PosShare.mem_left_op_right fullShare)).2

/-! ## Operands -/

variable (I : Ins F) (κ : Dev nD × CK → ℕ) (κ' : SK → ℕ)

/-- The three operands' staging buffers. -/
def insPt (c : Dev nD) : sProp 𝕄 :=
  iprop(((xM.view.loc (c : Thread nD τ)) ↦{fullShare} (I.x c)) ∗ ((w1M.view.loc (c : Thread nD τ)) ↦{fullShare} (I.w1 c))
    ∗ ((w2M.view.loc (c : Thread nD τ)) ↦{fullShare} (I.w2 c)))

/-- A partial product of the device's operands. -/
theorem wp_psub (c : Dev nD) (d : Bool) (off : Fin 2 → Nat) (hoff : ∀ a, off a + S256x512.size a ≤ S8192x512.size a)
    (k : FVec F S256x256 .f32 → PP F) (Q : PUnit → sProp 𝕄) :
    insPt I c ⊢ iprop((insPt I c -∗ WP c (k (psub I d c off hoff)) Q) -∗ WP c (psubK d off hoff k) Q) := by
  unfold insPt psubK
  iintro ⟨Hx, H1, H2⟩ Hk
  iapply (wp_load 𝒱₀ (c : Thread nD τ) none Set.univ (m := w1M) (Finset.subset_univ _)) $$ [H1]
  · iexact H1
  iintro H1
  iapply (wp_load 𝒱₀ (c : Thread nD τ) none Set.univ (m := xM) (Finset.subset_univ _)) $$ [Hx]
  · iexact Hx
  iintro Hx
  iapply Hk
  isplitl [Hx]; · iexact Hx
  isplitl [H1] <;> iassumption

/-- Direction `d`'s half of the rows of `W2` on device `c`. -/
abbrev w2V (d : Bool) (c : Dev nD) : Vec F S256x128 .f32 := w2M.view.readAt (Elt F) (w2R d).toLoadRect (I.w2 c)

/-- The load of half the rows of `W2`. -/
theorem wp_loadW2 (c : Dev nD) (d : Bool) (k : Vec F S256x128 .f32 → PP F) (Q : PUnit → sProp 𝕄) :
    insPt I c ⊢ iprop((insPt I c -∗ WP c (k (w2V I d c)) Q)
      -∗ WP c (.op (.load w2M (w2R d).toLoadRect (View.loadsAt_vmem h_S256x128)) k) Q) := by
  unfold insPt
  iintro ⟨Hx, H1, H2⟩ Hk
  iapply (wp_load 𝒱₀ (c : Thread nD τ) none Set.univ (m := w2M) (Finset.subset_univ _)) $$ [H2]
  · iexact H2
  iintro H2
  iapply Hk
  isplitl [Hx]; · iexact Hx
  isplitl [H1] <;> iassumption

/-! ## Output windows -/

/-- Where half `q` of device `b`'s block of rows lies in the output. -/
abbrev offB (b : Dev nD) (q : Fin 2) : Fin 2 → Nat := ![512 * b.val + 256 * q.val, 0]

/-- A block's output window lies within the output. -/
theorem offB_inb (b : Dev nD) (q : Fin 2) : ∀ a, offB b q a + S256x128.size a ≤ S8192x128.size a := by
  revert b q; decide +kernel

abbrev outR (b : Dev nD) (q : Fin 2) : Rect S8192x128 := Rect.unit (s := S8192x128) (offB b q) S256x128.size (offB_inb b q)

/-- The output's contents. -/
abbrev OutC (F : FTy → Type) [FloatOps F] : Type := (cc0_stg3_0 : Ref sig .tc).ty.Contents (Elt F)

/-- A window of the output's contents. -/
def winV (f : OutC F) (b : Dev nD) (q : Fin 2) : Vec F S256x128 .f32 := (oM.access (outR b q)).read (Elt F) f

/-- The output's staging buffer, with the window of each block's half known. -/
def outSt (c : Dev nD) (M : Dev nD → Fin 2 → Vec F S256x128 .f32) : sProp 𝕄 :=
  iprop(∃ f : OutC F, ⌜∀ b q, winV f b q = M b q⌝ ∗ ((oM.view.loc (c : Thread nD τ)) ↦{fullShare} f))

/-- One window's contents replaced. -/
def upd (M : Dev nD → Fin 2 → Vec F S256x128 .f32) (b : Dev nD) (q : Fin 2) (v : Vec F S256x128 .f32) : Dev nD → Fin 2 → Vec F S256x128 .f32 :=
  fun b' q' => if b' = b ∧ q' = q then v else M b' q'

/-- The index a window's index names. -/
theorem out_emb (b : Dev nD) (q : Fin 2) (y : S256x128.Idx) (a : Fin 2) :
    (((oM.access (outR b q)).emb y : S8192x128.Idx) a).val = offB b q a + (y a).val := by
  show ((outR b q).emb y a).val = _
  rw [Rect.emb_apply]; exact congrArg _ (Nat.one_mul _)

/-- A window written reads as written; the others are as before. -/
theorem win_write (f : OutC F) (b : Dev nD) (q : Fin 2) (v : Vec F S256x128 .f32) (b' : Dev nD) (q' : Fin 2) :
    winV ((oM.access (outR b q)).write (Elt F) f v Finset.univ) b' q' = if b' = b ∧ q' = q then v else winV f b' q' := by
  split
  · next h => obtain ⟨rfl, rfl⟩ := h; exact View.read_write_univ _ _
  · next h =>
    funext x
    unfold winV
    rw [View.read_apply, View.read_apply]
    refine congrArg _ (View.write_of_not_mem (v := oM.access (outR b q)) f v Finset.univ fun hm => h ?_)
    obtain ⟨y, -, hy⟩ := Finset.mem_map.mp hm
    have h0 := congrArg (fun z : S8192x128.Idx => (z 0).val) hy
    have e1 := out_emb b q y 0
    have e2 := out_emb b' q' x 0
    have h0' : ((oM.access (outR b q)).emb y (0 : Fin 2)).val = ((oM.access (outR b' q')).emb x (0 : Fin 2)).val := h0
    have hy0 : (y 0).val < 256 := (y 0).isLt
    have hx0 : (x 0).val < 256 := (x 0).isLt
    have hq := q.isLt
    have hq' := q'.isLt
    have e3 : offB b q 0 = 512 * b.val + 256 * q.val := rfl
    have e4 : offB b' q' 0 = 512 * b'.val + 256 * q'.val := rfl
    exact ⟨Fin.ext (by omega), Fin.ext (by omega)⟩

/-- The store of a window of the output. -/
theorem wp_storeOut (c : Dev nD) (M : Dev nD → Fin 2 → Vec F S256x128 .f32) (b : Dev nD) (q : Fin 2) (off : Fin 2 → Nat)
    (hoff : ∀ a, off a + S256x128.size a ≤ S8192x128.size a) (h : off = offB b q) (v : FVec F S256x128 .f32) (k : PP F) (Q : PUnit → sProp 𝕄) :
    outSt c M ⊢ iprop((outSt c (upd M b q v) -∗ WP c k Q) -∗ WP c (storeOutK off hoff v k) Q) := by
  subst h
  unfold outSt storeOutK
  iintro ⟨%f, %hf, H⟩ Hk
  iapply (wp_load 𝒱₀ (c : Thread nD τ) none Set.univ (m := oM) (Finset.subset_univ _)) $$ [H]
  · iexact H
  iintro H
  iapply (wp_store 𝒱₀ (c : Thread nD τ) none Set.univ (m := oM) (r := outR b q) (Finset.subset_univ _)) $$ [H]
  · iexact H
  iintro H
  iapply Hk
  iexists _
  isplitr
  · ipureintro
    exact fun b' q' => (win_write f b q v b' q').trans (by unfold upd; split <;> [rfl; exact hf b' q'])
  iexact H

/-- The addition to a window of the output. -/
theorem wp_addOut (c : Dev nD) (M : Dev nD → Fin 2 → Vec F S256x128 .f32) (b : Dev nD) (q : Fin 2) (off : Fin 2 → Nat)
    (hoff : ∀ a, off a + S256x128.size a ≤ S8192x128.size a) (h : off = offB b q) (v : FVec F S256x128 .f32) (k : PP F) (Q : PUnit → sProp 𝕄) :
    outSt c M ⊢ iprop((outSt c (upd M b q (addf (M b q) v)) -∗ WP c k Q) -∗ WP c (addOutK off hoff v k) Q) := by
  subst h
  unfold addOutK
  conv_lhs => unfold outSt
  iintro ⟨%f, %hf, H⟩ Hk
  iapply (wp_load_rect 𝒱₀ (c : Thread nD τ) none Set.univ (m := oM) (r := outR b q) (Finset.subset_univ _)) $$ [H]
  · iexact H
  iintro H
  rw [show ((oM.access (outR b q)).read (Elt F) f : Vec F S256x128 .f32) = M b q from hf b q, shapeCast_self]
  iapply (wp_storeOut c M b q (offB b q) hoff rfl) $$ [H]
  · unfold outSt
    iexists f
    isplitr; · ipureintro; exact hf
    iexact H
  iexact Hk

/-! ## The barrier -/

/-- The barrier expects a signal from each neighbour. -/
theorem duties_bar (c : Dev nD) : (ringRd I).duties (barCell c) 0 = {0, 1} := by
  rw [← cell_bar, duties_cell]; rfl
/-- The barrier expects two units. -/
theorem expect_bar (c : Dev nD) : (ringRd I).expect (barCell c) 0 = 2 := by
  rw [← cell_bar, expect_cell]; rfl
/-- A barrier signal hands over the slots the receiver will write. -/
theorem payload_bar (c : Dev nD) (i : ℕ) : (ringRd I).payload (barCell c) 0 i = barPay c (decide (i = 1)) := by
  rw [← cell_bar, payload_cell]; rfl

/-- Waiting at the barrier yields both neighbours' slots. -/
theorem rest_bar (c : Dev nD) :
    bigSep ((ringRd I).duties (barCell c) 0 \ ∅) (fun i => (ringRd I).payload (barCell c) 0 i)
      = (iprop(barPay c false ∗ barPay c true) : sProp 𝕄) := by
  rw [Finset.sdiff_empty, duties_bar, bigSep_insert (by decide), bigSep_singleton, payload_bar, payload_bar]; rfl

/-- The barrier's signal to the neighbour `toDev d c`: its duty, paid with the slots of the other direction. -/
theorem wp_signalBar (c : Dev nD) (d : Bool) (i : ℕ) (hi : i ∈ ({0, 1} : Finset ℕ)) (l : List Debt)
    (k : Unit → PP F) (Q : PUnit → sProp 𝕄) :
    iprop(recs I κ κ' ∗ owe c (debtBar c d :: l) ∗ dutyTok ER (barCell (toDev d c)) 0 i ∗ barPay (toDev d c) (decide (i = 1)))
      ⊢ iprop((owe c l -∗ WP c (k ⟨⟩) Q)
          -∗ WP c (.op (.semSignal (toDev d c, .tc) barS (1#32 : BitVec 32).toInt) k) Q) := by
  unfold owe
  iintro ⟨#HR, ⟨%W, HO⟩, Ht, Hpay⟩ Hk
  iapply (Rounds.wp_signal 𝒱₀ ER (ringRd I) (c : Thread nD τ) none (dst := (toDev d c : Thread nD τ)) (κ := κ (toDev d c, barKey))
      (sem := barS) (r := 0) (d := i) (by rw [duties_bar]; exact hi)
      ((amount_cell I (toDev d c) barKey 0 i).trans (show 1 = (1#32 : BitVec 32).toNat from by decide)) 0 (sumD l) rfl) $$ [HO Ht Hpay]
  · isplitr; · iapply (recs_bar I κ κ' (toDev d c)); iexact HR
    isplitl [HO]; · iexact HO
    isplitl [Ht]; · iexact Ht
    isplitl [Hpay]
    · iapply (Entails.of_eq (payload_bar I (toDev d c) i).symm); iexact Hpay
    iapply (recs_reached I κ κ' (toDev d c) barKey); iexact HR
  iintro HO
  iapply Hk
  iexists _; iexact HO

/-- The entry barrier: the neighbours get the slots their first hops land in, the device gets theirs. -/
theorem wp_barrier (c : Dev nD) {l : List Debt} (hl : Above 1 l) (kt : PP F) (Q : PUnit → sProp 𝕄) :
    iprop(recs I κ κ' ∗ owe c (debtBar c true :: debtBar c false :: l) ∗ cred (tallyAt (barCell c) 0 2)
        ∗ atPos ER (barCell c) 0 ∅ 0 ∗ dutyTok ER (barCell (toDev true c)) 0 0 ∗ dutyTok ER (barCell (toDev false c)) 0 1
        ∗ barPay (toDev true c) false ∗ barPay (toDev false c) true)
      ⊢ iprop(((owe c l ∗ atPos ER (barCell c) 1 ∅ 0 ∗ barPay c false ∗ barPay c true) -∗ WP c kt Q) -∗ WP c (barrierK c kt) Q) := by
  unfold barrierK
  iintro ⟨#HR, HO, Hc, Hat, Ht, Ht', Hp, Hp'⟩ Hk
  iapply (wp_signalBar I κ κ' c true 0 (by decide)) $$ [HO Ht Hp]
  · isplitr; · iexact HR
    isplitl [HO]; · iexact HO
    isplitl [Ht]; · iexact Ht
    iexact Hp
  iintro HO
  iapply (wp_signalBar I κ κ' c false 1 (by decide)) $$ [HO Ht' Hp']
  · isplitr; · iexact HR
    isplitl [HO]; · iexact HO
    isplitl [Ht']; · iexact Ht'
    iexact Hp'
  iintro HO
  unfold owe
  icases HO with ⟨%W, HO⟩
  iapply (Rounds.wp_wait_rest_token 𝒱₀ ER (ringRd I) (c : Thread nD τ) none (κ := κ (c, barKey))
      (sm := .reg barS)
      (wpE_semWait_eq 𝒱₀ (c : Thread nD τ) none Set.univ) (Set.mem_univ _) 0 (O := sumD l) (W := W) (R := 0) (m := 0) (T := ∅)
      (by rw [Nat.zero_add]; exact (expect_bar I c).symm)) $$ [Hc HO Hat]
  · isplitr; · iapply (recs_bar I κ κ' c); iexact HR
    isplitl [Hc]; · iexact Hc
    isplitl [HO]; · iexact HO
    isplitr; · iapply (recs_mayWait I κ κ' c (.reg barS) 0 (by omega) (by rw [lv_bar]; exact hl)); iexact HR
    iexact Hat
  iintro ⟨HO, Hat, Hr, Hpay⟩
  iapply Hk
  isplitl [HO]; · iexists _; iexact HO
  isplitl [Hat]; · iexact Hat
  ihave Hp := (Entails.of_eq (rest_bar I c)) $$ Hpay
  iexact Hp

end Cert.Ring

end
-- ==== Proof.Hops.lean ====
/-
# Hops: what a device holds of a direction between two steps, and a step's moves on it
-/
module

public import proofs.«01_k».proof.Proof.Tiles
public import Idealize.SL.BI.BigOpNat

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The first hop taken off a range of hops. -/
theorem Ico_peel {a b : ℕ} (h : a < b) (Φ : ℕ → sProp 𝕄) : bigSep (Finset.Ico a b) Φ ⊢ iprop(Φ a ∗ bigSep (Finset.Ico (a + 1) b) Φ) :=
  Entails.of_eq (bigSep_Ico_succ_bot h Φ)
/-- Nothing for an empty range of hops. -/
theorem Ico_none {a b : ℕ} (h : b ≤ a) (Φ : ℕ → sProp 𝕄) : (⊢ bigSep (Finset.Ico a b) Φ) := by
  rw [Finset.Ico_eq_empty (Nat.not_lt.mpr h), bigSep_empty]
  exact .rfl
/-- One hop added at the end of a range. -/
theorem Ico_push {a b : ℕ} (h : a ≤ b) (Φ : ℕ → sProp 𝕄) : iprop(bigSep (Finset.Ico a b) Φ ∗ Φ b) ⊢ bigSep (Finset.Ico a (b + 1)) Φ := by
  refine BIBase.Entails.trans ?_ (Entails.of_eq (bigSep_Ico_succ_top h Φ).symm)
  iintro ⟨H, H'⟩
  isplitl [H'] <;> iassumption

/-! ## Tokens -/

/-- The tokens hop `h`'s transfer of half `q` pays with. -/
def sTok (c : Dev nD) (ph d : Bool) (h : ℕ) (q : Fin 2) : sProp 𝕄 :=
  iprop(dutyTok ER (sendCell c ph d h q) (h / 4) 0 ∗ dutyTok ER (recvCell (toDev d c) ph d h q) (h / 4) 0)

/-- The tokens of a hop that asks for a credit: to take both halves of its destination, and to wait. -/
def wTok (c : Dev nD) (ph d : Bool) (h : ℕ) : sProp 𝕄 :=
  iprop(writeTok ES (toDev d c, ph, d, sl h, (0 : Fin 2)) (relN ph h) ∗ writeTok ES (toDev d c, ph, d, sl h, (1 : Fin 2)) (relN ph h)
    ∗ cred (tallyAt (credCell c ph d) h 1))

/-- All a hop's sends need. -/
def hopTok (c : Dev nD) (ph d : Bool) (h : ℕ) : sProp 𝕄 :=
  iprop(sTok c ph d h 0 ∗ sTok c ph d h 1 ∗ (if lim ph ≤ h then wTok c ph d h else iprop(emp)))

/-- A hop that waits for a credit needs its tokens and its right to write. -/
theorem hopTok_credit (c : Dev nD) (ph d : Bool) {h : ℕ} (hc : lim ph ≤ h) :
    hopTok c ph d h ⊢ (iprop(sTok c ph d h 0 ∗ sTok c ph d h 1 ∗ wTok c ph d h) : sProp 𝕄) := by
  unfold hopTok; rw [if_pos hc]
/-- A hop's tokens for its two halves. -/
theorem hopTok_free (c : Dev nD) (ph d : Bool) (h : ℕ) :
    hopTok c ph d h ⊢ (iprop(sTok c ph d h 0 ∗ sTok c ph d h 1) : sProp 𝕄) := by
  unfold hopTok
  iintro ⟨H, H', -⟩
  isplitl [H] <;> iassumption

def toks (c : Dev nD) (ph d : Bool) (n : ℕ) : sProp 𝕄 := bigSep (Finset.Ico n 15) (hopTok c ph d)

/-- The credit tokens to wait for hop `h`'s two halves. -/
def rTok (c : Dev nD) (ph d : Bool) (h : ℕ) : sProp 𝕄 :=
  iprop(cred (tallyAt (recvCell c ph d h 0) h N) ∗ cred (tallyAt (recvCell c ph d h 1) h N))
def rtoks (c : Dev nD) (ph d : Bool) (n : ℕ) : sProp 𝕄 := bigSep (Finset.Ico n 15) (rTok c ph d)

/-- The token to give hop `h`'s credit with. -/
def cTok (c : Dev nD) (ph d : Bool) (h : ℕ) : sProp 𝕄 :=
  if lim ph ≤ h then dutyTok ER (credCell (fromDev d c) ph d) 0 h else iprop(emp)
def ctoks (c : Dev nD) (ph d : Bool) (n : ℕ) : sProp 𝕄 := bigSep (Finset.Ico n 15) (cTok c ph d)

/-! ## Slots in flight -/

/-- Half `q` of hop `h`'s source, its left share lent to the transfer; after the last hop: what has arrived, in full. -/
def fl (I : Ins F) (c : Dev nD) (ph d : Bool) (h : ℕ) (q : Fin 2) : sProp 𝕄 :=
  if h < 15 then iprop(slotPt fullShare.right c (srcPh ph h) d (srcSlot ph h) q (val I ph d q h c) ∗ cred (tallyAt (sendCell c ph d h q) 0 N))
  else slotPt fullShare c (srcPh ph h) d (srcSlot ph h) q (val I ph d q h c)

/-- Half `q` of hop `h`'s source, in full. -/
def srcFull (I : Ins F) (c : Dev nD) (ph d : Bool) (h : ℕ) (q : Fin 2) : sProp 𝕄 :=
  slotPt fullShare c (srcPh ph h) d (srcSlot ph h) q (val I ph d q h c)

/-- Between the two halves of a hop: the second half's destination and tokens. -/
def mid (c : Dev nD) (ph d : Bool) (h : ℕ) : sProp 𝕄 :=
  if h < 15 then iprop(slotRaw (toDev d c) ph d (sl h) 1 ∗ reached ER (recvCell (toDev d c) ph d h 1) (h / 4) ∗ sTok c ph d h 1) else iprop(emp)

variable (I : Ins F) (κ : Dev nD × CK → ℕ) (κ' : SK → ℕ)

def debtL (c : Dev nD) (ph d : Bool) (h : ℕ) (q : Fin 2) : List Debt := if h < 15 then [debtSend c ph d h q] else []

/-- A hop's debts, in the order in which they are paid. -/
theorem sendDebts_eq (c : Dev nD) (ph : Bool) (h : ℕ) :
    sendDebts c ph h = debtL c ph false h 0 ++ (debtL c ph true h 0 ++ (debtL c ph false h 1 ++ debtL c ph true h 1)) := by
  unfold sendDebts debtL; split <;> rfl

/-- What lies above all debts lies above the later ones. -/
theorem Above.right {n : ℕ} {l l' : List Debt} (h : Above n (l ++ l')) : Above n l' := h.mono le_rfl fun _ ha => List.mem_append_right _ ha

/-- A slot's first use needs no earlier round. -/
theorem recs_reached_recv (c : Dev nD) (ph d : Bool) {h : ℕ} (q : Fin 2) (h4 : h < 4) :
    recs I κ κ' ⊢ (reached ER (recvCell c ph d h q) (h / 4) : sProp 𝕄) := by
  rw [show h / 4 = 0 by omega]; exact recs_reached I κ κ' c (recvKey ph d h q)

/-- Credits are asked for from the fourth hop on at the latest. -/
theorem lim_le (ph : Bool) : lim ph ≤ 4 := by cases ph <;> decide
/-- No credit is asked for before hop 3. -/
theorem three_le_lim (ph : Bool) : 3 ≤ lim ph := by cases ph <;> decide

/-- The first half of a hop's send: its destination is one of the slots handed over at the barrier, or is taken
    after a credit. -/
theorem wp_next0 (c : Dev nD) (ph d : Bool) (h : ℕ) (h15 : h ≤ 15) {l : List Debt}
    (hl : lim ph ≤ h → Above (2 * h + 3 + (if ph then 100 else 0)) (debtL c ph d h 0 ++ l)) (kt : PP F) (Q : PUnit → sProp 𝕄) :
    iprop(recs I κ κ' ∗ owe c (debtL c ph d h 0 ++ l) ∗ srcFull I c ph d h 0 ∗ sendPos c ph d 0 h ∗ toks c ph d h
        ∗ creditSt c ph d (min h 15 - lim ph) ∗ pre (toDev d c) ph d h)
      ⊢ iprop(((owe c l ∗ fl I c ph d h 0 ∗ sendPos c ph d 0 h ∗ mid c ph d h ∗ toks c ph d (h + 1)
          ∗ creditSt c ph d (min (h + 1) 15 - lim ph) ∗ pre (toDev d c) ph d (h + 1)) -∗ WP c kt Q)
          -∗ WP c (nextK c ph d (lim ph) h 0 kt) Q) := by
  have h3 := three_le_lim ph
  have h4 := lim_le ph
  unfold nextK
  rcases Nat.lt_or_eq_of_le h15 with hlt | rfl
  · rw [if_pos hlt]
    unfold fl mid toks debtL pre srcFull
    rw [if_pos hlt, if_pos hlt, if_pos hlt]
    conv_lhs => unfold sendPos
    iintro ⟨#HR, HO, Hs, ⟨Hat, #Hre⟩, Ht, Hcr, Hpre⟩ Hk
    ihave Ht := (Ico_peel hlt (hopTok c ph d)) $$ Ht
    icases Ht with ⟨Hh, Ht⟩
    by_cases hc : lim ph ≤ h
    · rw [if_pos (show lim ph ≤ h ∧ (0 : Fin 2) = 0 from ⟨hc, rfl⟩)]
      ihave Hh := (hopTok_credit c ph d hc) $$ Hh
      unfold sTok wTok
      icases Hh with ⟨⟨Hts, Htr⟩, Hq1, Hw0, Hw1, Hcc⟩
      iapply (wp_waitCredit I κ κ' c ph d h hc hlt (by have := hl hc; unfold debtL at this; rwa [if_pos hlt] at this)) $$ [HO Hcc Hcr]
      · isplitr; · iexact HR
        isplitl [Hcc]; · iexact Hcc
        isplitl [HO]; · iexact HO
        rw [show min h 15 = h by omega]; iexact Hcr
      unfold relFacts
      iintro ⟨HO, Hcr, ⟨#Hrel0, #Hre0⟩, ⟨#Hrel1, #Hre1⟩⟩
      imod (slot_take (Es := Set.univ) ES (Set.mem_univ (κ' (toDev d c, ph, d, sl h, (0 : Fin 2)))) (relN ph h)) $$ [Hw0] with Hd0
      · isplitr; · iapply (recs_slot I κ κ' (toDev d c) ph d (sl h) 0); iexact HR
        isplitr; · iexact Hrel0
        iexact Hw0
      imod (slot_take (Es := Set.univ) ES (Set.mem_univ (κ' (toDev d c, ph, d, sl h, (1 : Fin 2)))) (relN ph h)) $$ [Hw1] with Hd1
      · isplitr; · iapply (recs_slot I κ κ' (toDev d c) ph d (sl h) 1); iexact HR
        isplitr; · iexact Hrel1
        iexact Hw1
      iapply (wp_sendHop I κ κ' c ph d h 0 hlt l) $$ [HO Hs Hd0 Hts Htr]
      · isplitr; · iexact HR
        isplitl [HO]; · iexact HO
        isplitl [Hs]; · iexact Hs
        isplitl [Hd0]; · iexact Hd0
        isplitl [Hts]; · iexact Hts
        isplitr; · iexact Hre
        isplitl [Htr]; · iexact Htr
        iexact Hre0
      iintro ⟨HO, Hcs, Hs⟩
      iapply Hk
      isplitl [HO]; · iexact HO
      isplitl [Hcs Hs]; · isplitl [Hs] <;> iassumption
      isplitl [Hat]
      · unfold sendPos; isplitl [Hat]; · iexact Hat
        iexact Hre
      isplitl [Hd1 Hq1]
      · isplitl [Hd1]; · iexact Hd1
        isplitr; · iexact Hre1
        iexact Hq1
      isplitl [Ht]; · iexact Ht
      isplitl [Hcr]
      · rw [show min (h + 1) 15 - lim ph = h - lim ph + 1 by omega]; iexact Hcr
      iapply (Ico_none (by omega))
    · rw [if_neg (show ¬ (lim ph ≤ h ∧ (0 : Fin 2) = 0) from fun hh => hc hh.1)]
      ihave Hh := (hopTok_free c ph d h) $$ Hh
      unfold sTok
      icases Hh with ⟨⟨Hts, Htr⟩, Hq1⟩
      ihave Hpre := (Ico_peel (by omega) (rawPair (toDev d c) ph d)) $$ Hpre
      unfold rawPair
      icases Hpre with ⟨⟨Hd0, Hd1⟩, Hpre⟩
      iapply (wp_sendHop I κ κ' c ph d h 0 hlt l) $$ [HO Hs Hd0 Hts Htr]
      · isplitr; · iexact HR
        isplitl [HO]; · iexact HO
        isplitl [Hs]; · iexact Hs
        isplitl [Hd0]; · iexact Hd0
        isplitl [Hts]; · iexact Hts
        isplitr; · iexact Hre
        isplitl [Htr]; · iexact Htr
        iapply (recs_reached_recv I κ κ' (toDev d c) ph d 0 (by omega)); iexact HR
      iintro ⟨HO, Hcs, Hs⟩
      iapply Hk
      isplitl [HO]; · iexact HO
      isplitl [Hcs Hs]; · isplitl [Hs] <;> iassumption
      isplitl [Hat]
      · unfold sendPos; isplitl [Hat]; · iexact Hat
        iexact Hre
      isplitl [Hd1 Hq1]
      · isplitl [Hd1]; · iexact Hd1
        isplitr; · iapply (recs_reached_recv I κ κ' (toDev d c) ph d 1 (by omega)); iexact HR
        iexact Hq1
      isplitl [Ht]; · iexact Ht
      isplitl [Hcr]
      · rw [show min (h + 1) 15 - lim ph = min h 15 - lim ph by omega]; iexact Hcr
      iexact Hpre
  · rw [if_neg (by omega)]
    unfold fl mid toks debtL pre srcFull
    rw [if_neg (by omega), if_neg (by omega), if_neg (by omega)]
    iintro ⟨#HR, HO, Hs, Hp, Ht, Hcr, Hpre⟩ Hk
    iapply Hk
    isplitl [HO]; · iexact HO
    isplitl [Hs]; · iexact Hs
    isplitl [Hp]; · iexact Hp
    isplitr; · iempintro
    isplitr; · iapply (Ico_none (by omega))
    isplitl [Hcr]; · iexact Hcr
    iapply (Ico_none (by omega))

/-- The second half of a hop's send. -/
theorem wp_next1 (c : Dev nD) (ph d : Bool) (h : ℕ) (h15 : h ≤ 15) {l : List Debt} (kt : PP F) (Q : PUnit → sProp 𝕄) :
    iprop(recs I κ κ' ∗ owe c (debtL c ph d h 1 ++ l) ∗ srcFull I c ph d h 1 ∗ sendPos c ph d 1 h ∗ mid c ph d h)
      ⊢ iprop(((owe c l ∗ fl I c ph d h 1 ∗ sendPos c ph d 1 h) -∗ WP c kt Q) -∗ WP c (nextK c ph d (lim ph) h 1 kt) Q) := by
  unfold nextK
  rcases Nat.lt_or_eq_of_le h15 with hlt | rfl
  · rw [if_pos hlt, if_neg (fun hh => absurd hh.2 (by decide))]
    unfold fl mid debtL srcFull
    rw [if_pos hlt, if_pos hlt, if_pos hlt]
    unfold sTok
    conv_lhs => unfold sendPos
    iintro ⟨#HR, HO, Hs, ⟨Hat, #Hre⟩, Hd, #Hr2, Hts, Htr⟩ Hk
    iapply (wp_sendHop I κ κ' c ph d h 1 hlt l) $$ [HO Hs Hd Hts Htr]
    · isplitr; · iexact HR
      isplitl [HO]; · iexact HO
      isplitl [Hs]; · iexact Hs
      isplitl [Hd]; · iexact Hd
      isplitl [Hts]; · iexact Hts
      isplitr; · iexact Hre
      isplitl [Htr]; · iexact Htr
      iexact Hr2
    iintro ⟨HO, Hcs, Hs⟩
    iapply Hk
    isplitl [HO]; · iexact HO
    isplitl [Hcs Hs]; · isplitl [Hs] <;> iassumption
    unfold sendPos; isplitl [Hat]; · iexact Hat
    iexact Hre
  · rw [if_neg (by omega)]
    unfold fl mid debtL srcFull
    rw [if_neg (by omega), if_neg (by omega), if_neg (by omega)]
    iintro ⟨#HR, HO, Hs, Hp, -⟩ Hk
    iapply Hk
    isplitl [HO]; · iexact HO
    isplitl [Hs]; · iexact Hs
    iexact Hp

/-! ## A half of a step, one direction -/

/-- What arrived at hop `s` and was worked on is the source of hop `s + 1`. -/
theorem arrived_src (c : Dev nD) (ph d : Bool) (s : ℕ) (q : Fin 2) :
    (slotPt fullShare c ph d (sl s) q (val I ph d q (s + 1) c) : sProp 𝕄) = srcFull I c ph d (s + 1) q := by
  unfold srcFull
  have h1 : srcPh ph (s + 1) = ph := by cases ph <;> rfl
  have h2 : srcSlot ph (s + 1) = sl s := by
    have : srcSlot ph (s + 1) = sl (s + 1 + 3) := by cases ph <;> rfl
    rw [this]; exact sl_add_four s
  rw [h1, h2]

/-- The work on an arrived half slot. -/
theorem wp_rsAdd (c : Dev nD) (d : Bool) (s : ℕ) (q : Fin 2) (kt : PP F) (Q : PUnit → sProp 𝕄) :
    slotPt fullShare c false d (sl s) q (val I false d q s (fromDev d c))
      ⊢ iprop((srcFull I c false d (s + 1) q -∗ WP c kt Q)
          -∗ WP c (loadSlotK false d (sl s) q fun v => storeSlotK d (sl s) q (addSlot v (psub I d c (xoff d c s q) (xoff_inb d c s q))) kt) Q) := by
  iintro H Hk
  iapply (wp_loadSlot fullShare c false d (sl s) q _) $$ H
  iintro H
  rw [addSlot_tileV]
  iapply (wp_storeSlot c d (sl s) q) $$ [H]
  · iapply (slotPt_raw c false d (sl s) q _); iexact H
  iintro H
  iapply Hk
  iapply (Entails.of_eq (arrived_src I c false d s q))
  iexact H

/-- Before the first half of step `s`. -/
def A0 (c : Dev nD) (ph d : Bool) (s : ℕ) : sProp 𝕄 :=
  iprop(recvPos c ph d 0 s ∗ sendPos c ph d 0 (s + 1) ∗ cred (tallyAt (recvCell c ph d s 0) s N) ∗ toks c ph d (s + 1)
    ∗ creditSt c ph d (min (s + 1) 15 - lim ph) ∗ pre (toDev d c) ph d (s + 1))
/-- After it. -/
def B0 (c : Dev nD) (ph d : Bool) (s : ℕ) : sProp 𝕄 :=
  iprop(recvPos c ph d 0 (s + 4) ∗ sendPos c ph d 0 (s + 1) ∗ fl I c ph d (s + 1) 0 ∗ toks c ph d (s + 2)
    ∗ creditSt c ph d (min (s + 2) 15 - lim ph) ∗ pre (toDev d c) ph d (s + 2))
/-- Before the second half. -/
def A1 (c : Dev nD) (ph d : Bool) (s : ℕ) : sProp 𝕄 :=
  iprop(recvPos c ph d 1 s ∗ sendPos c ph d 1 (s + 1) ∗ cred (tallyAt (recvCell c ph d s 1) s N))
/-- After it. -/
def B1 (c : Dev nD) (ph d : Bool) (s : ℕ) : sProp 𝕄 :=
  iprop(recvPos c ph d 1 (s + 4) ∗ sendPos c ph d 1 (s + 1) ∗ fl I c ph d (s + 1) 1)

/-- A reduce-scatter step in one direction, first half: received, added to, and sent on once there is a credit, if there is a next hop. -/
theorem wp_rsDir0 (c : Dev nD) (d : Bool) (s : ℕ) (h15 : s < 15) {l : List Debt}
    (hl : Above (2 * s + 8) (debtL c false d (s + 1) 0 ++ l)) (kt : PP F) (Q : PUnit → sProp 𝕄) :
    iprop(recs I κ κ' ∗ owe c (debtL c false d (s + 1) 0 ++ l) ∗ A0 c false d s)
      ⊢ iprop(((owe c l ∗ B0 I c false d s ∗ mid c false d (s + 1)) -∗ WP c kt Q)
          -∗ WP c (rsDirK c d s 0 (psub I d c (xoff d c s 0) (xoff_inb d c s 0)) kt) Q) := by
  unfold A0 B0 rsDirK
  iintro ⟨#HR, HO, Hrp, Hsp, Hc, Ht, Hcr, Hpre⟩ Hk
  iapply (wp_waitRecv I κ κ' c false d s 0 h15 hl) $$ [HO Hc Hrp]
  · isplitr; · iexact HR
    isplitl [Hc]; · iexact Hc
    isplitl [HO] <;> iassumption
  iintro ⟨HO, Hrp, Hs⟩
  iapply (wp_rsAdd I c d s 0) $$ Hs
  iintro Hs
  iapply (wp_next0 I κ κ' c false d (s + 1) h15 (fun _ => hl.mono (by show 2 * (s + 1) + 3 + 0 ≤ _; omega) fun _ h => h)) $$ [HO Hs Hsp Ht Hcr Hpre]
  · isplitr; · iexact HR
    isplitl [HO]; · iexact HO
    isplitl [Hs]; · iexact Hs
    isplitl [Hsp]; · iexact Hsp
    isplitl [Ht]; · iexact Ht
    isplitl [Hcr] <;> iassumption
  iintro ⟨HO, Hfl, Hsp, Hmid, Ht, Hcr, Hpre⟩
  iapply Hk
  isplitl [HO]; · iexact HO
  isplitr [Hmid]
  · isplitl [Hrp]; · iexact Hrp
    isplitl [Hsp]; · iexact Hsp
    isplitl [Hfl]; · iexact Hfl
    isplitl [Ht]; · iexact Ht
    isplitl [Hcr] <;> iassumption
  iexact Hmid

/-- A reduce-scatter step in one direction, second half: received, added to, and sent on if there is a next hop. -/
theorem wp_rsDir1 (c : Dev nD) (d : Bool) (s : ℕ) (h15 : s < 15) {l : List Debt}
    (hl : Above (2 * s + 8) (debtL c false d (s + 1) 1 ++ l)) (kt : PP F) (Q : PUnit → sProp 𝕄) :
    iprop(recs I κ κ' ∗ owe c (debtL c false d (s + 1) 1 ++ l) ∗ A1 c false d s ∗ mid c false d (s + 1))
      ⊢ iprop(((owe c l ∗ B1 I c false d s) -∗ WP c kt Q)
          -∗ WP c (rsDirK c d s 1 (psub I d c (xoff d c s 1) (xoff_inb d c s 1)) kt) Q) := by
  unfold A1 B1 rsDirK
  iintro ⟨#HR, HO, ⟨Hrp, Hsp, Hc⟩, Hmid⟩ Hk
  iapply (wp_waitRecv I κ κ' c false d s 1 h15 hl) $$ [HO Hc Hrp]
  · isplitr; · iexact HR
    isplitl [Hc]; · iexact Hc
    isplitl [HO] <;> iassumption
  iintro ⟨HO, Hrp, Hs⟩
  iapply (wp_rsAdd I c d s 1) $$ Hs
  iintro Hs
  iapply (wp_next1 I κ κ' c false d (s + 1) h15) $$ [HO Hs Hsp Hmid]
  · isplitr; · iexact HR
    isplitl [HO]; · iexact HO
    isplitl [Hs]; · iexact Hs
    isplitl [Hsp] <;> iassumption
  iintro ⟨HO, Hfl, Hsp⟩
  iapply Hk
  isplitl [HO]; · iexact HO
  isplitl [Hrp]; · iexact Hrp
  isplitl [Hsp] <;> iassumption

/-- An all-gather step in one direction, first half: received, and sent on once there is a credit, if there is a next hop. -/
theorem wp_agDir0 (c : Dev nD) (d : Bool) (s : ℕ) (h15 : s < 15) {l : List Debt}
    (hl : Above (2 * s + 8 + 100) (debtL c true d (s + 1) 0 ++ l)) (kt : PP F) (Q : PUnit → sProp 𝕄) :
    iprop(recs I κ κ' ∗ owe c (debtL c true d (s + 1) 0 ++ l) ∗ A0 c true d s)
      ⊢ iprop(((owe c l ∗ B0 I c true d s ∗ mid c true d (s + 1)) -∗ WP c kt Q) -∗ WP c (agDirK c d s 0 kt) Q) := by
  unfold A0 B0 agDirK
  iintro ⟨#HR, HO, Hrp, Hsp, Hc, Ht, Hcr, Hpre⟩ Hk
  iapply (wp_waitRecv I κ κ' c true d s 0 h15 hl) $$ [HO Hc Hrp]
  · isplitr; · iexact HR
    isplitl [Hc]; · iexact Hc
    isplitl [HO] <;> iassumption
  iintro ⟨HO, Hrp, Hs⟩
  ihave Hs := (show slotPt fullShare c true d (sl s) 0 (val I true d 0 s (fromDev d c)) ⊢ (srcFull I c true d (s + 1) 0 : sProp 𝕄) from Entails.of_eq (arrived_src I c true d s 0)) $$ Hs
  iapply (wp_next0 I κ κ' c true d (s + 1) h15 (fun _ => hl.mono (by show 2 * (s + 1) + 3 + 100 ≤ _; omega) fun _ h => h)) $$ [HO Hs Hsp Ht Hcr Hpre]
  · isplitr; · iexact HR
    isplitl [HO]; · iexact HO
    isplitl [Hs]; · iexact Hs
    isplitl [Hsp]; · iexact Hsp
    isplitl [Ht]; · iexact Ht
    isplitl [Hcr] <;> iassumption
  iintro ⟨HO, Hfl, Hsp, Hmid, Ht, Hcr, Hpre⟩
  iapply Hk
  isplitl [HO]; · iexact HO
  isplitr [Hmid]
  · isplitl [Hrp]; · iexact Hrp
    isplitl [Hsp]; · iexact Hsp
    isplitl [Hfl]; · iexact Hfl
    isplitl [Ht]; · iexact Ht
    isplitl [Hcr] <;> iassumption
  iexact Hmid

/-- An all-gather step in one direction, second half: received, and sent on if there is a next hop. -/
theorem wp_agDir1 (c : Dev nD) (d : Bool) (s : ℕ) (h15 : s < 15) {l : List Debt}
    (hl : Above (2 * s + 8 + 100) (debtL c true d (s + 1) 1 ++ l)) (kt : PP F) (Q : PUnit → sProp 𝕄) :
    iprop(recs I κ κ' ∗ owe c (debtL c true d (s + 1) 1 ++ l) ∗ A1 c true d s ∗ mid c true d (s + 1))
      ⊢ iprop(((owe c l ∗ B1 I c true d s) -∗ WP c kt Q) -∗ WP c (agDirK c d s 1 kt) Q) := by
  unfold A1 B1 agDirK
  iintro ⟨#HR, HO, ⟨Hrp, Hsp, Hc⟩, Hmid⟩ Hk
  iapply (wp_waitRecv I κ κ' c true d s 1 h15 hl) $$ [HO Hc Hrp]
  · isplitr; · iexact HR
    isplitl [Hc]; · iexact Hc
    isplitl [HO] <;> iassumption
  iintro ⟨HO, Hrp, Hs⟩
  ihave Hs := (show slotPt fullShare c true d (sl s) 1 (val I true d 1 s (fromDev d c)) ⊢ (srcFull I c true d (s + 1) 1 : sProp 𝕄) from Entails.of_eq (arrived_src I c true d s 1)) $$ Hs
  iapply (wp_next1 I κ κ' c true d (s + 1) h15) $$ [HO Hs Hsp Hmid]
  · isplitr; · iexact HR
    isplitl [HO]; · iexact HO
    isplitl [Hs]; · iexact Hs
    isplitl [Hsp] <;> iassumption
  iintro ⟨HO, Hfl, Hsp⟩
  iapply Hk
  isplitl [HO]; · iexact HO
  isplitl [Hrp]; · iexact Hrp
  isplitl [Hsp] <;> iassumption

/-! ## The end of a step, one direction -/

/-- The source of hop `h`, free again, contents not said. -/
def srcRaw (c : Dev nD) (ph d : Bool) (h : ℕ) (q : Fin 2) : sProp 𝕄 := slotRaw c (srcPh ph h) d (srcSlot ph h) q

/-- The wait for a hop's source to be free again. -/
theorem wp_free (c : Dev nD) (ph d : Bool) (h : ℕ) (q : Fin 2) (h15 : h < 15) {l : List Debt}
    (hl : Above 0 l) (kt : PP F) (Q : PUnit → sProp 𝕄) :
    iprop(recs I κ κ' ∗ owe c l ∗ fl I c ph d h q ∗ sendPos c ph d q h)
      ⊢ iprop(((owe c l ∗ sendPos c ph d q (h + 4) ∗ srcRaw c ph d h q) -∗ WP c kt Q) -∗ WP c (waitSendK ph d h q kt) Q) := by
  unfold fl srcRaw
  rw [if_pos h15]
  iintro ⟨#HR, HO, ⟨Hs, Hc⟩, Hsp⟩ Hk
  iapply (wp_waitSend I κ κ' c ph d h q h15 hl) $$ [HO Hc Hsp]
  · isplitr; · iexact HR
    isplitl [Hc]; · iexact Hc
    isplitl [HO] <;> iassumption
  iintro ⟨HO, Hsp, Hl⟩
  iapply Hk
  isplitl [HO]; · iexact HO
  isplitl [Hsp]; · iexact Hsp
  iapply (slotPt_raw c (srcPh ph h) d (srcSlot ph h) q (val I ph d q h c))
  iapply (slot_join c (srcPh ph h) d (srcSlot ph h) q (val I ph d q h c))
  isplitl [Hl] <;> iassumption

/-- The release counts of hop `h`'s slot, at the hops there are. -/
def rd (c : Dev nD) (ph d : Bool) (h : ℕ) : sProp 𝕄 :=
  if h < 15 then iprop(readerAt ES (c, ph, d, sl h, (0 : Fin 2)) (relN ph h - 1) ∗ readerAt ES (c, ph, d, sl h, (1 : Fin 2)) (relN ph h - 1)) else iprop(emp)

/-- The slots a phase has kept by step `s`: those its last steps freed, and the one the all-gather started from. -/
def kept (c : Dev nD) (ph d : Bool) (s : ℕ) : sProp 𝕄 :=
  iprop(bigSep (Finset.Ico 12 s) (fun h => rawPair c ph d (h + 3)) ∗ (if ph = true ∧ 1 ≤ s then rawPair c false d 2 else iprop(emp)))

/-- A step whose slot goes back to its writer keeps nothing new. -/
theorem kept_of_release (c : Dev nD) (ph d : Bool) {s : ℕ} (h12 : s < 12) (h1 : ph = true → 1 ≤ s) :
    kept c ph d s ⊢ (kept c ph d (s + 1) : sProp 𝕄) := by
  unfold kept
  rw [Finset.Ico_eq_empty (by omega), Finset.Ico_eq_empty (by omega)]
  simp only [show (ph = true ∧ 1 ≤ s + 1) ↔ (ph = true ∧ 1 ≤ s) from ⟨fun h => ⟨h.1, h1 h.1⟩, fun h => ⟨h.1, by omega⟩⟩]
  exact .rfl
/-- The slots of the last steps do not go back to their writers: they are kept. -/
theorem kept_late (c : Dev nD) (ph d : Bool) {s : ℕ} (h12 : 12 ≤ s) :
    iprop(kept c ph d s ∗ rawPair c ph d (s + 3)) ⊢ (kept c ph d (s + 1) : sProp 𝕄) := by
  unfold kept
  simp only [show (ph = true ∧ 1 ≤ s + 1) ↔ (ph = true ∧ 1 ≤ s) from ⟨fun h => ⟨h.1, by omega⟩, fun h => ⟨h.1, by omega⟩⟩]
  iintro ⟨⟨H, H'⟩, Hr⟩
  isplitr [H']
  · iapply (Ico_push h12 (fun h => rawPair c ph d (h + 3)))
    isplitl [H] <;> iassumption
  iexact H'
/-- After its first step the all-gather keeps the slot it started from. -/
theorem kept_first (c : Dev nD) (d : Bool) : rawPair c false d 2 ⊢ (kept c true d 1 : sProp 𝕄) := by
  unfold kept
  rw [if_pos ⟨rfl, le_rfl⟩]
  iintro H
  isplitr; · iapply (Ico_none (by omega))
  iexact H

/-- The permission to give a hop's credit. -/
theorem cTok_credit (c : Dev nD) (ph d : Bool) {h : ℕ} (hl : lim ph ≤ h) :
    cTok c ph d h ⊢ (dutyTok ER (credCell (fromDev d c) ph d) 0 h : sProp 𝕄) := by
  unfold cTok; rw [if_pos hl]

/-- A hop that waits for a credit writes a slot that has been given back before. -/
theorem relN_pos (ph : Bool) {h : ℕ} (hl : lim ph ≤ h) : 1 ≤ relN ph h := by
  cases ph
  · have : 3 ≤ h := hl; show 1 ≤ (h + 1) / 4; omega
  · have : 4 ≤ h := hl; show 1 ≤ h / 4; omega
/-- Four hops later the same slot is given back once more. -/
theorem relN_add_four (ph : Bool) (h : ℕ) : relN ph (h + 4) = relN ph h + 1 := by
  cases ph
  · show (h + 4 + 1) / 4 = (h + 1) / 4 + 1; omega
  · show (h + 4) / 4 = h / 4 + 1; omega

/-- Both halves of a slot read: the reader of the hop four later. -/
theorem rd_next (c : Dev nD) (ph d : Bool) (h : ℕ) :
    iprop(readerAt ES (c, ph, d, sl h, (0 : Fin 2)) (relN ph h) ∗ readerAt ES (c, ph, d, sl h, (1 : Fin 2)) (relN ph h))
      ⊢ (rd c ph d (h + 4) : sProp 𝕄) := by
  unfold rd
  split
  · rw [sl_add_four, show relN ph (h + 4) - 1 = relN ph h by rw [relN_add_four]; omega]
  · iintro -; iempintro

/-- Before the release that ends step `s`. -/
def D0 (c : Dev nD) (ph d : Bool) (s : ℕ) : sProp 𝕄 :=
  iprop(recvPos c ph d 0 (s + 3) ∗ recvPos c ph d 1 (s + 3) ∗ rd c ph d (s + 3) ∗ cum c ph d (s + 3) ∗ ctoks c ph d (s + 3) ∗ kept c ph d s)
/-- After it. -/
def D1 (c : Dev nD) (ph d : Bool) (s : ℕ) : sProp 𝕄 :=
  iprop(recvPos c ph d 0 (s + 3) ∗ recvPos c ph d 1 (s + 3) ∗ rd c ph d (s + 7) ∗ cum c ph d (s + 4) ∗ ctoks c ph d (s + 4) ∗ kept c ph d (s + 1))

/-- A step that gives credits: the freed source goes back to its sender. -/
theorem wp_release (c : Dev nD) (ph d : Bool) (s : ℕ) (hs : lim ph ≤ s + 3 ∧ s + 3 < 15) {l : List Debt} (kt : PP F) (Q : PUnit → sProp 𝕄) :
    iprop(recs I κ κ' ∗ owe c (debtCred c ph d (s + 3) :: l) ∗ srcRaw c ph d s 0 ∗ srcRaw c ph d s 1 ∗ D0 c ph d s)
      ⊢ iprop(((owe c l ∗ D1 c ph d s) -∗ WP c kt Q) -∗ WP c (signalCreditK c ph d kt) Q) := by
  have hsrc : srcPh ph s = ph ∧ srcSlot ph s = sl (s + 3) := by
    cases ph
    · exact ⟨rfl, rfl⟩
    · cases s with
      | zero => exact absurd hs.1 (by decide)
      | succ n => exact ⟨rfl, rfl⟩
  unfold D0 D1 srcRaw
  rw [hsrc.1, hsrc.2]
  conv_lhs => unfold rd recvPos
  rw [if_pos hs.2]
  iintro ⟨#HR, HO, Hs0, Hs1, ⟨Hrp0, #Hre0⟩, ⟨Hrp1, #Hre1⟩, ⟨Hrd0, Hrd1⟩, #Hcum, Hct, Hkept⟩ Hk
  have e1 : relN ph (s + 3) - 1 + 1 = relN ph (s + 3) := by have := relN_pos ph hs.1; omega
  imod (slot_release (Es := Set.univ) ES (Set.mem_univ (κ' (c, ph, d, sl (s + 3), (0 : Fin 2)))) (slotRaw_excl c ph d (sl (s + 3)) 0) (relN ph (s + 3) - 1)) $$ [Hs0 Hrd0] with ⟨Hrd0, #Hrel0⟩
  · isplitr; · iapply (recs_slot I κ κ' c ph d (sl (s + 3)) 0); iexact HR
    isplitl [Hrd0] <;> iassumption
  imod (slot_release (Es := Set.univ) ES (Set.mem_univ (κ' (c, ph, d, sl (s + 3), (1 : Fin 2)))) (slotRaw_excl c ph d (sl (s + 3)) 1) (relN ph (s + 3) - 1)) $$ [Hs1 Hrd1] with ⟨Hrd1, #Hrel1⟩
  · isplitr; · iapply (recs_slot I κ κ' c ph d (sl (s + 3)) 1); iexact HR
    isplitl [Hrd1] <;> iassumption
  rw [e1]
  unfold ctoks
  ihave Hct := (Ico_peel hs.2 (cTok c ph d)) $$ Hct
  icases Hct with ⟨Htok, Hct⟩
  ihave Htok := (cTok_credit c ph d hs.1) $$ Htok
  have hcum := cum_succ (F := F) c ph d hs.1 hs.2
  ihave Hcum' : cum c ph d (s + 3 + 1) $$ []
  · rw [hcum]
    unfold relFacts
    isplitr; · iexact Hcum
    isplitr
    · isplitr; · iexact Hrel0
      iexact Hre0
    isplitr; · iexact Hrel1
    iexact Hre1
  icases Hcum' with #Hcum'
  iapply (wp_signalCredit I κ κ' c ph d (s + 3) hs.1 hs.2 l) $$ [HO Htok]
  · isplitr; · iexact HR
    isplitl [HO]; · iexact HO
    isplitl [Htok]; · iexact Htok
    iexact Hcum'
  iintro HO
  iapply Hk
  isplitl [HO]; · iexact HO
  isplitl [Hrp0]
  · unfold recvPos; isplitl [Hrp0]; · iexact Hrp0
    iexact Hre0
  isplitl [Hrp1]
  · unfold recvPos; isplitl [Hrp1]; · iexact Hrp1
    iexact Hre1
  isplitl [Hrd0 Hrd1]
  · iapply (rd_next c ph d (s + 3))
    isplitl [Hrd0] <;> iassumption
  isplitr; · iexact Hcum'
  isplitl [Hct]; · iexact Hct
  iapply (kept_of_release c ph d (by omega) (fun hh => by subst hh; have : 4 ≤ s + 3 := hs.1; omega)) $$ Hkept

/-- A step that gives none: the freed source stays. -/
theorem no_release (c : Dev nD) (ph d : Bool) (s : ℕ) (hs : ¬ (lim ph ≤ s + 3 ∧ s + 3 < 15)) :
    iprop(srcRaw c ph d s 0 ∗ srcRaw c ph d s 1 ∗ D0 c ph d s) ⊢ (D1 c ph d s : sProp 𝕄) := by
  have hcum := cum_skip (F := F) c ph d hs
  unfold D0 D1
  rw [show cum c ph d (s + 4) = (cum c ph d (s + 3) : sProp 𝕄) from hcum]
  iintro ⟨Hs0, Hs1, Hrp0, Hrp1, Hrd, Hcum, Hct, Hkept⟩
  isplitl [Hrp0]; · iexact Hrp0
  isplitl [Hrp1]; · iexact Hrp1
  by_cases h12 : 12 ≤ s
  · have hsrc : srcPh ph s = ph ∧ srcSlot ph s = sl (s + 3) := by
      cases ph
      · exact ⟨rfl, rfl⟩
      · cases s with
        | zero => omega
        | succ n => exact ⟨rfl, rfl⟩
    isplitr
    · unfold rd; rw [if_neg (by omega)]; iempintro
    isplitl [Hcum]; · iexact Hcum
    isplitr; · unfold ctoks; iapply (Ico_none (by omega))
    iapply (kept_late c ph d h12)
    isplitl [Hkept]; · iexact Hkept
    unfold srcRaw rawPair
    rw [hsrc.1, hsrc.2]
    isplitl [Hs0] <;> iassumption
  · obtain ⟨rfl, rfl⟩ : ph = true ∧ s = 0 := by
      cases ph
      · exact absurd ⟨show 3 ≤ s + 3 by omega, by omega⟩ hs
      · refine ⟨rfl, ?_⟩
        by_contra hne
        exact hs ⟨show 4 ≤ s + 3 by omega, by omega⟩
    isplitl [Hrd]
    · iexact Hrd
    isplitl [Hcum]; · iexact Hcum
    isplitl [Hct]
    · unfold ctoks
      ihave Hct := (Ico_peel (show 3 < 15 by decide) (cTok c true d)) $$ Hct
      icases Hct with ⟨-, Hct⟩
      iexact Hct
    iapply (kept_first c d)
    unfold srcRaw rawPair
    isplitl [Hs0]; · iexact Hs0
    iexact Hs1

end Cert.Ring

end
-- ==== Proof.Steps.lean ====
/-
# Steps: the state of a direction between steps, and the two phases
-/
module

public import proofs.«01_k».proof.Proof.Hops

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F) (κ : Dev nD × CK → ℕ) (κ' : SK → ℕ)

/-! ## The state between two steps -/

/-- Four hops in a row: one for each slot. -/
def win4 (P : ℕ → sProp 𝕄) (s : ℕ) : sProp 𝕄 := iprop(P s ∗ P (s + 1) ∗ P (s + 2) ∗ P (s + 3))

/-- A window of four, taken apart. -/
theorem win4_out (P : ℕ → sProp 𝕄) (s : ℕ) : win4 P s ⊢ iprop(P s ∗ P (s + 1) ∗ P (s + 2) ∗ P (s + 3)) := .rfl

/-- The positions at the semaphores of a direction before step `s`. -/
def posSt (c : Dev nD) (ph d : Bool) (s : ℕ) : sProp 𝕄 :=
  iprop(win4 (recvPos c ph d 0) s ∗ win4 (recvPos c ph d 1) s ∗ win4 (sendPos c ph d 0) s ∗ win4 (sendPos c ph d 1) s)

/-- A direction before step `s`. -/
def St (c : Dev nD) (ph d : Bool) (s : ℕ) : sProp 𝕄 :=
  iprop(posSt c ph d s ∗ fl I c ph d s 0 ∗ fl I c ph d s 1 ∗ win4 (rd c ph d) (s + 3)
    ∗ creditSt c ph d (min (s + 1) 15 - lim ph) ∗ cum c ph d (s + 3) ∗ kept c ph d s ∗ pre (toDev d c) ph d (s + 1)
    ∗ toks c ph d (s + 1) ∗ rtoks c ph d s ∗ ctoks c ph d (s + 3))

/-- What step `s` does not touch. -/
def Rest (c : Dev nD) (ph d : Bool) (s : ℕ) : sProp 𝕄 :=
  iprop((recvPos c ph d 0 (s + 1) ∗ recvPos c ph d 0 (s + 2)) ∗ (recvPos c ph d 1 (s + 1) ∗ recvPos c ph d 1 (s + 2))
    ∗ (sendPos c ph d 0 (s + 2) ∗ sendPos c ph d 0 (s + 3)) ∗ (sendPos c ph d 1 (s + 2) ∗ sendPos c ph d 1 (s + 3))
    ∗ (rd c ph d (s + 4) ∗ rd c ph d (s + 5) ∗ rd c ph d (s + 6)) ∗ rtoks c ph d (s + 1))

/-- The state before step `s`, dealt to the step's moves. -/
theorem St_split (c : Dev nD) (ph d : Bool) (s : ℕ) (h15 : s < 15) :
    St I c ph d s ⊢ (iprop(A0 c ph d s ∗ A1 c ph d s ∗ (fl I c ph d s 0 ∗ sendPos c ph d 0 s) ∗ (fl I c ph d s 1 ∗ sendPos c ph d 1 s)
      ∗ D0 c ph d s ∗ Rest c ph d s) : sProp 𝕄) := by
  unfold St posSt win4 A0 A1 D0 Rest rtoks
  iintro ⟨⟨⟨Ra0, Ra1, Ra2, Ra3⟩, ⟨Rb0, Rb1, Rb2, Rb3⟩, ⟨Sa0, Sa1, Sa2, Sa3⟩, ⟨Sb0, Sb1, Sb2, Sb3⟩⟩, Hf0, Hf1, ⟨D3, D4, D5, D6⟩, Hcr, Hcum, Hk, Hpre, Ht, Hr, Hc⟩
  ihave Hr := (Ico_peel h15 (rTok c ph d)) $$ Hr
  icases Hr with ⟨Hr01, Hr⟩
  ihave Hr01 := (show rTok c ph d s ⊢ (iprop(cred (tallyAt (recvCell c ph d s 0) s N) ∗ cred (tallyAt (recvCell c ph d s 1) s N)) : sProp 𝕄) from .rfl) $$ Hr01
  icases Hr01 with ⟨Hr0, Hr1⟩
  isplitl [Ra0 Sa1 Hr0 Ht Hcr Hpre]; · iframe
  isplitl [Rb0 Sb1 Hr1]; · iframe
  isplitl [Hf0 Sa0]; · iframe
  isplitl [Hf1 Sb0]; · iframe
  isplitl [Ra3 Rb3 D3 Hcum Hc Hk]; · iframe
  isplitl [Ra1 Ra2]; · iframe
  isplitl [Rb1 Rb2]; · iframe
  isplitl [Sa2 Sa3]; · iframe
  isplitl [Sb2 Sb3]; · iframe
  isplitl [D4 D5 D6]; · iframe
  iexact Hr

/-- After the step's moves: the state before step `s + 1`. -/
theorem St_join (c : Dev nD) (ph d : Bool) (s : ℕ) :
    iprop(B0 I c ph d s ∗ B1 I c ph d s ∗ sendPos c ph d 0 (s + 4) ∗ sendPos c ph d 1 (s + 4) ∗ D1 c ph d s ∗ Rest c ph d s)
      ⊢ (St I c ph d (s + 1) : sProp 𝕄) := by
  unfold St posSt win4 B0 B1 D1 Rest
  iintro ⟨⟨Ra4, Sa1, Hf0, Ht, Hcr, Hpre⟩, ⟨Rb4, Sb1, Hf1⟩, Sa4, Sb4, ⟨Ra3, Rb3, D7, Hcum, Hc, Hk⟩, ⟨Ra1, Ra2⟩, ⟨Rb1, Rb2⟩, ⟨Sa2, Sa3⟩, ⟨Sb2, Sb3⟩, ⟨D4, D5, D6⟩, Hr⟩
  isplitl [Ra1 Ra2 Ra3 Ra4 Rb1 Rb2 Rb3 Rb4 Sa1 Sa2 Sa3 Sa4 Sb1 Sb2 Sb3 Sb4]
  · isplitl [Ra1 Ra2 Ra3 Ra4]; · iframe
    isplitl [Rb1 Rb2 Rb3 Rb4]; · iframe
    isplitl [Sa1 Sa2 Sa3 Sa4]; · iframe
    iframe
  isplitl [Hf0]; · iexact Hf0
  isplitl [Hf1]; · iexact Hf1
  isplitl [D4 D5 D6 D7]; · iframe
  isplitl [Hcr]; · iexact Hcr
  isplitl [Hcum]; · iexact Hcum
  isplitl [Hk]; · iexact Hk
  isplitl [Hpre]; · iexact Hpre
  isplitl [Ht]; · iexact Ht
  isplitl [Hr]; · iexact Hr
  iexact Hc

/-! ## The end of a step -/

/-- For a hop that waits for credits a device owes one in each direction. -/
theorem credDebts_pos (c : Dev nD) (ph : Bool) {h : ℕ} (hh : lim ph ≤ h ∧ h < 15) :
    credDebts c ph h = [debtCred c ph false h, debtCred c ph true h] := if_pos hh
/-- For a hop that waits for no credit a device owes none. -/
theorem credDebts_neg (c : Dev nD) (ph : Bool) {h : ℕ} (hh : ¬ (lim ph ≤ h ∧ h < 15)) : credDebts c ph h = [] := if_neg hh

/-- The waits for the sources and the credits. -/
theorem wp_stepEnd (c : Dev nD) (ph : Bool) (s : ℕ) (h15 : s < 15) {l : List Debt} (hl : Above 0 (credDebts c ph (s + 3) ++ l))
    (b : Bool) (hb : b = decide (lim ph ≤ s + 3 ∧ s + 3 < 15)) (kt : PP F) (Q : PUnit → sProp 𝕄) :
    iprop(recs I κ κ' ∗ owe c (credDebts c ph (s + 3) ++ l)
        ∗ ((fl I c ph false s 0 ∗ sendPos c ph false 0 s) ∗ (fl I c ph false s 1 ∗ sendPos c ph false 1 s) ∗ D0 c ph false s)
        ∗ ((fl I c ph true s 0 ∗ sendPos c ph true 0 s) ∗ (fl I c ph true s 1 ∗ sendPos c ph true 1 s) ∗ D0 c ph true s))
      ⊢ iprop(((owe c l ∗ (sendPos c ph false 0 (s + 4) ∗ sendPos c ph false 1 (s + 4) ∗ D1 c ph false s)
            ∗ (sendPos c ph true 0 (s + 4) ∗ sendPos c ph true 1 (s + 4) ∗ D1 c ph true s)) -∗ WP c kt Q)
          -∗ WP c (waitSendsK ph s <| creditsK c ph b kt) Q) := by
  unfold waitSendsK
  iintro ⟨#HR, HO, ⟨Ha0, Ha1, HaD⟩, ⟨Hb0, Hb1, HbD⟩⟩ Hk
  iapply (wp_free I κ κ' c ph false s 0 h15 hl) $$ [HO Ha0]
  · isplitr; · iexact HR
    isplitl [HO] <;> iassumption
  iintro ⟨HO, Sa0, Ra0⟩
  iapply (wp_free I κ κ' c ph true s 0 h15 hl) $$ [HO Hb0]
  · isplitr; · iexact HR
    isplitl [HO] <;> iassumption
  iintro ⟨HO, Sb0, Rb0⟩
  iapply (wp_free I κ κ' c ph false s 1 h15 hl) $$ [HO Ha1]
  · isplitr; · iexact HR
    isplitl [HO] <;> iassumption
  iintro ⟨HO, Sa1, Ra1⟩
  iapply (wp_free I κ κ' c ph true s 1 h15 hl) $$ [HO Hb1]
  · isplitr; · iexact HR
    isplitl [HO] <;> iassumption
  iintro ⟨HO, Sb1, Rb1⟩
  subst hb
  by_cases hc : lim ph ≤ s + 3 ∧ s + 3 < 15
  · rw [decide_eq_true hc]
    unfold creditsK
    rw [if_pos rfl]
    ihave HO := (show owe c (credDebts c ph (s + 3) ++ l) ⊢ (owe c (debtCred c ph false (s + 3) :: debtCred c ph true (s + 3) :: l) : sProp 𝕄) from
      by rw [credDebts_pos c ph hc]; exact .rfl) $$ HO
    iapply (wp_release I κ κ' c ph false s hc) $$ [HO Ra0 Ra1 HaD]
    · isplitr; · iexact HR
      isplitl [HO]; · iexact HO
      isplitl [Ra0]; · iexact Ra0
      isplitl [Ra1] <;> iassumption
    iintro ⟨HO, HaD⟩
    iapply (wp_release I κ κ' c ph true s hc) $$ [HO Rb0 Rb1 HbD]
    · isplitr; · iexact HR
      isplitl [HO]; · iexact HO
      isplitl [Rb0]; · iexact Rb0
      isplitl [Rb1] <;> iassumption
    iintro ⟨HO, HbD⟩
    iapply Hk
    isplitl [HO]; · iexact HO
    isplitl [Sa0 Sa1 HaD]
    · isplitl [Sa0]; · iexact Sa0
      isplitl [Sa1] <;> iassumption
    isplitl [Sb0]; · iexact Sb0
    isplitl [Sb1] <;> iassumption
  · rw [decide_eq_false hc]
    unfold creditsK
    rw [if_neg (by decide)]
    ihave HO := (show owe c (credDebts c ph (s + 3) ++ l) ⊢ (owe c l : sProp 𝕄) from
      by rw [credDebts_neg c ph hc]; exact .rfl) $$ HO
    iapply Hk
    isplitl [HO]; · iexact HO
    isplitl [Sa0 Sa1 Ra0 Ra1 HaD]
    · isplitl [Sa0]; · iexact Sa0
      isplitl [Sa1]; · iexact Sa1
      iapply (no_release c ph false s hc)
      isplitl [Ra0]; · iexact Ra0
      isplitl [Ra1] <;> iassumption
    isplitl [Sb0]; · iexact Sb0
    isplitl [Sb1]; · iexact Sb1
    iapply (no_release c ph true s hc)
    isplitl [Rb0]; · iexact Rb0
    isplitl [Rb1] <;> iassumption

/-! ## The reduce-scatter -/

/-- A step's debts, in the order in which they are paid. -/
theorem stepDebts_eq (c : Dev nD) (ph : Bool) (n s : ℕ) (l : List Debt) :
    stepDebts c ph (n + 1) s l = debtL c ph false (s + 1) 0 ++ (debtL c ph true (s + 1) 0 ++ (debtL c ph false (s + 1) 1
      ++ (debtL c ph true (s + 1) 1 ++ (credDebts c ph (s + 3) ++ stepDebts c ph n (s + 1) l)))) := by
  conv_lhs => unfold stepDebts
  rw [sendDebts_eq]
  simp only [List.append_assoc]

/-- A step of the reduce-scatter. -/
theorem wp_rsStep (c : Dev nD) (n s : ℕ) (hs : s + (n + 1) ≤ 15) {l : List Debt} (hl : Above (2 * s + 8) (stepDebts c false (n + 1) s l))
    (kt : PP F) (Q : PUnit → sProp 𝕄) :
    iprop(recs I κ κ' ∗ owe c (stepDebts c false (n + 1) s l) ∗ insPt I c ∗ St I c false false s ∗ St I c false true s)
      ⊢ iprop(((owe c (stepDebts c false n (s + 1) l) ∗ insPt I c ∗ St I c false false (s + 1) ∗ St I c false true (s + 1)) -∗ WP c kt Q)
          -∗ WP c (rsStepK c s kt) Q) := by
  have h15 : s < 15 := by omega
  rw [stepDebts_eq] at hl ⊢
  unfold rsStepK rsHalfK
  iintro ⟨#HR, HO, Hin, HA, HB⟩ Hk
  ihave HA := (St_split I c false false s h15) $$ HA
  ihave HB := (St_split I c false true s h15) $$ HB
  icases HA with ⟨Aa0, Aa1, Ca0, Ca1, Da, Rea⟩
  icases HB with ⟨Ab0, Ab1, Cb0, Cb1, Db, Reb⟩
  iapply (wp_psub I c false (xoff false c s 0) (xoff_inb false c s 0)) $$ Hin
  iintro Hin
  iapply (wp_psub I c true (xoff true c s 0) (xoff_inb true c s 0)) $$ Hin
  iintro Hin
  iapply (wp_rsDir0 I κ κ' c false s h15 hl) $$ [HO Aa0]
  · isplitr; · iexact HR
    isplitl [HO] <;> iassumption
  iintro ⟨HO, Ba0, Hma⟩
  iapply (wp_rsDir0 I κ κ' c true s h15 hl.right) $$ [HO Ab0]
  · isplitr; · iexact HR
    isplitl [HO] <;> iassumption
  iintro ⟨HO, Bb0, Hmb⟩
  iapply (wp_psub I c false (xoff false c s 1) (xoff_inb false c s 1)) $$ Hin
  iintro Hin
  iapply (wp_psub I c true (xoff true c s 1) (xoff_inb true c s 1)) $$ Hin
  iintro Hin
  iapply (wp_rsDir1 I κ κ' c false s h15 hl.right.right) $$ [HO Aa1 Hma]
  · isplitr; · iexact HR
    isplitl [HO]; · iexact HO
    isplitl [Aa1] <;> iassumption
  iintro ⟨HO, Ba1⟩
  iapply (wp_rsDir1 I κ κ' c true s h15 hl.right.right.right) $$ [HO Ab1 Hmb]
  · isplitr; · iexact HR
    isplitl [HO]; · iexact HO
    isplitl [Ab1] <;> iassumption
  iintro ⟨HO, Bb1⟩
  iapply (wp_stepEnd I κ κ' c false s h15 (hl.right.right.right.right.mono (Nat.zero_le _) fun _ h => h) (decide (s ≤ 11))
    (decide_eq_decide.mpr ⟨fun h => ⟨show 3 ≤ s + 3 by omega, by omega⟩, fun h => by omega⟩)) $$ [HO Ca0 Ca1 Da Cb0 Cb1 Db]
  · isplitr; · iexact HR
    isplitl [HO]; · iexact HO
    isplitl [Ca0 Ca1 Da]
    · isplitl [Ca0]; · iexact Ca0
      isplitl [Ca1] <;> iassumption
    isplitl [Cb0]; · iexact Cb0
    isplitl [Cb1] <;> iassumption
  iintro ⟨HO, ⟨Sa0, Sa1, Da⟩, ⟨Sb0, Sb1, Db⟩⟩
  iapply Hk
  isplitl [HO]; · iexact HO
  isplitl [Hin]; · iexact Hin
  isplitl [Ba0 Ba1 Sa0 Sa1 Da Rea]
  · iapply (St_join I c false false s)
    isplitl [Ba0]; · iexact Ba0
    isplitl [Ba1]; · iexact Ba1
    isplitl [Sa0]; · iexact Sa0
    isplitl [Sa1]; · iexact Sa1
    isplitl [Da] <;> iassumption
  iapply (St_join I c false true s)
  isplitl [Bb0]; · iexact Bb0
  isplitl [Bb1]; · iexact Bb1
  isplitl [Sb0]; · iexact Sb0
  isplitl [Sb1]; · iexact Sb1
  isplitl [Db] <;> iassumption

/-- The reduce-scatter's steps, by induction on their number. -/
theorem wp_rs (c : Dev nD) {l : List Debt} (hl : Above 100 l) (kt : PP F) (Q : PUnit → sProp 𝕄) :
    ∀ n s, s + n ≤ 15 →
    iprop(recs I κ κ' ∗ owe c (stepDebts c false n s l) ∗ insPt I c ∗ St I c false false s ∗ St I c false true s)
      ⊢ iprop(((owe c l ∗ insPt I c ∗ St I c false false (s + n) ∗ St I c false true (s + n)) -∗ WP c kt Q) -∗ WP c (rsK c n s kt) Q)
  | 0, s, hs => by
    unfold stepDebts rsK
    iintro ⟨-, H⟩ Hk
    iapply Hk
    iexact H
  | n + 1, s, hs => by
    unfold rsK
    iintro ⟨#HR, HO, Hin, HA, HB⟩ Hk
    iapply (wp_rsStep I κ κ' c n s hs (above_steps c false hl (n + 1) s hs)) $$ [HO Hin HA HB]
    · isplitr; · iexact HR
      isplitl [HO]; · iexact HO
      isplitl [Hin]; · iexact Hin
      isplitl [HA] <;> iassumption
    iintro ⟨HO, Hin, HA, HB⟩
    iapply (wp_rs c hl kt Q n (s + 1) (by omega)) $$ [HO Hin HA HB]
    · isplitr; · iexact HR
      isplitl [HO]; · iexact HO
      isplitl [Hin]; · iexact Hin
      isplitl [HA] <;> iassumption
    rw [show s + 1 + n = s + (n + 1) by omega]
    iexact Hk

/-! ## A phase's first sends -/

/-- A direction before a phase's first hop. -/
def Init (c : Dev nD) (ph d : Bool) : sProp 𝕄 :=
  iprop(posSt c ph d 0 ∗ win4 (rd c ph d) 3 ∗ creditSt c ph d 0 ∗ toks c ph d 0 ∗ rtoks c ph d 0 ∗ ctoks c ph d 3)

/-- Before hop 3 there is no news, so nothing is needed to have it. -/
theorem cum_three (e : Dev nD) (ph d : Bool) : (⊢ (cum e ph d 3 : sProp 𝕄)) := by
  have h3 := three_le_lim ph
  rw [cum_skip e ph d (by omega), cum_skip e ph d (by omega), cum_skip e ph d (by omega)]
  unfold cum
  exact .rfl

/-- At first nothing is kept. -/
theorem kept_zero (c : Dev nD) (ph d : Bool) : (⊢ (kept c ph d 0 : sProp 𝕄)) := by
  unfold kept
  rw [if_neg (by omega)]
  istart
  isplitr; · iapply (Ico_none (by omega))
  iempintro

/-- What the first sends leave of a direction. -/
theorem St_zero (c : Dev nD) (ph d : Bool) :
    iprop((sendPos c ph d 0 0 ∗ sendPos c ph d 1 0) ∗ (fl I c ph d 0 0 ∗ fl I c ph d 0 1) ∗ toks c ph d 1 ∗ creditSt c ph d (min 1 15 - lim ph) ∗ pre (toDev d c) ph d 1
      ∗ (win4 (recvPos c ph d 0) 0 ∗ win4 (recvPos c ph d 1) 0) ∗ (sendPos c ph d 0 1 ∗ sendPos c ph d 0 2 ∗ sendPos c ph d 0 3)
      ∗ (sendPos c ph d 1 1 ∗ sendPos c ph d 1 2 ∗ sendPos c ph d 1 3) ∗ win4 (rd c ph d) 3 ∗ rtoks c ph d 0 ∗ ctoks c ph d 3)
      ⊢ (St I c ph d 0 : sProp 𝕄) := by
  unfold St posSt win4
  iintro ⟨⟨Sa0, Sb0⟩, ⟨Hf0, Hf1⟩, Ht, Hcr, Hpre, ⟨Ra, Rb⟩, ⟨Sa1, Sa2, Sa3⟩, ⟨Sb1, Sb2, Sb3⟩, Hrd, Hr, Hc⟩
  isplitl [Ra Rb Sa0 Sa1 Sa2 Sa3 Sb0 Sb1 Sb2 Sb3]
  · isplitl [Ra]; · iexact Ra
    isplitl [Rb]; · iexact Rb
    isplitl [Sa0 Sa1 Sa2 Sa3]; · iframe
    iframe
  isplitl [Hf0]; · iexact Hf0
  isplitl [Hf1]; · iexact Hf1
  isplitl [Hrd]; · iexact Hrd
  isplitl [Hcr]; · iexact Hcr
  isplitr; · iapply (cum_three c ph d)
  isplitr; · iapply (kept_zero c ph d)
  isplitl [Hpre]; · iexact Hpre
  isplitl [Ht]; · iexact Ht
  isplitl [Hr]; · iexact Hr
  iexact Hc

/-- The first send asks for no credit. -/
theorem sendK_next (c : Dev nD) (ph d : Bool) (q : Fin 2) (k : PP F) : sendK c ph d 0 q k = nextK c ph d (lim ph) 0 q k := by
  unfold nextK
  rw [if_pos (by decide), if_neg (fun h => absurd h.1 (by cases ph <;> decide))]

/-- A phase's first hop, both directions. -/
theorem wp_sends (c : Dev nD) (ph : Bool) {l : List Debt} (kt : PP F) (Q : PUnit → sProp 𝕄) :
    iprop(recs I κ κ' ∗ owe c (sendDebts c ph 0 ++ l)
        ∗ ((srcFull I c ph false 0 0 ∗ srcFull I c ph false 0 1) ∗ Init c ph false ∗ pre (toDev false c) ph false 0)
        ∗ ((srcFull I c ph true 0 0 ∗ srcFull I c ph true 0 1) ∗ Init c ph true ∗ pre (toDev true c) ph true 0))
      ⊢ iprop(((owe c l ∗ St I c ph false 0 ∗ St I c ph true 0) -∗ WP c kt Q) -∗ WP c (sendsK c ph kt) Q) := by
  have hno : ∀ (d : Bool) (l : List Debt), lim ph ≤ 0 → Above (2 * 0 + 3 + (if ph then 100 else 0)) (debtL c ph d 0 0 ++ l) := fun d l h =>
    absurd h (by cases ph <;> decide)
  unfold sendsK Init posSt
  rw [sendK_next, sendK_next, sendK_next, sendK_next, sendDebts_eq]
  simp only [List.append_assoc]
  iintro ⟨#HR, HO, ⟨⟨Xa0, Xa1⟩, ⟨⟨Ra0, Ra1, Wa0, Wa1⟩, Da, Ca, Ta, Wa, Ka⟩, Pa⟩,
    ⟨⟨Xb0, Xb1⟩, ⟨⟨Rb0, Rb1, Wb0, Wb1⟩, Db, Cb, Tb, Wb, Kb⟩, Pb⟩⟩ Hk
  ihave Wa0 := (win4_out _ 0) $$ Wa0
  icases Wa0 with ⟨Sa0, Sa01, Sa02, Sa03⟩
  ihave Wa1 := (win4_out _ 0) $$ Wa1
  icases Wa1 with ⟨Sa1, Sa11, Sa12, Sa13⟩
  ihave Wb0 := (win4_out _ 0) $$ Wb0
  icases Wb0 with ⟨Sb0, Sb01, Sb02, Sb03⟩
  ihave Wb1 := (win4_out _ 0) $$ Wb1
  icases Wb1 with ⟨Sb1, Sb11, Sb12, Sb13⟩
  iapply (wp_next0 I κ κ' c ph false 0 (by decide) (hno false _)) $$ [HO Xa0 Sa0 Ta Ca Pa]
  · isplitr; · iexact HR
    isplitl [HO]; · iexact HO
    isplitl [Xa0]; · iexact Xa0
    isplitl [Sa0]; · iexact Sa0
    isplitl [Ta]; · iexact Ta
    isplitl [Ca]
    · rw [show min 0 15 - lim ph = 0 by omega]; iexact Ca
    iexact Pa
  iintro ⟨HO, Fa0, Sa0, Ma, Ta, Ca, Pa⟩
  iapply (wp_next0 I κ κ' c ph true 0 (by decide) (hno true _)) $$ [HO Xb0 Sb0 Tb Cb Pb]
  · isplitr; · iexact HR
    isplitl [HO]; · iexact HO
    isplitl [Xb0]; · iexact Xb0
    isplitl [Sb0]; · iexact Sb0
    isplitl [Tb]; · iexact Tb
    isplitl [Cb]
    · rw [show min 0 15 - lim ph = 0 by omega]; iexact Cb
    iexact Pb
  iintro ⟨HO, Fb0, Sb0, Mb, Tb, Cb, Pb⟩
  iapply (wp_next1 I κ κ' c ph false 0 (by decide)) $$ [HO Xa1 Sa1 Ma]
  · isplitr; · iexact HR
    isplitl [HO]; · iexact HO
    isplitl [Xa1]; · iexact Xa1
    isplitl [Sa1] <;> iassumption
  iintro ⟨HO, Fa1, Sa1⟩
  iapply (wp_next1 I κ κ' c ph true 0 (by decide)) $$ [HO Xb1 Sb1 Mb]
  · isplitr; · iexact HR
    isplitl [HO]; · iexact HO
    isplitl [Xb1]; · iexact Xb1
    isplitl [Sb1] <;> iassumption
  iintro ⟨HO, Fb1, Sb1⟩
  iapply Hk
  isplitl [HO]; · iexact HO
  isplitl [Sa0 Sa1 Fa0 Fa1 Ta Ca Pa Ra0 Ra1 Sa01 Sa02 Sa03 Sa11 Sa12 Sa13 Da Wa Ka]
  · iapply (St_zero I c ph false)
    isplitl [Sa0 Sa1]; · isplitl [Sa0] <;> iassumption
    isplitl [Fa0 Fa1]; · isplitl [Fa0] <;> iassumption
    isplitl [Ta]; · iexact Ta
    isplitl [Ca]; · iexact Ca
    isplitl [Pa]; · iexact Pa
    isplitl [Ra0 Ra1]; · isplitl [Ra0] <;> iassumption
    isplitl [Sa01 Sa02 Sa03]; · iframe
    isplitl [Sa11 Sa12 Sa13]; · iframe
    isplitl [Da]; · iexact Da
    isplitl [Wa] <;> iassumption
  iapply (St_zero I c ph true)
  isplitl [Sb0 Sb1]; · isplitl [Sb0] <;> iassumption
  isplitl [Fb0 Fb1]; · isplitl [Fb0] <;> iassumption
  isplitl [Tb]; · iexact Tb
  isplitl [Cb]; · iexact Cb
  isplitl [Pb]; · iexact Pb
  isplitl [Rb0 Rb1]; · isplitl [Rb0] <;> iassumption
  isplitl [Sb01 Sb02 Sb03]; · iframe
  isplitl [Sb11 Sb12 Sb13]; · iframe
  isplitl [Db]; · iexact Db
  isplitl [Wb] <;> iassumption

end Cert.Ring

end
-- ==== Proof.Gather.lean ====
/-
# The all-gather, the output, and the whole body
-/
module

public import proofs.«01_k».proof.Proof.Steps

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F) (κ : Dev nD × CK → ℕ) (κ' : SK → ℕ)

/-! ## Which block arrives when -/

/-- The device whose block arrives at device `c` in direction `d` with hop `t - 1`. -/
def blkOf (d : Bool) (t : ℕ) (c : Dev nD) : Dev nD := (fromDev d)^[t] c

/-- How many hops to the right of device `b` device `c` lies. -/
def dist (c b : Dev nD) : ℕ := (c.val + 16 - b.val) % 16

/-- The distance round the ring is below sixteen. -/
theorem dist_lt (c b : Dev nD) : dist c b < 16 := Nat.mod_lt _ (by decide)

/-- The block that reaches a device at step `t` going right is the one at distance `t`. -/
theorem dist_right (c b : Dev nD) {t : ℕ} (ht : t < 16) : b = blkOf false t c ↔ dist c b = t := by
  have h : ∀ (c b : Dev nD) (t : Fin 16), b = blkOf false t.val c ↔ dist c b = t.val := by
    unfold blkOf; decide +kernel
  exact h c b ⟨t, ht⟩

/-- The block that reaches a device at step `t + 1` going left is the one at distance `15 - t`. -/
theorem dist_left (c b : Dev nD) {t : ℕ} (ht : t < 15) : b = blkOf true (t + 1) c ↔ dist c b + t = 15 := by
  have h : ∀ (c b : Dev nD) (t : Fin 15), b = blkOf true (t.val + 1) c ↔ dist c b + t.val = 15 := by
    unfold blkOf; decide +kernel
  exact h c b ⟨t, ht⟩

/-- A step's output window is that of the block that arrived. -/
theorem ooff_blk (d : Bool) (c : Dev nD) (q : Fin 2) {t : ℕ} (ht : t < 15) : ooff d c t q = offB (blkOf d (t + 1) c) q := by
  have h : ∀ (d : Bool) (c : Dev nD) (q : Fin 2) (t : Fin 15), ooff d c t.val q = offB (blkOf d (t.val + 1) c) q := by
    unfold blkOf; decide +kernel
  exact h d c q ⟨t, ht⟩

/-- What the all-gather passes on is the complete tile of the block it came from. -/
theorem agV_blk (d : Bool) (q : Fin 2) : ∀ (t : ℕ) (c : Dev nD), agV I d q t c = rsV I d q 15 (blkOf d t c)
  | 0, _ => rfl
  | t + 1, c => by
    unfold agV blkOf
    rw [Function.iterate_succ_apply]
    exact agV_blk d q t (fromDev d c)

/-! ## The output's windows as the steps go -/

/-- Direction `d`'s part of half `q` of block `b`. -/
def part (c : Dev nD) (d : Bool) (b : Dev nD) (q : Fin 2) : FVec F S256x128 .f32 := mm2 (tileV (rsV I d q 15 b)) (w2V I d c)

/-- Half `q` of block `b`, complete: the parts in the order they came. -/
def finV (c b : Dev nD) (q : Fin 2) : FVec F S256x128 .f32 :=
  if dist c b ≤ 8 then addf (part I c false b q) (part I c true b q) else addf (part I c true b q) (part I c false b q)

/-- Which of four contents a window at distance `o` holds after `T` steps: the complete one, one direction's part, the
other's, or what it held before. -/
def pick {α : Type} (o T : ℕ) (m f a b : α) : α :=
  if o = 0 then (if 0 < T then f else m)
  else if o < T then (if 16 < o + T then f else a)
  else if 16 < o + T then b else m

/-- Before the first step a window holds what it held. -/
theorem pick_zero {α : Type} {o : ℕ} (ho : o < 16) (m f a b : α) : pick o 0 m f a b = m := by
  unfold pick; split_ifs <;> first | rfl | omega
/-- After sixteen steps every window is complete. -/
theorem pick_end {α : Type} {o : ℕ} (ho : o < 16) (m f a b : α) : pick o 16 m f a b = f := by
  unfold pick; split_ifs <;> first | rfl | omega
/-- A step touches the windows at its distance on either side only. -/
theorem pick_stay {α : Type} {o T : ℕ} (ho : o < 16) (h : o ≠ T) (h' : o + T ≠ 16) (m f a b : α) : pick o T m f a b = pick o (T + 1) m f a b := by
  unfold pick; split_ifs <;> first | rfl | omega
/-- A window is complete once both directions' blocks have come. -/
theorem pick_full {α : Type} {o T : ℕ} (h : o = 0 ∧ T = 0 ∨ o ≤ T ∧ 16 < o + (T + 1)) (m f a b : α) : pick o (T + 1) m f a b = f := by
  unfold pick; split_ifs <;> first | rfl | omega
/-- A window which only the right-going block has reached holds that part. -/
theorem pick_right {α : Type} {o T : ℕ} (h0 : 0 < o) (h : o < T) (h' : ¬ 16 < o + T) (m f a b : α) : pick o T m f a b = a := by
  unfold pick; split_ifs <;> first | rfl | omega
/-- A window which only the left-going block has reached holds that part. -/
theorem pick_left {α : Type} {o T : ℕ} (h0 : 0 < o) (h : ¬ o < T) (h' : 16 < o + T) (m f a b : α) : pick o T m f a b = b := by
  unfold pick; split_ifs <;> first | rfl | omega

/-- Half `q` of block `b` after `T` of the stores. -/
def cellV (M0 : Dev nD → Fin 2 → Vec F S256x128 .f32) (c : Dev nD) (T : ℕ) (b : Dev nD) (q : Fin 2) : Vec F S256x128 .f32 :=
  pick (dist c b) T (M0 b q) (finV I c b q) (part I c false b q) (part I c true b q)

/-- Before the first step the output's windows hold what they held. -/
theorem cellV_zero (M0 : Dev nD → Fin 2 → Vec F S256x128 .f32) (c b : Dev nD) (q : Fin 2) : cellV I M0 c 0 b q = M0 b q :=
  pick_zero (dist_lt c b) ..

/-- After sixteen steps the output's windows are complete. -/
theorem cellV_end (M0 : Dev nD → Fin 2 → Vec F S256x128 .f32) (c b : Dev nD) (q : Fin 2) : cellV I M0 c 16 b q = finV I c b q :=
  pick_end (dist_lt c b) ..

/-- Half `q` of every block one store on. -/
def nextM (M0 M : Dev nD → Fin 2 → Vec F S256x128 .f32) (c : Dev nD) (T : ℕ) (q : Fin 2) : Dev nD → Fin 2 → Vec F S256x128 .f32 :=
  fun b q' => if q' = q then cellV I M0 c (T + 1) b q' else M b q'

/-- Replacing the windows a store touches is one store on. -/
theorem nextM_eq (M0 M M' : Dev nD → Fin 2 → Vec F S256x128 .f32) (c : Dev nD) (T : ℕ) (q : Fin 2)
    (h : ∀ b, M' b q = cellV I M0 c (T + 1) b q) (h' : ∀ b q', q' ≠ q → M' b q' = M b q') : M' = nextM I M0 M c T q := by
  funext b q'
  unfold nextM
  split
  · next e => subst e; exact h b
  · next e => exact h' b q' e

/-- A replaced window holds the new contents. -/
theorem upd_same (M : Dev nD → Fin 2 → Vec F S256x128 .f32) (b : Dev nD) (q : Fin 2) (v : Vec F S256x128 .f32) : upd M b q v b q = v :=
  if_pos ⟨rfl, rfl⟩
/-- The windows of the other blocks are as before. -/
theorem upd_ne (M : Dev nD → Fin 2 → Vec F S256x128 .f32) {b b' : Dev nD} (q : Fin 2) (v : Vec F S256x128 .f32) (h : b' ≠ b) : upd M b q v b' q = M b' q :=
  if_neg fun hh => h hh.1
/-- The other half's windows are as before. -/
theorem upd_half (M : Dev nD → Fin 2 → Vec F S256x128 .f32) (b b' : Dev nD) {q q' : Fin 2} (v : Vec F S256x128 .f32) (h : q' ≠ q) : upd M b q v b' q' = M b' q' :=
  if_neg fun hh => h hh.2

/-- Up to half-way round, the right-going part comes first. -/
theorem finV_near {c b : Dev nD} (q : Fin 2) (h : dist c b ≤ 8) : finV I c b q = addf (part I c false b q) (part I c true b q) := if_pos h
/-- Beyond half-way round, the left-going part comes first. -/
theorem finV_far {c b : Dev nD} (q : Fin 2) (h : ¬ dist c b ≤ 8) : finV I c b q = addf (part I c true b q) (part I c false b q) := if_neg h

/-- Step 0 completes the device's own block. -/
theorem cellV_own (M0 M : Dev nD → Fin 2 → Vec F S256x128 .f32) (c : Dev nD) (q : Fin 2) (hM : ∀ b, M b q = cellV I M0 c 0 b q) :
    upd M c q (addf (part I c false c q) (part I c true c q)) = nextM I M0 M c 0 q := by
  refine nextM_eq I M0 M _ c 0 q (fun b => ?_) fun b q' h => upd_half M c b _ h
  have hr := dist_right c b (t := 0) (by decide)
  by_cases hb : b = c
  · have h0 := hr.mp hb
    rw [cellV, pick_full (.inl ⟨h0, rfl⟩), finV_near I q (by omega), hb, upd_same]
  · rw [upd_ne M q _ hb, hM b]
    exact pick_stay (dist_lt c b) (fun h => hb (hr.mpr h)) (by have := dist_lt c b; omega) ..

/-- Steps 1 to 7 bring two new blocks, each with one direction's part. -/
theorem cellV_few (M0 M : Dev nD → Fin 2 → Vec F S256x128 .f32) (c : Dev nD) (q : Fin 2) {t : ℕ} (ht : t < 7)
    (hM : ∀ b, M b q = cellV I M0 c (t + 1) b q) :
    upd (upd M (blkOf false (t + 1) c) q (part I c false (blkOf false (t + 1) c) q)) (blkOf true (t + 1) c) q (part I c true (blkOf true (t + 1) c) q)
      = nextM I M0 M c (t + 1) q := by
  refine nextM_eq I M0 M _ c (t + 1) q (fun b => ?_) fun b q' h => (upd_half _ _ b _ h).trans (upd_half _ _ b _ h)
  have hr := dist_right c b (t := t + 1) (by omega)
  have hl := dist_left c b (t := t) (by omega)
  by_cases hb : b = blkOf true (t + 1) c
  · have h := hl.mp hb
    rw [cellV, pick_left (by omega) (by omega) (by omega), ← hb, upd_same]
  rw [upd_ne _ q _ hb]
  have hnl : ¬ dist c b + t = 15 := fun h => hb (hl.mpr h)
  by_cases hb' : b = blkOf false (t + 1) c
  · have h := hr.mp hb'
    rw [cellV, pick_right (by omega) (by omega) (by omega), ← hb', upd_same]
  rw [upd_ne _ q _ hb', hM b]
  exact pick_stay (dist_lt c b) (fun h => hb' (hr.mpr h)) (by omega) ..

/-- At step 8 both directions bring the same block, which is then complete. -/
theorem cellV_meet (M0 M : Dev nD → Fin 2 → Vec F S256x128 .f32) (c : Dev nD) (q : Fin 2)
    (hM : ∀ b, M b q = cellV I M0 c 8 b q) :
    upd M (blkOf false 8 c) q (addf (part I c false (blkOf false 8 c) q) (part I c true (blkOf false 8 c) q))
      = nextM I M0 M c 8 q := by
  refine nextM_eq I M0 M _ c 8 q (fun b => ?_) fun b q' h => upd_half _ _ b _ h
  have hr := dist_right c b (t := 8) (by omega)
  by_cases hb' : b = blkOf false 8 c
  · have h := hr.mp hb'
    rw [cellV, pick_full (.inr (by omega)), finV_near I q (by omega), ← hb', upd_same]
  rw [upd_ne _ q _ hb', hM b]
  have hnr : ¬ dist c b = 8 := fun h => hb' (hr.mpr h)
  exact pick_stay (dist_lt c b) hnr (by omega) ..

/-- After step 8 each direction completes a block the other began. -/
theorem cellV_many (M0 M : Dev nD → Fin 2 → Vec F S256x128 .f32) (c : Dev nD) (q : Fin 2) {t : ℕ} (ht : 7 < t) (ht' : t < 15)
    (hM : ∀ b, M b q = cellV I M0 c (t + 1) b q) (M1 M2 : Dev nD → Fin 2 → Vec F S256x128 .f32)
    (h1 : M1 = upd M (blkOf false (t + 1) c) q (addf (M (blkOf false (t + 1) c) q) (part I c false (blkOf false (t + 1) c) q)))
    (h2 : M2 = upd M1 (blkOf true (t + 1) c) q (addf (M1 (blkOf true (t + 1) c) q) (part I c true (blkOf true (t + 1) c) q))) :
    M2 = nextM I M0 M c (t + 1) q := by
  subst h2
  refine nextM_eq I M0 M _ c (t + 1) q (fun b => ?_) fun b q' h => (upd_half _ _ b _ h).trans (by rw [h1]; exact upd_half _ _ b _ h)
  have hr := dist_right c b (t := t + 1) (by omega)
  have hl := dist_left c b (t := t) (by omega)
  by_cases hb : b = blkOf true (t + 1) c
  · have h := hl.mp hb
    have hb' : b ≠ blkOf false (t + 1) c := fun e => by have := hr.mp e; omega
    rw [cellV, pick_full (.inr (by omega)), finV_near I q (by omega), ← hb, upd_same, h1, upd_ne _ q _ hb', hM b,
      cellV, pick_right (by omega) (by omega) (by omega)]
  rw [upd_ne _ q _ hb, h1]
  have hnl : ¬ dist c b + t = 15 := fun h => hb (hl.mpr h)
  by_cases hb' : b = blkOf false (t + 1) c
  · have h := hr.mp hb'
    rw [cellV, pick_full (.inr (by omega)), finV_far I q (by omega), ← hb', upd_same, hM b,
      cellV, pick_left (by omega) (by omega) (by omega)]
  rw [upd_ne _ q _ hb', hM b]
  exact pick_stay (dist_lt c b) (fun h => hb' (hr.mpr h)) (by omega) ..

/-- At step 8 the two directions bring the same block. -/
theorem blk_meet (c : Dev nD) : blkOf true (7 + 1) c = blkOf false 8 c := by
  revert c; unfold blkOf; decide +kernel

/-! ## The stores -/

/-- The load of half a slot that a transfer may be reading. -/
theorem wp_loadFl (c : Dev nD) (ph d : Bool) (h : ℕ) (q : Fin 2) (kt : Vec F S1x1x256x256 .f32 → PP F) (Q : PUnit → sProp 𝕄) :
    fl I c ph d h q ⊢ iprop((fl I c ph d h q -∗ WP c (kt (tileV (val I ph d q h c))) Q)
      -∗ WP c (loadSlotK (srcPh ph h) d (srcSlot ph h) q kt) Q) := by
  unfold fl
  split
  · iintro ⟨H, Hc⟩ Hk
    iapply (wp_loadSlot fullShare.right c (srcPh ph h) d (srcSlot ph h) q) $$ H
    iintro H
    iapply Hk
    isplitl [H] <;> iassumption
  · iintro H Hk
    iapply (wp_loadSlot fullShare c (srcPh ph h) d (srcSlot ph h) q) $$ H
    iexact Hk

/-- The load of the half slot that hop `t` of the all-gather brought. -/
theorem wp_loadAg (c : Dev nD) (d : Bool) (t : ℕ) (q : Fin 2) (kt : Vec F S1x1x256x256 .f32 → PP F) (Q : PUnit → sProp 𝕄) :
    fl I c true d (t + 1) q ⊢ iprop((fl I c true d (t + 1) q -∗ WP c (kt (tileV (rsV I d q 15 (blkOf d (t + 1) c)))) Q)
      -∗ WP c (loadSlotK true d (sl t) q kt) Q) := by
  have h := wp_loadFl I c true d (t + 1) q kt Q
  rw [show srcSlot true (t + 1) = sl t from sl_add_four t, show val I true d q (t + 1) c = rsV I d q 15 (blkOf d (t + 1) c) from agV_blk I d q (t + 1) c] at h
  exact h

/-- The half `q` of the stores of step `t`. -/
def halfK (c : Dev nD) (t : ℕ) (q : Fin 2) (k : PP F) : PP F :=
  match t with
  | 0 => ownK c q k
  | t + 1 => otherK c t q k

/-- A step's output is written half by half. -/
theorem gemmK_half (c : Dev nD) (t : ℕ) (k : PP F) : gemmK c t k = halfK c t 0 (halfK c t 1 k) := by cases t <;> rfl

/-- The window of a device's own block. -/
theorem off5_blk (c : Dev nD) (q : Fin 2) : k0_off5 c (BitVec.ofNat 32 (256 * q.val)) = offB c q := by
  revert c q; decide +kernel

/-- One half of the stores of a step. -/
theorem wp_half (c : Dev nD) (M0 M : Dev nD → Fin 2 → Vec F S256x128 .f32) (t : ℕ) (ht : t ≤ 15) (q : Fin 2)
    (hM : ∀ b, M b q = cellV I M0 c t b q) (k : PP F) (Q : PUnit → sProp 𝕄) :
    iprop(insPt I c ∗ outSt c M ∗ fl I c true false t q ∗ fl I c true true t q)
      ⊢ iprop(((insPt I c ∗ outSt c (nextM I M0 M c t q) ∗ fl I c true false t q ∗ fl I c true true t q) -∗ WP c k Q)
        -∗ WP c (halfK c t q k) Q) := by
  cases t with
  | zero =>
    unfold halfK ownK
    iintro ⟨Hin, Ho, Ha, Hb⟩ Hk
    iapply (wp_loadFl I c true false 0 q) $$ Ha
    iintro Ha
    iapply (wp_loadW2 I c false) $$ Hin
    iintro Hin
    iapply (wp_loadFl I c true true 0 q) $$ Hb
    iintro Hb
    iapply (wp_loadW2 I c true) $$ Hin
    iintro Hin
    iapply (wp_storeOut c M c q _ _ (off5_blk c q)) $$ Ho
    rw [← cellV_own I M0 M c q hM]
    iintro Ho
    iapply Hk
    isplitl [Hin]; · iexact Hin
    isplitl [Ho]; · iexact Ho
    isplitl [Ha] <;> iassumption
  | succ t =>
    have e1 := ooff_blk false c q (t := t) (by omega)
    have e2 := ooff_blk true c q (t := t) (by omega)
    unfold halfK otherK
    iintro ⟨Hin, Ho, Ha, Hb⟩ Hk
    iapply (wp_loadAg I c false t q) $$ Ha
    iintro Ha
    iapply (wp_loadW2 I c false) $$ Hin
    iintro Hin
    iapply (wp_loadAg I c true t q) $$ Hb
    iintro Hb
    iapply (wp_loadW2 I c true) $$ Hin
    iintro Hin
    by_cases h7 : t < 7
    · rw [if_pos h7]
      iapply (wp_storeOut c M _ q _ _ e1) $$ Ho
      iintro Ho
      iapply (wp_storeOut c _ _ q _ _ e2) $$ Ho
      rw [← cellV_few I M0 M c q h7 hM]
      iintro Ho
      iapply Hk
      isplitl [Hin]; · iexact Hin
      isplitl [Ho]; · iexact Ho
      isplitl [Ha] <;> iassumption
    rw [if_neg h7]
    by_cases h7' : t = 7
    · subst h7'
      rw [if_pos rfl]
      iapply (wp_storeOut c M _ q _ _ e1) $$ Ho
      rw [← cellV_meet I M0 M c q hM, blk_meet c]
      iintro Ho
      iapply Hk
      isplitl [Hin]; · iexact Hin
      isplitl [Ho]; · iexact Ho
      isplitl [Ha] <;> iassumption
    · rw [if_neg h7']
      iapply (wp_addOut c M _ q _ _ e1) $$ Ho
      iintro Ho
      iapply (wp_addOut c _ _ q _ _ e2) $$ Ho
      rw [← cellV_many I M0 M c q (t := t) (by omega) (by omega) hM _ _ rfl rfl]
      iintro Ho
      iapply Hk
      isplitl [Hin]; · iexact Hin
      isplitl [Ho]; · iexact Ho
      isplitl [Ha] <;> iassumption

/-- The stores of a step. -/
theorem wp_gemm (c : Dev nD) (M0 : Dev nD → Fin 2 → Vec F S256x128 .f32) (t : ℕ) (ht : t ≤ 15) (k : PP F) (Q : PUnit → sProp 𝕄) :
    iprop(insPt I c ∗ outSt c (cellV I M0 c t) ∗ (fl I c true false t 0 ∗ fl I c true false t 1) ∗ (fl I c true true t 0 ∗ fl I c true true t 1))
      ⊢ iprop(((insPt I c ∗ outSt c (cellV I M0 c (t + 1)) ∗ (fl I c true false t 0 ∗ fl I c true false t 1) ∗ (fl I c true true t 0 ∗ fl I c true true t 1)) -∗ WP c k Q)
        -∗ WP c (gemmK c t k) Q) := by
  have hlast : nextM I M0 (nextM I M0 (cellV I M0 c t) c t 0) c t 1 = cellV I M0 c (t + 1) := by
    funext b q
    unfold nextM
    rcases Fin.exists_fin_two.mp ⟨q, rfl⟩ with e | e <;> subst e
    · rw [if_neg (by decide), if_pos rfl]
    · rw [if_pos rfl]
  rw [gemmK_half]
  iintro ⟨Hin, Ho, ⟨Ha0, Ha1⟩, ⟨Hb0, Hb1⟩⟩ Hk
  iapply (wp_half I c M0 _ t ht 0 (fun _ => rfl)) $$ [Hin Ho Ha0 Hb0]
  · isplitl [Hin]; · iexact Hin
    isplitl [Ho]; · iexact Ho
    isplitl [Ha0] <;> iassumption
  iintro ⟨Hin, Ho, Ha0, Hb0⟩
  iapply (wp_half I c M0 (nextM I M0 (cellV I M0 c t) c t 0) t ht 1 (fun b => if_neg (show ¬ (1 : Fin 2) = 0 by decide))) $$ [Hin Ho Ha1 Hb1]
  · isplitl [Hin]; · iexact Hin
    isplitl [Ho]; · iexact Ho
    isplitl [Ha1] <;> iassumption
  rw [hlast]
  iintro ⟨Hin, Ho, Ha1, Hb1⟩
  iapply Hk
  isplitl [Hin]; · iexact Hin
  isplitl [Ho]; · iexact Ho
  isplitl [Ha0 Ha1]; · isplitl [Ha0] <;> iassumption
  isplitl [Hb0] <;> iassumption

/-! ## The all-gather -/

/-- A step of the all-gather. -/
theorem wp_agStep (c : Dev nD) (M0 : Dev nD → Fin 2 → Vec F S256x128 .f32) (n s : ℕ) (hs : s + (n + 1) ≤ 15)
    (hl : Above (2 * s + 8 + 100) (stepDebts c true (n + 1) s [])) (kt : PP F) (Q : PUnit → sProp 𝕄) :
    iprop(recs I κ κ' ∗ owe c (stepDebts c true (n + 1) s []) ∗ insPt I c ∗ outSt c (cellV I M0 c s) ∗ St I c true false s ∗ St I c true true s)
      ⊢ iprop(((owe c (stepDebts c true n (s + 1) []) ∗ insPt I c ∗ outSt c (cellV I M0 c (s + 1)) ∗ St I c true false (s + 1) ∗ St I c true true (s + 1)) -∗ WP c kt Q)
          -∗ WP c (agStepK c s kt) Q) := by
  have h15 : s < 15 := by omega
  rw [stepDebts_eq] at hl ⊢
  unfold agStepK
  iintro ⟨#HR, HO, Hin, Ho, HA, HB⟩ Hk
  ihave HA := (St_split I c true false s h15) $$ HA
  ihave HB := (St_split I c true true s h15) $$ HB
  icases HA with ⟨Aa0, Aa1, ⟨Fa0, Ca0⟩, ⟨Fa1, Ca1⟩, Da, Rea⟩
  icases HB with ⟨Ab0, Ab1, ⟨Fb0, Cb0⟩, ⟨Fb1, Cb1⟩, Db, Reb⟩
  iapply (wp_agDir0 I κ κ' c false s h15 hl) $$ [HO Aa0]
  · isplitr; · iexact HR
    isplitl [HO] <;> iassumption
  iintro ⟨HO, Ba0, Hma⟩
  iapply (wp_agDir0 I κ κ' c true s h15 hl.right) $$ [HO Ab0]
  · isplitr; · iexact HR
    isplitl [HO] <;> iassumption
  iintro ⟨HO, Bb0, Hmb⟩
  iapply (wp_agDir1 I κ κ' c false s h15 hl.right.right) $$ [HO Aa1 Hma]
  · isplitr; · iexact HR
    isplitl [HO]; · iexact HO
    isplitl [Aa1] <;> iassumption
  iintro ⟨HO, Ba1⟩
  iapply (wp_agDir1 I κ κ' c true s h15 hl.right.right.right) $$ [HO Ab1 Hmb]
  · isplitr; · iexact HR
    isplitl [HO]; · iexact HO
    isplitl [Ab1] <;> iassumption
  iintro ⟨HO, Bb1⟩
  iapply (wp_gemm I c M0 s (by omega)) $$ [Hin Ho Fa0 Fa1 Fb0 Fb1]
  · isplitl [Hin]; · iexact Hin
    isplitl [Ho]; · iexact Ho
    isplitl [Fa0 Fa1]; · isplitl [Fa0] <;> iassumption
    isplitl [Fb0] <;> iassumption
  iintro ⟨Hin, Ho, ⟨Fa0, Fa1⟩, ⟨Fb0, Fb1⟩⟩
  iapply (wp_stepEnd I κ κ' c true s h15 (hl.right.right.right.right.mono (Nat.zero_le _) fun _ h => h) (decide (1 ≤ s ∧ s ≤ 11))
    (decide_eq_decide.mpr ⟨fun h => ⟨show 4 ≤ s + 3 by omega, by omega⟩, fun h => by have h1 : 4 ≤ s + 3 := h.1; omega⟩)) $$ [HO Fa0 Ca0 Fa1 Ca1 Da Fb0 Cb0 Fb1 Cb1 Db]
  · isplitr; · iexact HR
    isplitl [HO]; · iexact HO
    isplitl [Fa0 Ca0 Fa1 Ca1 Da]
    · isplitl [Fa0 Ca0]; · isplitl [Fa0] <;> iassumption
      isplitl [Fa1 Ca1]; · isplitl [Fa1] <;> iassumption
      iexact Da
    isplitl [Fb0 Cb0]; · isplitl [Fb0] <;> iassumption
    isplitl [Fb1 Cb1]; · isplitl [Fb1] <;> iassumption
    iexact Db
  iintro ⟨HO, ⟨Sa0, Sa1, Da⟩, ⟨Sb0, Sb1, Db⟩⟩
  iapply Hk
  isplitl [HO]; · iexact HO
  isplitl [Hin]; · iexact Hin
  isplitl [Ho]; · iexact Ho
  isplitl [Ba0 Ba1 Sa0 Sa1 Da Rea]
  · iapply (St_join I c true false s)
    isplitl [Ba0]; · iexact Ba0
    isplitl [Ba1]; · iexact Ba1
    isplitl [Sa0]; · iexact Sa0
    isplitl [Sa1]; · iexact Sa1
    isplitl [Da] <;> iassumption
  iapply (St_join I c true true s)
  isplitl [Bb0]; · iexact Bb0
  isplitl [Bb1]; · iexact Bb1
  isplitl [Sb0]; · iexact Sb0
  isplitl [Sb1]; · iexact Sb1
  isplitl [Db] <;> iassumption

/-- The all-gather's steps, by induction on their number. -/
theorem wp_ag (c : Dev nD) (M0 : Dev nD → Fin 2 → Vec F S256x128 .f32) (kt : PP F) (Q : PUnit → sProp 𝕄) :
    ∀ n s, s + n ≤ 15 →
    iprop(recs I κ κ' ∗ owe c (stepDebts c true n s []) ∗ insPt I c ∗ outSt c (cellV I M0 c s) ∗ St I c true false s ∗ St I c true true s)
      ⊢ iprop(((owe c [] ∗ insPt I c ∗ outSt c (cellV I M0 c (s + n)) ∗ St I c true false (s + n) ∗ St I c true true (s + n)) -∗ WP c kt Q) -∗ WP c (agK c n s kt) Q)
  | 0, s, hs => by
    unfold stepDebts agK
    iintro ⟨-, H⟩ Hk
    iapply Hk
    iexact H
  | n + 1, s, hs => by
    unfold agK
    iintro ⟨#HR, HO, Hin, Ho, HA, HB⟩ Hk
    iapply (wp_agStep I κ κ' c M0 n s hs (above_steps c true (fun _ h => by cases h) (n + 1) s hs)) $$ [HO Hin Ho HA HB]
    · isplitr; · iexact HR
      isplitl [HO]; · iexact HO
      isplitl [Hin]; · iexact Hin
      isplitl [Ho]; · iexact Ho
      isplitl [HA] <;> iassumption
    iintro ⟨HO, Hin, Ho, HA, HB⟩
    iapply (wp_ag c M0 kt Q n (s + 1) (by omega)) $$ [HO Hin Ho HA HB]
    · isplitr; · iexact HR
      isplitl [HO]; · iexact HO
      isplitl [Hin]; · iexact Hin
      isplitl [Ho]; · iexact Ho
      isplitl [HA] <;> iassumption
    rw [show s + 1 + n = s + (n + 1) by omega]
    iexact Hk

/-! ## The whole body -/

/-- The first hop's source holds the first partial product. -/
theorem srcFull_zero (c : Dev nD) (d : Bool) (q : Fin 2) :
    (srcFull I c false d 0 q : sProp 𝕄) = slotPt fullShare c false d 3 q (psub I d c (xoff0 d c q) (xoff0_inb d c q)) := rfl

/-- A direction's first partial product of half `q`, into slot 3. -/
theorem wp_intro (c : Dev nD) (q : Fin 2) (k : PP F) (Q : PUnit → sProp 𝕄) :
    iprop(insPt I c ∗ slotRaw c false false 3 q ∗ slotRaw c false true 3 q)
      ⊢ iprop(((insPt I c ∗ srcFull I c false false 0 q ∗ srcFull I c false true 0 q) -∗ WP c k Q) -∗ WP c (introK c q k) Q) := by
  rw [srcFull_zero, srcFull_zero]
  unfold introK
  iintro ⟨Hin, Ha, Hb⟩ Hk
  iapply (wp_psub I c false (xoff0 false c q) (xoff0_inb false c q)) $$ Hin
  iintro Hin
  iapply (wp_storeSlot c false 3 q) $$ Ha
  iintro Ha
  iapply (wp_psub I c true (xoff0 true c q) (xoff0_inb true c q)) $$ Hin
  iintro Hin
  iapply (wp_storeSlot c true 3 q) $$ Hb
  iintro Hb
  iapply Hk
  isplitl [Hin]; · iexact Hin
  isplitl [Ha]; · iexact Ha
  iexact Hb

/-- What is left of a direction when its phase is over: positions and slots. -/
def Done (c : Dev nD) (ph d : Bool) : sProp 𝕄 :=
  iprop(posSt c ph d 15 ∗ creditSt c ph d (15 - lim ph) ∗ kept c ph d 15)

/-- After fifteen steps a phase is over, and its last slot is in hand. -/
theorem St_done (c : Dev nD) (ph d : Bool) :
    St I c ph d 15 ⊢ (iprop(Done c ph d ∗ srcFull I c ph d 15 0 ∗ srcFull I c ph d 15 1) : sProp 𝕄) := by
  unfold St Done fl srcFull
  rw [if_neg (Nat.lt_irrefl 15), if_neg (Nat.lt_irrefl 15)]
  iintro ⟨Hp, Hf0, Hf1, -, Hcr, -, Hk, -⟩
  isplitl [Hp Hcr Hk]
  · isplitl [Hp]; · iexact Hp
    isplitl [Hcr]; · iexact Hcr
    iexact Hk
  isplitl [Hf0] <;> iassumption

/-- The reduce-scatter's last sum is what the all-gather sends first. -/
theorem src_turn (c : Dev nD) (d : Bool) (q : Fin 2) : (srcFull I c false d 15 q : sProp 𝕄) = srcFull I c true d 0 q := rfl

/-- Half slots 3 of the reduce-scatter's buffers. -/
def slots3 (c : Dev nD) (q : Fin 2) : sProp 𝕄 := iprop(slotRaw c false false 3 q ∗ slotRaw c false true 3 q)

/-- The body, from what the launch deals device `c` to what it ends with. -/
theorem wp_main (c : Dev nD) (M0 : Dev nD → Fin 2 → Vec F S256x128 .f32) (Q : PUnit → sProp 𝕄) :
    iprop(recs I κ κ' ∗ owe c (allDebts c) ∗ insPt I c ∗ outSt c M0
        ∗ (slots3 c 0 ∗ slots3 c 1)
        ∗ (cred (tallyAt (barCell c) 0 2) ∗ atPos ER (barCell c) 0 ∅ 0 ∗ dutyTok ER (barCell (toDev true c)) 0 0
            ∗ dutyTok ER (barCell (toDev false c)) 0 1 ∗ barPay (toDev true c) false ∗ barPay (toDev false c) true)
        ∗ (Init c false false ∗ Init c false true) ∗ (Init c true false ∗ Init c true true))
      ⊢ iprop(((owe c [] ∗ insPt I c ∗ outSt c (finV I c) ∗ atPos ER (barCell c) 1 ∅ 0
            ∗ (Done c false false ∗ Done c false true) ∗ (Done c true false ∗ Done c true true)
            ∗ (srcFull I c true false 15 0 ∗ srcFull I c true false 15 1) ∗ (srcFull I c true true 15 0 ∗ srcFull I c true true 15 1))
            -∗ WP c (.ret ⟨⟩) Q) -∗ WP c (mainK c) Q) := by
  have hag : Above 100 (sendDebts c true 0 ++ stepDebts c true 15 0 []) :=
    (above_send c true (by decide)).append ((above_steps c true (fun _ h => by cases h) 15 0 le_rfl).mono (by decide) fun _ h => h)
  have hrs : Above 1 (sendDebts c false 0 ++ stepDebts c false 15 0 (sendDebts c true 0 ++ stepDebts c true 15 0 [])) :=
    (above_send c false (by decide)).append ((above_steps c false hag 15 0 le_rfl).mono (by decide) fun _ h => h)
  have h0 : cellV I M0 c 0 = M0 := by funext b q; exact cellV_zero I M0 c b q
  have h16 : cellV I M0 c (15 + 1) = finV I c := by funext b q; exact cellV_end I M0 c b q
  unfold mainK allDebts slots3
  iintro ⟨#HR, HO, Hin, Ho, ⟨Hs0, Hs1⟩, ⟨Hc, Hat, Ht, Ht', Hp, Hp'⟩, ⟨Haf, Hat'⟩, ⟨Hbf, Hbt⟩⟩ Hk
  iapply (wp_intro I c 0) $$ [Hin Hs0]
  · isplitl [Hin] <;> iassumption
  iintro ⟨Hin, Xa0, Xb0⟩
  iapply (wp_intro I c 1) $$ [Hin Hs1]
  · isplitl [Hin] <;> iassumption
  iintro ⟨Hin, Xa1, Xb1⟩
  iapply (wp_barrier I κ κ' c hrs) $$ [HO Hc Hat Ht Ht' Hp Hp']
  · isplitr; · iexact HR
    isplitl [HO]; · iexact HO
    isplitl [Hc]; · iexact Hc
    isplitl [Hat]; · iexact Hat
    isplitl [Ht]; · iexact Ht
    isplitl [Ht']; · iexact Ht'
    isplitl [Hp] <;> iassumption
  unfold barPay
  iintro ⟨HO, Hat, ⟨Pa, Qa⟩, ⟨Pb, Qb⟩⟩
  iapply (wp_sends I κ κ' c false) $$ [HO Xa0 Xa1 Xb0 Xb1 Haf Hat' Pa Pb]
  · isplitr; · iexact HR
    isplitl [HO]; · iexact HO
    isplitl [Xa0 Xa1 Haf Pa]
    · isplitl [Xa0 Xa1]; · isplitl [Xa0] <;> iassumption
      isplitl [Haf] <;> iassumption
    isplitl [Xb0 Xb1]; · isplitl [Xb0] <;> iassumption
    isplitl [Hat'] <;> iassumption
  iintro ⟨HO, HA, HB⟩
  iapply (wp_rs I κ κ' c hag _ _ 15 0 le_rfl) $$ [HO Hin HA HB]
  · isplitr; · iexact HR
    isplitl [HO]; · iexact HO
    isplitl [Hin]; · iexact Hin
    isplitl [HA] <;> iassumption
  iintro ⟨HO, Hin, HA, HB⟩
  ihave HA := (St_done I c false false) $$ HA
  ihave HB := (St_done I c false true) $$ HB
  icases HA with ⟨Da, Xa0, Xa1⟩
  icases HB with ⟨Db, Xb0, Xb1⟩
  iapply (wp_sends I κ κ' c true) $$ [HO Xa0 Xa1 Xb0 Xb1 Hbf Hbt Qa Qb]
  · isplitr; · iexact HR
    isplitl [HO]; · iexact HO
    rw [← src_turn, ← src_turn, ← src_turn, ← src_turn]
    isplitl [Xa0 Xa1 Hbf Qa]
    · isplitl [Xa0 Xa1]; · isplitl [Xa0] <;> iassumption
      isplitl [Hbf] <;> iassumption
    isplitl [Xb0 Xb1]; · isplitl [Xb0] <;> iassumption
    isplitl [Hbt] <;> iassumption
  iintro ⟨HO, HA, HB⟩
  iapply (wp_ag I κ κ' c M0 _ _ 15 0 le_rfl) $$ [HO Hin Ho HA HB]
  · isplitr; · iexact HR
    isplitl [HO]; · iexact HO
    isplitl [Hin]; · iexact Hin
    isplitl [Ho]; · rw [h0]; iexact Ho
    isplitl [HA] <;> iassumption
  iintro ⟨HO, Hin, Ho, HA, HB⟩
  ihave HA := (St_done I c true false) $$ HA
  ihave HB := (St_done I c true true) $$ HB
  icases HA with ⟨Da', Xa0, Xa1⟩
  icases HB with ⟨Db', Xb0, Xb1⟩
  have hfl : ∀ d q, (srcFull I c true d 15 q : sProp 𝕄) = fl I c true d 15 q := fun d q => by
    unfold fl srcFull; rw [if_neg (Nat.lt_irrefl 15)]
  iapply (wp_gemm I c M0 15 le_rfl) $$ [Hin Ho Xa0 Xa1 Xb0 Xb1]
  · isplitl [Hin]; · iexact Hin
    isplitl [Ho]; · iexact Ho
    rw [← hfl, ← hfl, ← hfl, ← hfl]
    isplitl [Xa0 Xa1]
    · isplitl [Xa0]; · iexact Xa0
      iexact Xa1
    isplitl [Xb0]; · iexact Xb0
    iexact Xb1
  rw [h16, ← hfl, ← hfl, ← hfl, ← hfl]
  iintro ⟨Hin, Ho, HX, HY⟩
  iapply Hk
  isplitl [HO]; · iexact HO
  isplitl [Hin]; · iexact Hin
  isplitl [Ho]; · iexact Ho
  isplitl [Hat]; · iexact Hat
  isplitl [Da Db]; · isplitl [Da] <;> iassumption
  isplitl [Da' Db']; · isplitl [Da'] <;> iassumption
  isplitl [HX] <;> iassumption

end Cert.Ring

end
-- ==== Proof.Slots.lean ====
/-
# A scratch buffer is its eight half slots

Each of the four scratch buffers is dealt to the two sides of the transfers as half slots, and is made whole again at the end.
-/
module

public import proofs.«01_k».proof.Proof.Gather

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- A separating conjunction follows from another conjunct by conjunct. -/
theorem bigSep_each {ι : Type} {s : Finset ι} {Φ Ψ : ι → sProp 𝕄} (h : ∀ i ∈ s, Φ i ⊢ Ψ i) : bigSep s Φ ⊢ bigSep s Ψ := BI.bigSep_mono h

/-- An index lies in a half slot's rectangle when its first two coordinates name it. -/
theorem mem_slotR (i : S4x2x256x256.Idx) (k : Fin 4) (q : Fin 2) : i ∈ (slotR k q).set ↔ (i 0).val = k.val ∧ (i 1).val = q.val := by
  rw [Rect.mem_set_unit]
  have h2 : (i 2).val < 256 := (i 2).isLt
  have h3 : (i 3).val < 256 := (i 3).isLt
  constructor
  · intro h
    have h0 : k.val ≤ (i 0).val ∧ (i 0).val < k.val + 1 := h 0
    have h1 : q.val ≤ (i 1).val ∧ (i 1).val < q.val + 1 := h 1
    omega
  · rintro ⟨h0, h1⟩ a
    match a with
    | ⟨0, _⟩ => exact (⟨by omega, by omega⟩ : k.val ≤ (i 0).val ∧ (i 0).val < k.val + 1)
    | ⟨1, _⟩ => exact (⟨by omega, by omega⟩ : q.val ≤ (i 1).val ∧ (i 1).val < q.val + 1)
    | ⟨2, _⟩ => exact (⟨by omega, by omega⟩ : 0 ≤ (i 2).val ∧ (i 2).val < 0 + 256)
    | ⟨3, _⟩ => exact (⟨by omega, by omega⟩ : 0 ≤ (i 3).val ∧ (i 3).val < 0 + 256)

/-- The half slots' rectangles are pairwise disjoint, -/
theorem slotR_disjoint (x y : Fin 4 × Fin 2) (h : x ≠ y) : Disjoint (slotR x.1 x.2).set (slotR y.1 y.2).set := by
  refine Finset.disjoint_left.mpr fun i hx hy => h ?_
  rw [mem_slotR] at hx hy
  exact Prod.ext (Fin.ext (hx.1.symm.trans hy.1)) (Fin.ext (hx.2.symm.trans hy.2))

/-- and cover the buffer. -/
theorem slotR_cover : (Finset.univ : Finset (Fin 4 × Fin 2)).biUnion (fun x => (slotR x.1 x.2).set) = Finset.univ := by
  refine Finset.eq_univ_iff_forall.mpr fun i => Finset.mem_biUnion.mpr ⟨(i 0, i 1), Finset.mem_univ _, ?_⟩
  exact (mem_slotR i _ _).mpr ⟨rfl, rfl⟩

/-- The cells of half a slot of a buffer. -/
def cellsOf (b : Memref sig .tc .vmem S4x2x256x256 .f32) (x : Fin 4 × Fin 2) : Finset b.view.ty.Idx := (slotM b x.1 x.2).view.set

/-- The cells of half a slot, as a rectangle's. -/
theorem cellsOf_eq (b : Memref sig .tc .vmem S4x2x256x256 .f32) (x : Fin 4 × Fin 2) :
    cellsOf b x = (slotR x.1 x.2).set.map b.view.emb :=
  (View.set_reshape (b.access (slotR x.1 x.2)) _).trans (View.set_slice b.view _)

/-- Different half slots share no cell. -/
theorem slots_disjoint (b : Memref sig .tc .vmem S4x2x256x256 .f32) (x y : Fin 4 × Fin 2) (h : x ≠ y) : Disjoint (cellsOf b x) (cellsOf b y) := by
  rw [cellsOf_eq, cellsOf_eq]; exact (Finset.disjoint_map _).mpr (slotR_disjoint x y h)

/-- The half slots cover the buffer. -/
theorem slots_cover (b : Memref sig .tc .vmem S4x2x256x256 .f32) (hb : b.view.set = Finset.univ) :
    (Finset.univ : Finset (Fin 4 × Fin 2)).biUnion (cellsOf b) = Finset.univ := by
  rw [← hb]
  ext i
  rw [Finset.mem_biUnion]
  constructor
  · rintro ⟨x, -, hx⟩
    rw [cellsOf_eq] at hx
    obtain ⟨j, -, rfl⟩ := Finset.mem_map.mp hx
    exact Finset.mem_map_of_mem _ (Finset.mem_univ j)
  · intro hi
    obtain ⟨j, -, rfl⟩ := Finset.mem_map.mp hi
    obtain ⟨x, hx, hj⟩ := Finset.mem_biUnion.mp (slotR_cover ▸ Finset.mem_univ j)
    exact ⟨x, hx, by rw [cellsOf_eq]; exact Finset.mem_map_of_mem _ hj⟩

/-- Each buffer is a whole array. -/
theorem bufM_whole (ph d : Bool) : (bufM ph d).view.set = Finset.univ := by
  cases ph <;> cases d <;> exact View.set_whole _

/-- A whole scratch buffer, contents not said. -/
def scratch (c : Dev nD) (ph d : Bool) : sProp 𝕄 :=
  iprop(∃ f : Buf (Elt F) ((bufM ph d).view.loc (c : Thread nD τ)), (bufM ph d).view.loc (c : Thread nD τ) ↦{fullShare} f)

/-- A scratch buffer's eight half slots. -/
def allSlots (c : Dev nD) (ph d : Bool) : sProp 𝕄 := bigSep Finset.univ fun x : Fin 4 × Fin 2 => slotRaw c ph d x.1 x.2

/-- Half a slot is its cells. -/
theorem slotRaw_cells (c : Dev nD) (ph d : Bool) (x : Fin 4 × Fin 2) :
    (slotRaw c ph d x.1 x.2 : sProp 𝕄) = iprop(∃ f : Buf (Elt F) ((bufM ph d).view.loc (c : Thread nD τ)),
      (bufM ph d).view.loc (c : Thread nD τ) ↦[cellsOf (bufM ph d) x]{fullShare} f) := rfl

/-- A buffer taken apart into half slots. -/
theorem scratch_split (c : Dev nD) (ph d : Bool) : scratch c ph d ⊢ (allSlots c ph d : sProp 𝕄) := by
  unfold scratch allSlots
  simp only [slotRaw_cells]
  rw [← slots_cover (bufM ph d) (bufM_whole ph d)]
  iintro ⟨%f, H⟩
  ihave H := (Entails.of_eq (pointsTo_biUnion Finset.univ (cellsOf (bufM ph d)) fun x _ y _ h => slots_disjoint (bufM ph d) x y h)) $$ H
  iapply (bigSep_each (fun x _ => show ((bufM ph d).view.loc (c : Thread nD τ) ↦[cellsOf (bufM ph d) x]{fullShare} f : sProp 𝕄) ⊢ _ from by
    iintro H; iexists f; iexact H)) $$ H

/-- The half slots put together into the buffer. -/
theorem scratch_join (c : Dev nD) (ph d : Bool) : allSlots c ph d ⊢ (scratch c ph d : sProp 𝕄) := by
  unfold scratch allSlots
  simp only [slotRaw_cells]
  iintro H
  ihave H := (BI.bigSep_exists_pi (Finset.univ : Finset (Fin 4 × Fin 2)) (fun x (f : Buf (Elt F) ((bufM ph d).view.loc (c : Thread nD τ))) =>
    ((bufM ph d).view.loc (c : Thread nD τ) ↦[cellsOf (bufM ph d) x]{fullShare} f : sProp 𝕄))) $$ H
  icases H with ⟨%fs, H⟩
  ihave H := (pointsTo_biUnion_join Finset.univ (cellsOf (bufM ph d)) fs (fs (0, 0))
    (fun x _ y _ h => slots_disjoint (bufM ph d) x y h)) $$ H
  icases H with ⟨%g, -, H⟩
  iexists g
  rw [slots_cover (bufM ph d) (bufM_whole ph d)]
  iexact H

end Cert.Ring

end
-- ==== Proof.Deal.lean ====
/-
# What the launch deals

The semaphores' invariants, the positions, the tokens of the payments each device makes and the slots' tokens, dealt
to the devices; and each direction's first state made of them.
-/
module

public import proofs.«01_k».proof.Proof.Slots

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F) (κ : Dev nD × CK → ℕ) (κ' : SK → ℕ)

/-! ## Separating conjunctions over the index types -/

/-- A resource for each direction, taken apart. -/
theorem bigSep_bool (Φ : Bool → sProp 𝕄) : bigSep Finset.univ Φ = iprop(Φ false ∗ Φ true) :=
  bigSep_univ_eq_bigSepL [false, true] (by decide) (by decide) Φ
/-- A resource for each half, taken apart. -/
theorem bigSep_two (Φ : Fin 2 → sProp 𝕄) : bigSep Finset.univ Φ = iprop(Φ 0 ∗ Φ 1) :=
  bigSep_univ_eq_bigSepL [0, 1] (by decide) (by decide) Φ
/-- A resource for each slot, taken apart. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four phases and directions. -/
theorem bigSep_pd (Φ : Bool × Bool → sProp 𝕄) :
    bigSep Finset.univ Φ = iprop((Φ (false, false) ∗ Φ (false, true)) ∗ (Φ (true, false) ∗ Φ (true, true))) := by
  rw [bigSep_univ_prod, bigSep_bool, bigSep_bool, bigSep_bool]

/-- The semaphore of a direction: of the sends or the receives, the slot, the half. -/
abbrev XK : Type := Bool × Fin 4 × Fin 2
abbrev dk (ph d : Bool) (x : XK) : OK := .inl (x.1, ph, d, x.2.1, x.2.2)

def dkE : (Bool × Bool) × XK ≃ DK where
  toFun y := (y.2.1, y.1.1, y.1.2, y.2.2.1, y.2.2.2)
  invFun x := ((x.2.1, x.2.2.1), (x.1, x.2.2.2.1, x.2.2.2.2))
  left_inv _ := rfl
  right_inv _ := rfl

/-- The kernel's own semaphores, phase by phase and direction by direction. -/
theorem bigSep_own (Φ : OK → sProp 𝕄) :
    bigSep Finset.univ Φ = bigSep Finset.univ fun y : Bool × Bool => iprop((bigSep Finset.univ fun x : XK => Φ (dk y.1 y.2 x)) ∗ Φ (.inr y)) := by
  rw [bigSep_univ_sum, bigSep_univ_equiv dkE, bigSep_univ_prod]
  exact (bigSep_sep Finset.univ _ _).symm

/-- A resource for each of a device's cells: those of the slots and credits, and the barrier's. -/
theorem bigSep_key (Φ : CK → sProp 𝕄) : bigSep Finset.univ Φ = iprop((bigSep Finset.univ fun k : OK => Φ (.inl k)) ∗ Φ (.inr ())) := by
  rw [bigSep_univ_sum]
  exact congrArg (fun z => iprop((bigSep Finset.univ fun k : OK => Φ (.inl k)) ∗ z)) (bigSep_univ_of_subsingleton (I := Unit) () (Φ := fun b => Φ (.inr b)))

/-- A resource for each half slot, slot by slot. -/
theorem bigSep_slots (Φ : Fin 4 × Fin 2 → sProp 𝕄) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_four, bigSep_two, bigSep_two, bigSep_two, bigSep_two]

/-- A resource for each of the fifteen hops, by hop number. -/
theorem bigSep_hops (Φ : ℕ → sProp 𝕄) : bigSep Finset.univ (fun h : Fin 15 => Φ h.val) = bigSep (Finset.Ico 0 15) Φ := by
  rw [show Finset.Ico 0 15 = (Finset.univ : Finset (Fin 15)).map Fin.valEmbedding by decide, bigSep_map]; rfl

/-- A separating conjunction of pairs is the pair of the conjunctions. -/
theorem bigSep_pair {ι : Type} (s : Finset ι) (Φ Ψ : ι → sProp 𝕄) : bigSep s (fun i => iprop(Φ i ∗ Ψ i)) = iprop(bigSep s Φ ∗ bigSep s Ψ) := bigSep_sep s Φ Ψ

/-! ## A direction's share -/

/-- The tokens to take hop `h`'s destination with. -/
def wTk (c : Dev nD) (ph d : Bool) (h : ℕ) : sProp 𝕄 :=
  iprop(writeTok ES (toDev d c, ph, d, sl h, (0 : Fin 2)) ((relN ph h + 3) % 4 + 1) ∗ writeTok ES (toDev d c, ph, d, sl h, (1 : Fin 2)) ((relN ph h + 3) % 4 + 1))

/-- The credit token for the wait before hop `h`. -/
def crT (c : Dev nD) (ph d : Bool) (h : ℕ) : sProp 𝕄 := if lim ph ≤ h then cred (tallyAt (credCell c ph d) h 1) else iprop(emp)

/-- A direction's positions, tokens and readers on a device. -/
def deal (c : Dev nD) (ph d : Bool) : sProp 𝕄 :=
  iprop(((bigSep Finset.univ fun x : XK => atPos ER (cell c (.inl (dk ph d x))) 0 ∅ 0) ∗ atPos ER (credCell c ph d) 0 ∅ 0)
    ∗ (bigSep Finset.univ fun x : Fin 4 × Fin 2 => readerAt ES (c, ph, d, x.1, x.2) 0)
    ∗ ((bigSep (Finset.Ico 0 15) fun h => iprop(sTok c ph d h 0 ∗ sTok c ph d h 1)) ∗ (bigSep (Finset.Ico 0 15) fun h => dutyTok ER (credCell (fromDev d c) ph d) 0 h))
    ∗ (bigSep (Finset.Ico 0 15) fun h => wTk c ph d h))

/-- A direction's credits on a device. -/
def dealCred (c : Dev nD) (ph d : Bool) : sProp 𝕄 := iprop(bigSep (Finset.Ico 0 15) (rTok c ph d) ∗ bigSep (Finset.Ico 3 15) (crT c ph d))

/-- The first three hops of a direction ask for no credit. -/
theorem crT_low (c : Dev nD) (ph d : Bool) {h : ℕ} (h3 : h < 3) : (⊢ (crT c ph d h : sProp 𝕄)) := by
  unfold crT
  rw [if_neg (by have := three_le_lim ph; omega)]
  exact .rfl

/-- The credits of the later hops are the credits of all hops. -/
theorem crT_all (c : Dev nD) (ph d : Bool) : bigSep (Finset.Ico 3 15) (crT c ph d) ⊢ (bigSep (Finset.Ico 0 15) (crT c ph d) : sProp 𝕄) := by
  rw [bigSep_Ico_succ_bot (show 0 < 15 by decide), bigSep_Ico_succ_bot (show 0 + 1 < 15 by decide), bigSep_Ico_succ_bot (show 0 + 1 + 1 < 15 by decide)]
  iintro H
  isplitr; · iapply (crT_low c ph d (by decide))
  isplitr; · iapply (crT_low c ph d (by decide))
  isplitr; · iapply (crT_low c ph d (by decide))
  iexact H

/-- A hop's permissions, from the tokens of its two halves, its right to write and its credit. -/
theorem hopTok_intro (c : Dev nD) (ph d : Bool) {h : ℕ} (h15 : h < 15) :
    iprop((sTok c ph d h 0 ∗ sTok c ph d h 1) ∗ wTk c ph d h ∗ crT c ph d h) ⊢ (hopTok c ph d h : sProp 𝕄) := by
  unfold hopTok wTk crT wTok
  by_cases hl : lim ph ≤ h
  · rw [if_pos hl, if_pos hl]
    rw [show (relN ph h + 3) % 4 + 1 = relN ph h from by
      have := relN_pos ph hl
      have : relN ph h ≤ 3 := by unfold relN; split <;> omega
      omega]
    iintro ⟨⟨H0, H1⟩, ⟨W0, W1⟩, Hc⟩
    isplitl [H0]; · iexact H0
    isplitl [H1]; · iexact H1
    isplitl [W0]; · iexact W0
    isplitl [W1] <;> iassumption
  · rw [if_neg hl, if_neg hl]
    iintro ⟨⟨H0, H1⟩, -, -⟩
    isplitl [H0]; · iexact H0
    isplitl [H1]; · iexact H1
    iempintro

/-- A direction's permissions for all its hops. -/
theorem toks_intro (c : Dev nD) (ph d : Bool) :
    iprop((bigSep (Finset.Ico 0 15) fun h => iprop(sTok c ph d h 0 ∗ sTok c ph d h 1)) ∗ (bigSep (Finset.Ico 0 15) fun h => wTk c ph d h) ∗ bigSep (Finset.Ico 0 15) (crT c ph d))
      ⊢ (toks c ph d 0 : sProp 𝕄) := by
  unfold toks
  rw [← bigSep_pair, ← bigSep_pair]
  exact bigSep_each fun h hh => hopTok_intro c ph d (Finset.mem_Ico.mp hh).2

/-- A direction's permissions to give credits. -/
theorem ctoks_intro (c : Dev nD) (ph d : Bool) :
    (bigSep (Finset.Ico 0 15) fun h => dutyTok ER (credCell (fromDev d c) ph d) 0 h) ⊢ (ctoks c ph d 3 : sProp 𝕄) := by
  unfold ctoks
  refine BIBase.Entails.trans (show _ ⊢ _ from bigSep_subset (Finset.Ico_subset_Ico_left (Nat.zero_le 3))) (bigSep_each fun h _ => ?_)
  unfold cTok
  split
  · exact .rfl
  · iintro -; iempintro

/-- The first positions. -/
theorem posSt_intro (c : Dev nD) (ph d : Bool) :
    iprop(recs I κ κ' ∗ bigSep Finset.univ fun x : XK => atPos ER (cell c (.inl (dk ph d x))) 0 ∅ 0) ⊢ (posSt c ph d 0 : sProp 𝕄) := by
  have hr : ∀ q : Fin 2, iprop(recs I κ κ' ∗ atPos ER (cell c (.inl (dk ph d (true, 0, q)))) 0 ∅ 0 ∗ atPos ER (cell c (.inl (dk ph d (true, 1, q)))) 0 ∅ 0
      ∗ atPos ER (cell c (.inl (dk ph d (true, 2, q)))) 0 ∅ 0 ∗ atPos ER (cell c (.inl (dk ph d (true, 3, q)))) 0 ∅ 0) ⊢ (win4 (recvPos c ph d q) 0 : sProp 𝕄) := fun q => by
    unfold win4 recvPos
    iintro ⟨#HR, H0, H1, H2, H3⟩
    isplitl [H0]; · (isplitl [H0]; · iexact H0); iapply (recs_reached I κ κ' c (recvKey ph d 0 q)); iexact HR
    isplitl [H1]; · (isplitl [H1]; · iexact H1); iapply (recs_reached I κ κ' c (recvKey ph d 1 q)); iexact HR
    isplitl [H2]; · (isplitl [H2]; · iexact H2); iapply (recs_reached I κ κ' c (recvKey ph d 2 q)); iexact HR
    (isplitl [H3]; · iexact H3); iapply (recs_reached I κ κ' c (recvKey ph d 3 q)); iexact HR
  have hs : ∀ q : Fin 2, iprop(recs I κ κ' ∗ atPos ER (cell c (.inl (dk ph d (false, 0, q)))) 0 ∅ 0 ∗ atPos ER (cell c (.inl (dk ph d (false, 1, q)))) 0 ∅ 0
      ∗ atPos ER (cell c (.inl (dk ph d (false, 2, q)))) 0 ∅ 0 ∗ atPos ER (cell c (.inl (dk ph d (false, 3, q)))) 0 ∅ 0) ⊢ (win4 (sendPos c ph d q) 0 : sProp 𝕄) := fun q => by
    unfold win4 sendPos
    iintro ⟨#HR, H0, H1, H2, H3⟩
    isplitl [H0]; · (isplitl [H0]; · iexact H0); iapply (recs_reached I κ κ' c (sendKey ph d 0 q)); iexact HR
    isplitl [H1]; · (isplitl [H1]; · iexact H1); iapply (recs_reached I κ κ' c (sendKey ph d 1 q)); iexact HR
    isplitl [H2]; · (isplitl [H2]; · iexact H2); iapply (recs_reached I κ κ' c (sendKey ph d 2 q)); iexact HR
    (isplitl [H3]; · iexact H3); iapply (recs_reached I κ κ' c (sendKey ph d 3 q)); iexact HR
  rw [bigSep_univ_prod, bigSep_bool, bigSep_slots, bigSep_slots]
  unfold posSt
  iintro ⟨#HR, ⟨⟨S00, S01⟩, ⟨S10, S11⟩, ⟨S20, S21⟩, ⟨S30, S31⟩⟩, ⟨⟨R00, R01⟩, ⟨R10, R11⟩, ⟨R20, R21⟩, ⟨R30, R31⟩⟩⟩
  isplitl [R00 R10 R20 R30]
  · iapply (hr 0)
    isplitr; · iexact HR
    isplitl [R00]; · iexact R00
    isplitl [R10]; · iexact R10
    isplitl [R20] <;> iassumption
  isplitl [R01 R11 R21 R31]
  · iapply (hr 1)
    isplitr; · iexact HR
    isplitl [R01]; · iexact R01
    isplitl [R11]; · iexact R11
    isplitl [R21] <;> iassumption
  isplitl [S00 S10 S20 S30]
  · iapply (hs 0)
    isplitr; · iexact HR
    isplitl [S00]; · iexact S00
    isplitl [S10]; · iexact S10
    isplitl [S20] <;> iassumption
  iapply (hs 1)
  isplitr; · iexact HR
  isplitl [S01]; · iexact S01
  isplitl [S11]; · iexact S11
  isplitl [S21] <;> iassumption

/-- A direction's readers of all slots, in the order in which the hops use the slots. -/
theorem rd_intro (c : Dev nD) (ph d : Bool) :
    (bigSep Finset.univ fun x : Fin 4 × Fin 2 => readerAt ES (c, ph, d, x.1, x.2) 0) ⊢ (win4 (rd c ph d) 3 : sProp 𝕄) := by
  have hz : relN ph 3 - 1 = 0 ∧ relN ph (3 + 1) - 1 = 0 ∧ relN ph (3 + 2) - 1 = 0 ∧ relN ph (3 + 3) - 1 = 0 := by cases ph <;> decide
  rw [bigSep_slots]
  unfold win4 rd
  rw [if_pos (by decide), if_pos (by decide), if_pos (by decide), if_pos (by decide), hz.1, hz.2.1, hz.2.2.1, hz.2.2.2]
  iintro ⟨H0, H1, H2, H3⟩
  isplitl [H3]; · iexact H3
  isplitl [H0]; · iexact H0
  isplitl [H1]; · iexact H1
  iexact H2

/-- A direction's share makes its first state. -/
theorem Init_intro (c : Dev nD) (ph d : Bool) :
    iprop(recs I κ κ' ∗ deal c ph d ∗ dealCred c ph d) ⊢ (Init c ph d : sProp 𝕄) := by
  unfold deal dealCred Init rtoks
  iintro ⟨#HR, ⟨⟨Hat, Hcr⟩, Hrd, ⟨Hs, Hc⟩, Hw⟩, Hr, Hcc⟩
  isplitl [Hat]
  · iapply (posSt_intro I κ κ' c ph d)
    isplitr; · iexact HR
    iexact Hat
  isplitl [Hrd]; · iapply (rd_intro c ph d); iexact Hrd
  isplitl [Hcr]
  · unfold creditSt
    iexists (∅ : Finset ℕ)
    isplitr; · ipureintro; exact ⟨Nat.zero_le _, Finset.empty_subset _⟩
    isplitl [Hcr]; · iexact Hcr
    rw [bigSep_empty]; iempintro
  isplitl [Hs Hw Hcc]
  · iapply (toks_intro c ph d)
    isplitl [Hs]; · iexact Hs
    isplitl [Hw]; · iexact Hw
    iapply (crT_all c ph d); iexact Hcc
  isplitl [Hr]; · iexact Hr
  iapply (ctoks_intro c ph d); iexact Hc

/-! ## A direction's end -/

/-- The round at which a slot's semaphores have nothing left to be paid. -/
def lastR (k : Fin 4) : ℕ := if k = 3 then 3 else 4

/-- After its last use a slot's cell expects nothing more. -/
theorem duties_late (c : Dev nD) (b ph d : Bool) (k : Fin 4) (q : Fin 2) (r : ℕ) (hr : lastR k ≤ r) :
    (ringRd I).duties (cell c (.inl (dk ph d (b, k, q)))) r = ∅ := by
  rw [duties_cell]
  unfold dutiesOf
  refine if_neg fun h => ?_
  unfold lastR at hr
  split at hr
  · next e => subst e; have : 4 * r + 3 < 15 := h; omega
  · have : 4 * r + k.val < 15 := h; omega

/-- A transfer's cell at its last position holds zero. -/
theorem close_dma (c : Dev nD) (ph d : Bool) (x : XK) :
    iprop(recs I κ κ' ∗ atPos ER (cell c (.inl (dk ph d x))) (lastR x.2.1) ∅ 0) ⊢ (|={Set.univ}=> semVal (cell c (.inl (dk ph d x))) 0 : sProp 𝕄) := by
  iintro ⟨#HR, Hat⟩
  iapply (Rounds.cell_close ER (ringRd I) (Set.mem_univ (κ (c, .inl (dk ph d x)))) (fun h => h) (R := lastR x.2.1) (fun r hr => duties_late I c x.1 ph d x.2.1 x.2.2 r hr))
  isplitr; · iapply (recs_inv I κ κ' c (.inl (dk ph d x))); iexact HR
  iexact Hat

/-- After fifteen hops a direction's cells are at their last positions. -/
theorem posSt_last (c : Dev nD) (ph d : Bool) :
    posSt c ph d 15 ⊢ (bigSep Finset.univ fun x : XK => atPos ER (cell c (.inl (dk ph d x))) (lastR x.2.1) ∅ 0 : sProp 𝕄) := by
  rw [bigSep_univ_prod, bigSep_bool, bigSep_slots, bigSep_slots]
  unfold posSt win4 recvPos sendPos
  iintro ⟨⟨⟨R30, -⟩, ⟨R00, -⟩, ⟨R10, -⟩, ⟨R20, -⟩⟩, ⟨⟨R31, -⟩, ⟨R01, -⟩, ⟨R11, -⟩, ⟨R21, -⟩⟩,
    ⟨⟨S30, -⟩, ⟨S00, -⟩, ⟨S10, -⟩, ⟨S20, -⟩⟩, ⟨⟨S31, -⟩, ⟨S01, -⟩, ⟨S11, -⟩, ⟨S21, -⟩⟩⟩
  isplitl [S00 S01 S10 S11 S20 S21 S30 S31]
  · isplitl [S00 S01]; · (isplitl [S00]; · iexact S00); iexact S01
    isplitl [S10 S11]; · (isplitl [S10]; · iexact S10); iexact S11
    isplitl [S20 S21]; · (isplitl [S20]; · iexact S20); iexact S21
    (isplitl [S30]; · iexact S30); iexact S31
  isplitl [R00 R01]; · (isplitl [R00]; · iexact R00); iexact R01
  isplitl [R10 R11]; · (isplitl [R10]; · iexact R10); iexact R11
  isplitl [R20 R21]; · (isplitl [R20]; · iexact R20); iexact R21
  (isplitl [R30]; · iexact R30); iexact R31

/-- A credit cell, all credits taken, holds zero. -/
theorem close_cred (c : Dev nD) (ph d : Bool) :
    iprop(recs I κ κ' ∗ creditSt c ph d (15 - lim ph)) ⊢ (|={Set.univ}=> semVal (credCell c ph d) 0 : sProp 𝕄) := by
  unfold creditSt
  iintro ⟨#HR, ⟨%S, %hS, Hat, -⟩⟩
  have hS' : S = Finset.Ico (lim ph) 15 := Finset.eq_of_subset_of_card_le hS.2 (by rw [Nat.card_Ico]; exact hS.1)
  imod (Rounds.fupd_skip ER (ringRd I) (κ := κ (c, credKey ph d)) (g := credCell c ph d) (R := 0) (T := S) (m := 15 - lim ph)
    (by rw [duties_cred, hS']) (expect_cred I c ph d).symm (Es := Set.univ) (Set.mem_univ _)) $$ [Hat] with ⟨Hat, -⟩
  · isplitr; · iapply (recs_cred I κ κ' c ph d); iexact HR
    iexact Hat
  iapply (Rounds.cell_close ER (ringRd I) (Set.mem_univ (κ (c, credKey ph d))) (fun h => h) (R := 0 + 1) (fun r hr => by
    rw [← cell_cred, duties_cell]; exact if_neg (by omega)))
  isplitr; · iapply (recs_cred I κ κ' c ph d); iexact HR
  iexact Hat

/-- The barrier's cell, heard twice, holds zero. -/
theorem close_bar (c : Dev nD) :
    iprop(recs I κ κ' ∗ atPos ER (barCell c) 1 ∅ 0) ⊢ (|={Set.univ}=> semVal (barCell c) 0 : sProp 𝕄) := by
  iintro ⟨#HR, Hat⟩
  iapply (Rounds.cell_close ER (ringRd I) (Set.mem_univ (κ (c, barKey))) (fun h => h) (R := 1) (fun r hr => by
    rw [← cell_bar, duties_cell]; exact if_neg (by omega)))
  isplitr; · iapply (recs_bar I κ κ' c); iexact HR
  iexact Hat

/-- A direction's semaphores at zero. -/
def zeros (c : Dev nD) (ph d : Bool) : sProp 𝕄 :=
  iprop((bigSep Finset.univ fun x : XK => semVal (cell c (.inl (dk ph d x))) 0) ∗ semVal (credCell c ph d) 0)

/-- A direction's semaphores close. -/
theorem close_dir (c : Dev nD) (ph d : Bool) :
    iprop(recs I κ κ' ∗ Done c ph d) ⊢ (|={Set.univ}=> iprop(zeros c ph d ∗ kept c ph d 15) : sProp 𝕄) := by
  unfold Done zeros
  iintro ⟨#HR, Hp, Hc, Hk⟩
  ihave Hp := (posSt_last c ph d) $$ Hp
  imod (close_cred I κ κ' c ph d) $$ [Hc] with Hc
  · isplitr; · iexact HR
    iexact Hc
  imod (show iprop(recs I κ κ' ∗ bigSep Finset.univ fun x : XK => atPos ER (cell c (.inl (dk ph d x))) (lastR x.2.1) ∅ 0)
      ⊢ (|={Set.univ}=> bigSep Finset.univ fun x : XK => semVal (cell c (.inl (dk ph d x))) 0 : sProp 𝕄) from
      (sep_mono_left (BI.bigSep_of_persistent Finset.univ (recs I κ κ'))).trans (by
        rw [← bigSep_pair]
        exact (bigSep_each fun x _ => close_dma I κ κ' c ph d x).trans (bigSep_fupd _ _))) $$ [Hp] with Hp
  · isplitr; · iexact HR
    iexact Hp
  imodintro
  isplitl [Hp Hc]
  · isplitl [Hp] <;> iassumption
  iexact Hk

end Cert.Ring

end
-- ==== Proof.Glob.lean ====
/-
# The launch's ghost state

The tokens are minted by who pays with them, and the semaphores' and the slots' invariants are opened for all devices at
once.
-/
module

public import proofs.«01_k».proof.Proof.Deal

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F)

/-! ## The tokens of the payments -/

/-- A payment of a device: a transfer's at either end, a credit, or a signal of the entry barrier. -/
abbrev PK : Type := ((Bool × Bool) × ((Fin 15 × (Fin 2 × Bool)) ⊕ Fin 15)) ⊕ Bool

def payDev (c : Dev nD) : PK → Dev nD
  | .inl ((_, d), .inl (_, _, b)) => bif b then toDev d c else c
  | .inl ((_, d), .inr _) => fromDev d c
  | .inr b => toDev (!b) c
def payKey : PK → CK
  | .inl ((ph, d), .inl (h, q, b)) => .inl (.inl (b, ph, d, sl h.val, q))
  | .inl ((ph, d), .inr _) => credKey ph d
  | .inr _ => barKey
def payRound : PK → ℕ
  | .inl (_, .inl (h, _, _)) => h.val / 4
  | _ => 0
def payDuty : PK → ℕ
  | .inl (_, .inl _) => 0
  | .inl (_, .inr h) => h.val
  | .inr b => b.toNat

/-- The payment of a key, a round and a duty. -/
def payBack : CK × ℕ × ℕ → PK
  | (.inl (.inl (b, ph, d, k, q)), r, _) => .inl ((ph, d), .inl (Fin.ofNat 15 (4 * r + k.val), q, b))
  | (.inl (.inr y), _, δ) => .inl (y, .inr (Fin.ofNat 15 δ))
  | (.inr _, _, δ) => .inr (decide (δ = 1))

/-- A payment is found back from its cell's place, its round and its number. -/
theorem payBack_pay : ∀ j : PK, payBack (payKey j, payRound j, payDuty j) = j := by
  rintro (⟨⟨ph, d⟩, ⟨h, q, b⟩ | h⟩ | b)
  · show (Sum.inl ((ph, d), Sum.inl (Fin.ofNat 15 (4 * (h.val / 4) + (sl h.val).val), q, b)) : PK) = _
    rw [hop_div, show Fin.ofNat 15 h.val = h from Fin.ext (Nat.mod_eq_of_lt h.isLt)]
  · show (Sum.inl ((ph, d), Sum.inr (Fin.ofNat 15 h.val)) : PK) = _
    rw [show Fin.ofNat 15 h.val = h from Fin.ext (Nat.mod_eq_of_lt h.isLt)]
  · cases b <;> rfl

/-- Different devices send to different devices. -/
theorem toDev_injective (d : Bool) : Function.Injective (toDev d) := (ringE d).injective
/-- A payment of different devices goes to different devices. -/
theorem payDev_injective (j : PK) : Function.Injective fun c => payDev c j := by
  rcases j with ⟨⟨ph, d⟩, ⟨h, q, b⟩ | h⟩ | b
  · cases b
    · exact fun _ _ h => h
    · exact toDev_injective d
  · exact toDev_injective (!d)
  · exact toDev_injective (!b)

def tokOf (x : Dev nD × PK) : GSem nD τ sig × ℕ × ℕ := (cell (payDev x.1 x.2) (payKey x.2), payRound x.2, payDuty x.2)

/-- A cell tells its device and its place there. -/
theorem cell_inj {c c' : Dev nD} {k k' : CK} (h : cell c k = cell c' k') : c = c' ∧ k = k' :=
  ⟨by have := congrArg (fun g : GSem nD τ sig => g.1.1) h; exact this, csem_injective (congrArg Prod.snd h)⟩

/-- Different payments have different tokens. -/
theorem tokOf_injective : Function.Injective tokOf := by
  rintro ⟨c, j⟩ ⟨c', j'⟩ h
  have h0 : cell (payDev c j) (payKey j) = cell (payDev c' j') (payKey j') := congrArg Prod.fst h
  have h1 := cell_inj h0
  have h2 : (payKey j, payRound j, payDuty j) = (payKey j', payRound j', payDuty j') :=
    Prod.ext h1.2 (congrArg (fun x : GSem nD τ sig × ℕ × ℕ => x.2) h)
  have hj : j = j' := by rw [← payBack_pay j, ← payBack_pay j', h2]
  subst hj
  exact congrArg (fun c => (c, j)) (payDev_injective j h1.1)

/-- Different places have different cells. -/
theorem ringCell_injective : Function.Injective fun x : Dev nD × CK => cell x.1 x.2 := fun x y h => Prod.ext (cell_inj h).1 (cell_inj h).2
def ringCells : Finset (GSem nD τ sig) := Finset.univ.map ⟨_, ringCell_injective⟩
def ringToks : Finset (GSem nD τ sig × ℕ × ℕ) := Finset.univ.map ⟨tokOf, tokOf_injective⟩

/-! ## The tokens of the writes -/

/-- A write of a device: the phase and direction, the hop, the half. -/
abbrev WK : Type := (Bool × Bool) × (Fin 15 × Fin 2)
def wrOf (x : Dev nD × WK) : SK × ℕ := ((toDev x.2.1.2 x.1, x.2.1.1, x.2.1.2, sl x.2.2.1.val, x.2.2.2), (relN x.2.1.1 x.2.2.1.val + 3) % 4)

/-- Two hops that use the same slot for the same time are one hop. -/
theorem wr_hop : ∀ (ph : Bool) (h h' : Fin 15), sl h.val = sl h'.val → (relN ph h.val + 3) % 4 = (relN ph h'.val + 3) % 4 → h = h' := by decide +kernel

/-- Different hops have different rights to write. -/
theorem wrOf_injective : Function.Injective wrOf := by
  rintro ⟨c, ⟨⟨ph, d⟩, h, q⟩⟩ ⟨c', ⟨⟨ph', d'⟩, h', q'⟩⟩ e
  have e1 := congrArg Prod.fst e
  have e2 : (relN ph h.val + 3) % 4 = (relN ph' h'.val + 3) % 4 := congrArg Prod.snd e
  have hc : toDev d c = toDev d' c' := congrArg (fun x : SK => x.1) e1
  have hp : ph = ph' := congrArg (fun x : SK => x.2.1) e1
  have hd : d = d' := congrArg (fun x : SK => x.2.2.1) e1
  have hs : sl h.val = sl h'.val := congrArg (fun x : SK => x.2.2.2.1) e1
  have hq : q = q' := congrArg (fun x : SK => x.2.2.2.2) e1
  subst hp; subst hd; subst hq
  rw [toDev_injective d hc, wr_hop ph h h' hs e2]

/-- The rights to write, dealt to the devices whose hops use them. -/
theorem writes_deal :
    (bigSep ((Finset.univ : Finset SK) ×ˢ Finset.range 4) fun x => writeTok ES x.1 (x.2 + 1))
      ⊢ (bigSep Finset.univ fun c : Dev nD => bigSep Finset.univ fun y : Bool × Bool => bigSep (Finset.Ico 0 15) fun h => wTk c y.1 y.2 h : sProp 𝕄) := by
  refine BIBase.Entails.trans (show _ ⊢ _ from bigSep_subset (t := (Finset.univ : Finset (Dev nD × WK)).map ⟨wrOf, wrOf_injective⟩) fun x hx => ?_) ?_
  · obtain ⟨y, _, rfl⟩ := Finset.mem_map.mp hx
    exact Finset.mem_product.mpr ⟨Finset.mem_univ _, Finset.mem_range.mpr (Nat.mod_lt _ (by decide))⟩
  · rw [bigSep_map, bigSep_univ_prod]
    refine bigSep_each fun c _ => ?_
    rw [bigSep_univ_prod]
    refine bigSep_each fun y _ => ?_
    rw [bigSep_univ_prod, ← bigSep_hops]
    refine bigSep_each fun h _ => ?_
    rw [bigSep_two]
    exact .rfl

/-- The readers of the slots, dealt to the devices that hold them. -/
theorem readers_deal :
    (bigSep (Finset.univ : Finset SK) fun x => readerAt ES x 0)
      ⊢ (bigSep Finset.univ fun c : Dev nD => bigSep Finset.univ fun y : Bool × Bool => bigSep Finset.univ fun x : Fin 4 × Fin 2 => readerAt ES (c, y.1, y.2, x.1, x.2) 0 : sProp 𝕄) := by
  rw [bigSep_univ_prod]
  refine bigSep_each fun c _ => ?_
  rw [bigSep_univ_equiv (Equiv.prodAssoc Bool Bool (Fin 4 × Fin 2)), bigSep_univ_prod]
  exact .rfl

/-! ## What the launch deals a device -/

/-- The tokens a device pays with. -/
def tokD (c : Dev nD) : sProp 𝕄 :=
  iprop((bigSep Finset.univ fun y : Bool × Bool => iprop((bigSep (Finset.Ico 0 15) fun h => iprop(sTok c y.1 y.2 h 0 ∗ sTok c y.1 y.2 h 1))
      ∗ (bigSep (Finset.Ico 0 15) fun h => dutyTok ER (credCell (fromDev y.2 c) y.1 y.2) 0 h)))
    ∗ (dutyTok ER (barCell (toDev true c)) 0 0 ∗ dutyTok ER (barCell (toDev false c)) 0 1))

/-- The tokens of all payments, dealt to the devices that pay. -/
theorem toks_deal : (bigSep ringToks fun x => dutyTok ER x.1 x.2.1 x.2.2) ⊢ (bigSep Finset.univ tokD : sProp 𝕄) := by
  unfold ringToks
  rw [bigSep_map, bigSep_univ_prod]
  refine bigSep_each fun c _ => ?_
  unfold tokD
  rw [bigSep_univ_sum, bigSep_bool (F := F), bigSep_univ_prod]
  refine sep_mono_left (bigSep_each fun y _ => ?_)
  rw [bigSep_univ_sum, bigSep_univ_prod, ← bigSep_hops, ← bigSep_hops]
  refine sep_mono_left (bigSep_each fun h _ => ?_)
  rw [bigSep_univ_prod, bigSep_two, bigSep_bool, bigSep_bool]
  unfold sTok
  exact .rfl

/-- The slots' part of the launch's ghost state, dealt to the first device. -/
def slotPart (c : Dev nD) : sProp 𝕄 := if c = (0 : Dev nD) then BI.own (ES (initSlots (Finset.univ : Finset SK) 4)) else iprop(emp)

/-- The slots' bookkeeping, taken apart by device. -/
theorem slotPart_intro : BI.own (ES (initSlots (Finset.univ : Finset SK) 4)) ⊢ (bigSep Finset.univ slotPart : sProp 𝕄) := by
  rw [bigSep_univ_at _ (0 : Dev nD)]
  iintro H
  isplitl [H]
  · unfold slotPart; rw [if_pos rfl]; iexact H
  · rw [show bigSep (Finset.univ.erase (0 : Dev nD)) (slotPart (F := F)) = iprop(emp) from
      (bigSep_congr fun c hc => if_neg (Finset.ne_of_mem_erase hc)).trans (BI.bigSep_emp_const _)]
    iempintro

/-- The slots' bookkeeping, put together again. -/
theorem slotPart_elim : (bigSep Finset.univ slotPart : sProp 𝕄) ⊢ BI.own (ES (initSlots (Finset.univ : Finset SK) 4)) := by
  rw [bigSep_univ_at _ (0 : Dev nD)]
  iintro ⟨H, -⟩
  ihave H := (show slotPart (0 : Dev nD) ⊢ (BI.own (ES (initSlots (Finset.univ : Finset SK) 4)) : sProp 𝕄) from Entails.of_eq (if_pos rfl)) $$ H
  iexact H

/-- What the launch's element deals device `c`. -/
def G (c : Dev nD) : sProp 𝕄 :=
  iprop((bigSep Finset.univ fun k : CK => roundState ER (ringRd I) (cell c k) 0)
    ∗ ((bigSep Finset.univ fun k : CK => atPos ER (cell c k) 0 ∅ 0) ∗ (bigSep Finset.univ fun k : CK => reached ER (cell c k) 0)) ∗ tokD c ∗ slotPart c)

/-- The bookkeeping of the launch, dealt to the devices. -/
theorem fund_ring : iprop(BI.own (ER (initOf ringCells ringToks)) ∗ BI.own (ES (initSlots (Finset.univ : Finset SK) 4)))
    ⊢ (|==> bigSep Finset.univ (G I) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  iintro ⟨HX, HS⟩
  imod (Rounds.fund ER (ringRd I) ringCells ringToks) $$ HX with ⟨Hst, Hr, Hat, Htok⟩
  imodintro
  ihave Hst := (Entails.of_eq (hX fun g => roundState ER (ringRd I) g 0)) $$ Hst
  ihave Hat := (Entails.of_eq (hX fun g => atPos ER g 0 ∅ 0)) $$ Hat
  ihave Hr := (Entails.of_eq (hX fun g => reached ER g 0)) $$ Hr
  ihave Htok := (toks_deal (F := F)) $$ Htok
  ihave HS := (slotPart_intro (F := F)) $$ HS
  unfold G
  rw [bigSep_pair, bigSep_pair, bigSep_pair, bigSep_pair]
  isplitl [Hst]; · iexact Hst
  isplitl [Hat Hr]
  · isplitl [Hat] <;> iassumption
  isplitl [Htok] <;> iassumption

/-! ## The semaphores -/

/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, by the places of its cells. -/
theorem sems_in (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell c k) 0 : sProp 𝕄) := by
  rw [unscopedSems0_eq, bigSep_key]
  exact .rfl

/-- A device's cells opened: their invariants, their first positions and the rest of its share. -/
theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k => iprop(∃ κ : ℕ, cellInv ER (ringRd I) κ (cell c k)))
          ∗ ((bigSep Finset.univ fun k : CK => atPos ER (cell c k) 0 ∅ 0) ∗ (bigSep Finset.univ fun k : CK => reached ER (cell c k) 0)) ∗ tokD c ∗ slotPart c) := by
  unfold G
  iintro ⟨Hos, Hus, Hst, Hat, Htok⟩
  ihave Hv := (sems_in (F := F) c) $$ [Hos Hus]
  · isplitl [Hos] <;> iassumption
  imod (show iprop((bigSep Finset.univ fun k : CK => semVal (cell c k) 0) ∗ bigSep Finset.univ fun k : CK => roundState ER (ringRd I) (cell c k) 0)
      ⊢ (|={Set.univ}=> bigSep Finset.univ fun k => iprop(∃ κ : ℕ, cellInv ER (ringRd I) κ (cell c k)) : sProp 𝕄) from by
        rw [← bigSep_pair]
        exact (bigSep_each fun k _ => (Rounds.body_intro ER (ringRd I) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The records before the levels are dealt. -/
def recs0 (κ : Dev nD × CK → ℕ) (κ' : SK → ℕ) : sProp 𝕄 :=
  iprop(bigSep Finset.univ (fun x : Dev nD × CK => cellInv ER (ringRd I) (κ x) (cell x.1 x.2))
    ∗ bigSep Finset.univ (fun x : SK => slotInv ES (κ' x) x (slotRaw x.1 x.2.1 x.2.2.1 x.2.2.2.1 x.2.2.2.2))
    ∗ bigSep Finset.univ (fun x : Dev nD × CK => reached ER (cell x.1 x.2) 0))

instance recs0_persistent (κ : Dev nD × CK → ℕ) (κ' : SK → ℕ) : BI.Persistent (recs0 I κ κ') := by unfold recs0; infer_instance

/-- What stays with device `c`. -/
def dealD (c : Dev nD) : sProp 𝕄 :=
  iprop((bigSep Finset.univ fun y : Bool × Bool => deal c y.1 y.2)
    ∗ atPos ER (barCell c) 0 ∅ 0 ∗ (dutyTok ER (barCell (toDev true c)) 0 0 ∗ dutyTok ER (barCell (toDev false c)) 0 1))

/-- What a device needs of the bookkeeping, in the form its steps use. -/
theorem dealD_intro (c : Dev nD) :
    iprop((bigSep Finset.univ fun k : CK => atPos ER (cell c k) 0 ∅ 0) ∗ tokD c
      ∗ (bigSep Finset.univ fun y : Bool × Bool => bigSep Finset.univ fun x : Fin 4 × Fin 2 => readerAt ES (c, y.1, y.2, x.1, x.2) 0)
      ∗ (bigSep Finset.univ fun y : Bool × Bool => bigSep (Finset.Ico 0 15) fun h => wTk c y.1 y.2 h)) ⊢ (dealD c : sProp 𝕄) := by
  have hd : (bigSep Finset.univ fun y : Bool × Bool => (deal c y.1 y.2 : sProp 𝕄)) = _ :=
    (bigSep_pair _ _ _).trans (congrArg₂ (fun a b : sProp 𝕄 => iprop(a ∗ b)) rfl ((bigSep_pair _ _ _).trans
      (congrArg₂ (fun a b : sProp 𝕄 => iprop(a ∗ b)) rfl (bigSep_pair _ _ _))))
  unfold dealD tokD
  rw [hd, bigSep_key, bigSep_own]
  iintro ⟨⟨Hat, Hb⟩, ⟨Ht, Hbt⟩, Hr, Hw⟩
  isplitl [Hat Ht Hr Hw]
  · isplitl [Hat]; · iexact Hat
    isplitl [Hr]; · iexact Hr
    isplitl [Ht]; · iexact Ht
    iexact Hw
  isplitl [Hb]; · iexact Hb
  iexact Hbt

/-- What the global step makes of it. -/
def G' (c : Dev nD) : sProp 𝕄 := iprop(∃ κ, ∃ κ', recs0 I κ κ' ∗ dealD c)

/-- A fact that may be used again and again is used in every part. -/
theorem bigSep_with {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_pair]; exact bigSep_each h)

/-- The devices' shares regrouped: what all know apart from what each has. -/
theorem regroup :
    (bigSep Finset.univ fun c : Dev nD => iprop((bigSep Finset.univ fun k => iprop(∃ κ : ℕ, cellInv ER (ringRd I) κ (cell c k)))
          ∗ ((bigSep Finset.univ fun k : CK => atPos ER (cell c k) 0 ∅ 0) ∗ (bigSep Finset.univ fun k : CK => reached ER (cell c k) 0)) ∗ tokD c ∗ slotPart c) : sProp 𝕄)
      ⊢ |={Set.univ}=> bigSep Finset.univ (G' I) := by
  rw [bigSep_pair, bigSep_pair, bigSep_pair, bigSep_pair, ← bigSep_univ_prod (fun ck : Dev nD × CK => iprop(∃ κ : ℕ, cellInv ER (ringRd I) κ (cell ck.1 ck.2))),
    ← bigSep_univ_prod (fun ck : Dev nD × CK => (reached ER (cell ck.1 ck.2) 0 : sProp 𝕄))]
  iintro ⟨HI, ⟨Hat, #HR⟩, Htok, HS⟩
  ihave HK := (BI.bigSep_exists_pi Finset.univ (fun (ck : Dev nD × CK) (κ : ℕ) => (cellInv ER (ringRd I) κ (cell ck.1 ck.2) : sProp 𝕄))) $$ HI
  icases HK with ⟨%κ, #HI⟩
  ihave HS := (slotPart_elim (F := F)) $$ HS
  imod (slots_init (Es := Set.univ) ES (Finset.univ : Finset SK) 4 (fun x => (slotRaw x.1 x.2.1 x.2.2.1 x.2.2.2.1 x.2.2.2.2 : sProp 𝕄))) $$ HS with ⟨%κ', -, #HIS, Hrd, Hwr⟩
  ihave Hrd := (readers_deal (F := F)) $$ Hrd
  ihave Hwr := (writes_deal (F := F)) $$ Hwr
  imodintro
  iapply (bigSep_with (R := recs0 I κ κ') (Φ := fun c => iprop((bigSep Finset.univ fun k : CK => atPos ER (cell c k) 0 ∅ 0) ∗ tokD c
      ∗ (bigSep Finset.univ fun y : Bool × Bool => bigSep Finset.univ fun x : Fin 4 × Fin 2 => readerAt ES (c, y.1, y.2, x.1, x.2) 0)
      ∗ (bigSep Finset.univ fun y : Bool × Bool => bigSep (Finset.Ico 0 15) fun h => wTk c y.1 y.2 h))) (Ψ := G' I) fun c _ => by
        unfold G'
        iintro ⟨HR, H⟩
        iexists κ; iexists κ'
        isplitl [HR]; · iexact HR
        iapply (dealD_intro c); iexact H)
  isplitr
  · unfold recs0
    isplitr; · iexact HI
    isplitr; · iexact HIS
    iexact HR
  · rw [bigSep_pair, bigSep_pair, bigSep_pair]
    isplitl [Hat]; · iexact Hat
    isplitl [Htok]; · iexact Htok
    isplitl [Hrd]; · iexact Hrd
    iexact Hwr

/-- The whole launch's bookkeeping: the shared facts, and each device's share. -/
theorem glob_core : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ fun c : Dev nD => iprop((bigSep Finset.univ fun k => iprop(∃ κ : ℕ, cellInv ER (ringRd I) κ (cell c k)))
          ∗ ((bigSep Finset.univ fun k : CK => atPos ER (cell c k) 0 ∅ 0) ∗ (bigSep Finset.univ fun k : CK => reached ER (cell c k) 0)) ∗ tokD c ∗ slotPart c) :=
  BIBase.Entails.trans (bigSep_each fun c _ => core_alloc I c) (bigSep_fupd _ _)

/-- The global step: the kernel's own semaphores and the entry barrier's of every device at once. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  BIBase.Entails.trans (glob_core I) (BIBase.Entails.trans (show _ ⊢ _ from BI.fupd_mono (regroup I)) (Entails.of_eq (fupd_idem_eq _)))

/-! ## The credits -/

/-- A device's launch credit when every device `d` owes the list `l d`. -/
def lc (l : Dev nD → List Debt) (c : Dev nD) : sProp 𝕄 := Pipeline.launchCred (fun d => sumD (l d)) c

/-- Debts of two lists are added up. -/
theorem sumD_append : ∀ l l' : List Debt, sumD (l ++ l') = sumD l + sumD l'
  | [], l' => (zero_add _).symm
  | a :: l, l' => by
    show sumD (l ++ l') + _ = (sumD l + _) + sumD l'
    rw [sumD_append l l', add_right_comm]

/-- What a device is owed, by two lists of debts. -/
theorem lc_append (l l' : Dev nD → List Debt) (c : Dev nD) : lc (fun d => l d ++ l' d) c = (iprop(lc l c ∗ lc l' c) : sProp 𝕄) := by
  unfold lc
  rw [← Pipeline.launchCred_add]
  exact congrArg (fun O => (Pipeline.launchCred O c : sProp 𝕄)) (funext fun d => sumD_append (l d) (l' d))

/-- What a device is owed, by a first debt and the rest. -/
theorem lc_cons (a : Dev nD → Debt) (l : Dev nD → List Debt) (c : Dev nD) :
    lc (fun d => a d :: l d) c = (iprop(lc l c ∗ Pipeline.launchCred (fun d => tallyAt (a d).1 (a d).2.1 (a d).2.2) c) : sProp 𝕄) := by
  unfold lc
  rw [← Pipeline.launchCred_add]
  rfl

/-- With no debts nothing is owed. -/
theorem lc_nil (c : Dev nD) : lc (fun _ => []) c = (iprop(emp) : sProp 𝕄) := Pipeline.launchCred_zero c

/-- A hop's transfer is owed to the device that receives it. -/
theorem lc_send1 (ph d : Bool) (h : ℕ) (q : Fin 2) (c : Dev nD) :
    (Pipeline.launchCred (fun e => tallyAt (debtSend e ph d h q).1 (debtSend e ph d h q).2.1 (debtSend e ph d h q).2.2) c : sProp 𝕄)
      ⊢ cred (tallyAt (recvCell c ph d h q) h N) :=
  Pipeline.launchCred_tallyAt (SemLoc.dma (semAt (recvA ph d) (sl h) q)) (toDev d) (toDev (!d)) (toDev_toDev d) (toDev_toDev' d) h N c
/-- A credit is owed to the device that waits for it. -/
theorem lc_cred1 (ph d : Bool) (h : ℕ) (c : Dev nD) :
    (Pipeline.launchCred (fun e => tallyAt (debtCred e ph d h).1 (debtCred e ph d h).2.1 (debtCred e ph d h).2.2) c : sProp 𝕄)
      ⊢ cred (tallyAt (credCell c ph d) h 1) :=
  Pipeline.launchCred_tallyAt (SemLoc.reg (credS ph d)) (fromDev d) (toDev d) (fun e => toDev_toDev' d e) (fun e => toDev_toDev d e) h 1 c
/-- A barrier signal is owed to the neighbour. -/
theorem lc_bar1 (d : Bool) (c : Dev nD) :
    (Pipeline.launchCred (fun e => tallyAt (debtBar e d).1 (debtBar e d).2.1 (debtBar e d).2.2) c : sProp 𝕄)
      ⊢ cred (tallyAt (barCell c) 0 1) :=
  Pipeline.launchCred_tallyAt (SemLoc.reg barS) (toDev d) (toDev (!d)) (toDev_toDev d) (toDev_toDev' d) 0 1 c

/-- A hop's transfers, owed in both directions. -/
theorem lc_send (ph : Bool) {h : ℕ} (h15 : h < 15) (c : Dev nD) :
    lc (fun e => sendDebts e ph h) c ⊢ (iprop(rTok c ph false h ∗ rTok c ph true h) : sProp 𝕄) := by
  rw [show (fun e : Dev nD => sendDebts e ph h) = fun e => [debtSend e ph false h 0, debtSend e ph true h 0, debtSend e ph false h 1, debtSend e ph true h 1] from
    funext fun e => if_pos h15, lc_cons, lc_cons, lc_cons, lc_cons]
  unfold rTok
  iintro ⟨⟨⟨⟨-, H4⟩, H3⟩, H2⟩, H1⟩
  isplitl [H1 H3]
  · isplitl [H1]; · iapply (lc_send1 ph false h 0 c); iexact H1
    iapply (lc_send1 ph false h 1 c); iexact H3
  · isplitl [H2]; · iapply (lc_send1 ph true h 0 c); iexact H2
    iapply (lc_send1 ph true h 1 c); iexact H4

/-- A hop's credits, owed in both directions. -/
theorem lc_credits (ph : Bool) {h : ℕ} (h15 : h < 15) (c : Dev nD) :
    lc (fun e => credDebts e ph h) c ⊢ (iprop(crT c ph false h ∗ crT c ph true h) : sProp 𝕄) := by
  unfold crT
  by_cases hl : lim ph ≤ h
  · rw [show (fun e : Dev nD => credDebts e ph h) = fun e => [debtCred e ph false h, debtCred e ph true h] from
      funext fun e => if_pos ⟨hl, h15⟩, lc_cons, lc_cons, if_pos hl, if_pos hl]
    iintro ⟨⟨-, H2⟩, H1⟩
    isplitl [H1]; · iapply (lc_cred1 ph false h c); iexact H1
    iapply (lc_cred1 ph true h c); iexact H2
  · rw [if_neg hl, if_neg hl]
    iintro -
    isplitr <;> iempintro

/-- From below: the first of a run of things, if the run is not over. -/
theorem run_cons {a b : ℕ} (A B : ℕ → sProp 𝕄) {X : sProp 𝕄} (hX : a < b → X ⊢ iprop(A a ∗ B a)) :
    iprop(X ∗ bigSep (Finset.Ico (a + 1) b) A ∗ bigSep (Finset.Ico (a + 1) b) B) ⊢ iprop(bigSep (Finset.Ico a b) A ∗ bigSep (Finset.Ico a b) B) := by
  by_cases h : a < b
  · rw [bigSep_Ico_succ_bot h, bigSep_Ico_succ_bot h]
    iintro ⟨HX, HA, HB⟩
    ihave HX := (hX h) $$ HX
    icases HX with ⟨H1, H2⟩
    isplitl [H1 HA]; · isplitl [H1] <;> iassumption
    isplitl [H2] <;> iassumption
  · rw [Finset.Ico_eq_empty h, bigSep_empty, bigSep_empty]
    iintro -
    isplitr <;> iempintro

/-- What is owed to a device in the steps of a phase still to come. -/
theorem lc_steps (ph : Bool) (l : Dev nD → List Debt) (c : Dev nD) : ∀ n s, s + n = 15 →
    lc (fun e => stepDebts e ph n s (l e)) c
      ⊢ (iprop((bigSep (Finset.Ico (s + 1) 15) (rTok c ph false) ∗ bigSep (Finset.Ico (s + 1) 15) (rTok c ph true))
        ∗ (bigSep (Finset.Ico (s + 3) 15) (crT c ph false) ∗ bigSep (Finset.Ico (s + 3) 15) (crT c ph true)) ∗ lc l c) : sProp 𝕄)
  | 0, s, hs => by
    rw [Finset.Ico_eq_empty (by omega), Finset.Ico_eq_empty (by omega)]
    simp only [bigSep_empty]
    iintro H
    isplitr; · isplitr <;> iempintro
    isplitr; · isplitr <;> iempintro
    iexact H
  | n + 1, s, hs => by
    have e : lc (fun e => stepDebts e ph (n + 1) s (l e)) c
        = (iprop(lc (fun e => sendDebts e ph (s + 1)) c ∗ lc (fun e => credDebts e ph (s + 3)) c ∗ lc (fun e => stepDebts e ph n (s + 1) (l e)) c) : sProp 𝕄) :=
      (lc_append _ _ c).trans (congrArg (fun z : sProp 𝕄 => iprop(lc (fun e => sendDebts e ph (s + 1)) c ∗ z)) (lc_append _ _ c))
    rw [e]
    iintro ⟨H1, H2, H3⟩
    ihave H3 := (lc_steps ph l c n (s + 1) (by omega)) $$ H3
    icases H3 with ⟨⟨Hf, Ht⟩, ⟨Kf, Kt⟩, Hl⟩
    isplitl [H1 Hf Ht]
    · iapply (run_cons (rTok c ph false) (rTok c ph true) (fun h => lc_send ph h c))
      isplitl [H1]; · iexact H1
      isplitl [Hf]; · iexact Hf
      iexact Ht
    isplitl [H2 Kf Kt]
    · iapply (run_cons (crT c ph false) (crT c ph true) (fun h => lc_credits ph h c))
      isplitl [H2]; · iexact H2
      isplitl [Kf]; · iexact Kf
      iexact Kt
    iexact Hl

/-- What is owed to a device in a whole phase. -/
theorem lc_phase (ph : Bool) (l : Dev nD → List Debt) (c : Dev nD) :
    lc (fun e => sendDebts e ph 0 ++ stepDebts e ph 15 0 (l e)) c ⊢ (iprop((dealCred c ph false ∗ dealCred c ph true) ∗ lc l c) : sProp 𝕄) := by
  rw [lc_append]
  unfold dealCred
  iintro ⟨H1, H3⟩
  ihave H3 := (lc_steps ph l c 15 0 rfl) $$ H3
  icases H3 with ⟨⟨Hf, Ht⟩, ⟨Kf, Kt⟩, Hl⟩
  ihave HR := (run_cons (rTok c ph false) (rTok c ph true) (fun h => lc_send ph h c)) $$ [H1 Hf Ht]
  · isplitl [H1]; · iexact H1
    isplitl [Hf]; · iexact Hf
    iexact Ht
  icases HR with ⟨Hf, Ht⟩
  isplitr [Hl]
  · isplitl [Hf Kf]; · (isplitl [Hf]; · iexact Hf); iexact Kf
    (isplitl [Ht]; · iexact Ht); iexact Kt
  iexact Hl

/-- A device's launch credit: for the entry barrier and for each direction. -/
theorem launch_credits (c : Dev nD) : (Pipeline.launchCred (fun e => sumD (allDebts e)) c : sProp 𝕄)
    ⊢ iprop(cred (tallyAt (barCell c) 0 2) ∗ (dealCred c false false ∗ dealCred c false true) ∗ (dealCred c true false ∗ dealCred c true true)) := by
  have e : (Pipeline.launchCred (fun e => sumD (allDebts e)) c : sProp 𝕄) = _ :=
    (lc_cons (fun e => debtBar e true) _ c).trans (congrArg (fun z : sProp 𝕄 => iprop(z ∗ _)) (lc_cons (fun e => debtBar e false) _ c))
  have p : lc (fun e => sendDebts e false 0 ++ stepDebts e false 15 0 (sendDebts e true 0 ++ stepDebts e true 15 0 [])) c
      ⊢ (iprop((dealCred c false false ∗ dealCred c false true) ∗ (dealCred c true false ∗ dealCred c true true)) : sProp 𝕄) := by
    iintro H
    ihave H := (lc_phase false (fun e => sendDebts e true 0 ++ stepDebts e true 15 0 []) c) $$ H
    icases H with ⟨H1, H⟩
    ihave H := (lc_phase true (fun _ => []) c) $$ H
    icases H with ⟨H2, -⟩
    isplitl [H1] <;> iassumption
  rw [e]
  iintro ⟨⟨H, B1⟩, B2⟩
  ihave B1 := (lc_bar1 false c) $$ B1
  ihave B2 := (lc_bar1 true c) $$ B2
  isplitl [B1 B2]
  · rw [show (tallyAt (barCell c) 0 2 : CellTallies nD τ sig ℕ) = tallyAt (barCell c) 0 1 + tallyAt (barCell c) 0 1 from (tallyAt_add _ _ 1 1).symm]
    iapply (cred_add _ _).2
    isplitl [B1] <;> iassumption
  iapply p; iexact H

end Cert.Ring

end
-- ==== Proof.BodyEq.lean ====
/-
# The printed body is the program over hops
-/
module

public import proofs.«01_k».proof.Proof.Body

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

set_option maxRecDepth 1000000 in
set_option maxHeartbeats 0 in
/-- The body as the launch runs it reads its device and is the program over hops there: by definitional unfolding. -/
theorem body_eq (t : Fin cfg0.N) : bodyAt0 (F := F) t = .op .deviceId fun c => mainK c := rfl

end Cert.Ring

end
-- ==== Proof.Launch.lean ====
/-
# The kernel's launch and its run

What each device starts and ends with, the launch's side conditions, and the run: from any memory every execution ends,
with every semaphore at zero, the operands unchanged and the output's blocks at the values the body stored.
-/
module

public import proofs.«01_k».proof.Proof.Glob
public import proofs.«01_k».proof.Proof.BodyEq
public import Idealize.ShloMosaic.Lib.Pipeline.CollectiveSegs
public import proofs.«01_k».proof.Proof.Gen.KernelIdeal.Points

@[expose] public section

set_option maxRecDepth 100000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Ins F)

/-! ## The slots handed out and got back -/

/-- The slots of the reduce-scatter's buffer: three for the neighbour to write, one for the first partial products. -/
theorem hand_rs (c : Dev nD) (d : Bool) :
    allSlots c false d ⊢ (iprop(pre c false d 0 ∗ slotRaw c false d 3 0 ∗ slotRaw c false d 3 1) : sProp 𝕄) := by
  unfold allSlots pre
  rw [bigSep_slots, show Finset.Ico 0 (lim false) = Finset.Ico 0 3 from rfl, bigSep_Ico_succ_bot (show 0 < 3 by decide),
    bigSep_Ico_succ_bot (show 0 + 1 < 3 by decide), bigSep_Ico_succ_bot (show 0 + 1 + 1 < 3 by decide), Finset.Ico_self, bigSep_empty]
  unfold rawPair
  iintro ⟨H0, H1, H2, H3⟩
  isplitr [H3]
  · isplitl [H0]; · iexact H0
    isplitl [H1]; · iexact H1
    isplitl [H2]; · iexact H2
    iempintro
  iexact H3

/-- The slots of the all-gather's buffer, all for the neighbour to write. -/
theorem hand_ag (c : Dev nD) (d : Bool) : allSlots c true d ⊢ (pre c true d 0 : sProp 𝕄) := by
  unfold allSlots pre
  rw [bigSep_slots, show Finset.Ico 0 (lim true) = Finset.Ico 0 4 from rfl, bigSep_Ico_succ_bot (show 0 < 4 by decide),
    bigSep_Ico_succ_bot (show 0 + 1 < 4 by decide), bigSep_Ico_succ_bot (show 0 + 1 + 1 < 4 by decide),
    bigSep_Ico_succ_bot (show 0 + 1 + 1 + 1 < 4 by decide), Finset.Ico_self, bigSep_empty]
  unfold rawPair
  iintro ⟨H0, H1, H2, H3⟩
  isplitl [H0]; · iexact H0
  isplitl [H1]; · iexact H1
  isplitl [H2]; · iexact H2
  isplitl [H3]; · iexact H3
  iempintro

/-- What the last steps kept: slots 3, 0 and 1, and for the all-gather the reduce-scatter's slot 2. -/
theorem kept_end (c : Dev nD) (ph d : Bool) :
    kept c ph d 15 ⊢ (iprop((rawPair c ph d 3 ∗ rawPair c ph d 0 ∗ rawPair c ph d 1) ∗ (if ph = true then rawPair c false d 2 else iprop(emp))) : sProp 𝕄) := by
  unfold kept
  rw [bigSep_Ico_succ_bot (show 12 < 15 by decide), bigSep_Ico_succ_bot (show 12 + 1 < 15 by decide), bigSep_Ico_succ_bot (show 12 + 1 + 1 < 15 by decide), Finset.Ico_self,
    bigSep_empty]
  simp only [show (ph = true ∧ 1 ≤ 15) ↔ (ph = true) from ⟨fun h => h.1, fun h => ⟨h, by decide⟩⟩]
  iintro ⟨⟨H0, H1, H2, -⟩, H⟩
  isplitr [H]
  · isplitl [H0]; · iexact H0
    isplitl [H1]; · iexact H1
    iexact H2
  iexact H

/-- The four slots of a buffer make up the buffer again. -/
theorem back (c : Dev nD) (ph d : Bool) :
    iprop((rawPair c ph d 3 ∗ rawPair c ph d 0 ∗ rawPair c ph d 1) ∗ rawPair c ph d 2) ⊢ (scratch c ph d : sProp 𝕄) := by
  refine BIBase.Entails.trans ?_ (scratch_join c ph d)
  unfold allSlots
  rw [bigSep_slots]
  unfold rawPair
  iintro ⟨⟨H3, H0, H1⟩, H2⟩
  isplitl [H0]; · iexact H0
  isplitl [H1]; · iexact H1
  isplitl [H2]; · iexact H2
  iexact H3

/-- The last tile received is in the last slot. -/
theorem src_end (c : Dev nD) (d : Bool) :
    iprop(srcFull I c true d 15 0 ∗ srcFull I c true d 15 1) ⊢ (rawPair c true d 2 : sProp 𝕄) := by
  unfold srcFull rawPair
  iintro ⟨H0, H1⟩
  isplitl [H0]
  · iapply (slotPt_raw c true d 2 0 _); iexact H0
  · iapply (slotPt_raw c true d 2 1 _); iexact H1

/-! ## What a device starts and ends with -/

def start (c : Dev nD) : sProp 𝕄 :=
  iprop(∃ κ, ∃ κ', recs I κ κ' ∗ dealD c ∗ cred (tallyAt (barCell c) 0 2)
    ∗ (dealCred c false false ∗ dealCred c false true) ∗ (dealCred c true false ∗ dealCred c true true))

/-- The four scratch buffers. -/
def scr (c : Dev nD) : sProp 𝕄 := iprop((scratch c false false ∗ scratch c false true) ∗ (scratch c true false ∗ scratch c true true))

/-- The ring's semaphores at zero. -/
def zeroD (c : Dev nD) : sProp 𝕄 :=
  iprop(((zeros c false false ∗ zeros c false true) ∗ (zeros c true false ∗ zeros c true true)) ∗ semVal (barCell c) 0)

/-- What a device hands over with its signal to the left neighbour: the slots that neighbour will write. -/
theorem barPay_r (c : Dev nD) : iprop(pre c false false 0 ∗ pre c true false 0) ⊢ (barPay (toDev true c) false : sProp 𝕄) := by
  unfold barPay
  rw [show toDev false (toDev true c) = c from toDev_toDev' true c]
/-- What a device hands over with its signal to the right neighbour: the slots that neighbour will write. -/
theorem barPay_l (c : Dev nD) : iprop(pre c false true 0 ∗ pre c true true 0) ⊢ (barPay (toDev false c) true : sProp 𝕄) := by
  unfold barPay
  rw [show toDev true (toDev false c) = c from toDev_toDev' false c]

/-- A program that returns needs only what is wanted of it. -/
theorem WP_ret (c : Dev nD) (Q : PUnit → sProp 𝕄) : iprop(|={Set.univ}=> Q ⟨⟩) ⊢ (WP c (.ret ⟨⟩) Q : sProp 𝕄) := by
  show _ ⊢ wp frame (wpE (defs₀ (F := F)) 𝒱₀ (c : Thread nD τ) none) Set.univ _ Q
  rw [wp_ret]
/-- A program that reads its device runs as the program of that device. -/
theorem WP_dev (c : Dev nD) (Q : PUnit → sProp 𝕄) : WP c (mainK c) Q ⊢ (WP c (.op .deviceId fun c => mainK c) Q : sProp 𝕄) := by
  show _ ⊢ wp frame (wpE (defs₀ (F := F)) 𝒱₀ (c : Thread nD τ) none) Set.univ _ Q
  rw [wp_deviceId]

/-- The body from what the device starts with to what it ends with. -/
theorem sound (c : Dev nD) (M0 : Dev nD → Fin 2 → Vec F S256x128 .f32) (Q : PUnit → sProp 𝕄) :
    iprop(start I c ∗ scr c ∗ owe c (allDebts c) ∗ insPt I c ∗ outSt c M0)
      ⊢ iprop(((scr c ∗ zeroD c ∗ owe c [] ∗ insPt I c ∗ outSt c (finV I c)) -∗ Q ⟨⟩) -∗ WP c (mainK c) Q) := by
  unfold start dealD scr
  iintro ⟨⟨%κ, %κ', #HR, ⟨Hd, Hat, Ht, Ht'⟩, Hcb, ⟨Caf, Cat⟩, ⟨Cbf, Cbt⟩⟩, ⟨⟨Saf, Sat⟩, ⟨Sbf, Sbt⟩⟩, HO, Hin, Ho⟩ Hk
  ihave Hd := (Entails.of_eq (bigSep_pd fun y => deal c y.1 y.2)) $$ Hd
  icases Hd with ⟨⟨Daf, Dat⟩, ⟨Dbf, Dbt⟩⟩
  ihave Saf := ((scratch_split c false false).trans (hand_rs c false)) $$ Saf
  ihave Sat := ((scratch_split c false true).trans (hand_rs c true)) $$ Sat
  ihave Sbf := ((scratch_split c true false).trans (hand_ag c false)) $$ Sbf
  ihave Sbt := ((scratch_split c true true).trans (hand_ag c true)) $$ Sbt
  icases Saf with ⟨Paf, Xf0, Xf1⟩
  icases Sat with ⟨Pat, Xt0, Xt1⟩
  iapply (wp_main I κ κ' c M0 Q) $$ [HO Hin Ho Xf0 Xf1 Xt0 Xt1 Paf Pat Sbf Sbt Hcb Hat Ht Ht' Daf Dat Dbf Dbt Caf Cat Cbf Cbt]
  · isplitr; · iexact HR
    isplitl [HO]; · iexact HO
    isplitl [Hin]; · iexact Hin
    isplitl [Ho]; · iexact Ho
    isplitl [Xf0 Xf1 Xt0 Xt1]
    · unfold slots3
      isplitl [Xf0 Xt0]; · (isplitl [Xf0]; · iexact Xf0); iexact Xt0
      (isplitl [Xf1]; · iexact Xf1); iexact Xt1
    isplitl [Hcb Hat Ht Ht' Paf Pat Sbf Sbt]
    · isplitl [Hcb]; · iexact Hcb
      isplitl [Hat]; · iexact Hat
      isplitl [Ht]; · iexact Ht
      isplitl [Ht']; · iexact Ht'
      isplitl [Paf Sbf]
      · iapply (barPay_r c)
        isplitl [Paf] <;> iassumption
      · iapply (barPay_l c)
        isplitl [Pat] <;> iassumption
    isplitl [Daf Dat Caf Cat]
    · isplitl [Daf Caf]
      · iapply (Init_intro I κ κ' c false false)
        isplitr; · iexact HR
        isplitl [Daf]; · iexact Daf
        iexact Caf
      · iapply (Init_intro I κ κ' c false true)
        isplitr; · iexact HR
        isplitl [Dat]; · iexact Dat
        iexact Cat
    isplitl [Dbf Cbf]
    · iapply (Init_intro I κ κ' c true false)
      isplitr; · iexact HR
      isplitl [Dbf]; · iexact Dbf
      iexact Cbf
    · iapply (Init_intro I κ κ' c true true)
      isplitr; · iexact HR
      isplitl [Dbt]; · iexact Dbt
      iexact Cbt
  iintro ⟨HO, Hin, Ho, Hat, ⟨Daf, Dat⟩, ⟨Dbf, Dbt⟩, Ef, Et⟩
  iapply (WP_ret c Q)
  imod (close_dir I κ κ' c false false) $$ [Daf] with ⟨Zaf, Kaf⟩
  · isplitr; · iexact HR
    iexact Daf
  imod (close_dir I κ κ' c false true) $$ [Dat] with ⟨Zat, Kat⟩
  · isplitr; · iexact HR
    iexact Dat
  imod (close_dir I κ κ' c true false) $$ [Dbf] with ⟨Zbf, Kbf⟩
  · isplitr; · iexact HR
    iexact Dbf
  imod (close_dir I κ κ' c true true) $$ [Dbt] with ⟨Zbt, Kbt⟩
  · isplitr; · iexact HR
    iexact Dbt
  imod (close_bar I κ κ' c) $$ [Hat] with Zb
  · isplitr; · iexact HR
    iexact Hat
  imodintro
  ihave Kaf := (kept_end c false false) $$ Kaf
  ihave Kat := (kept_end c false true) $$ Kat
  ihave Kbf := (kept_end c true false) $$ Kbf
  ihave Kbt := (kept_end c true true) $$ Kbt
  icases Kaf with ⟨Kaf, -⟩
  icases Kat with ⟨Kat, -⟩
  icases Kbf with ⟨Kbf, Jf⟩
  icases Kbt with ⟨Kbt, Jt⟩
  ihave Jf := (show iprop(if true = true then rawPair c false false 2 else iprop(emp)) ⊢ (rawPair c false false 2 : sProp 𝕄) from Entails.of_eq (if_pos rfl)) $$ Jf
  ihave Jt := (show iprop(if true = true then rawPair c false true 2 else iprop(emp)) ⊢ (rawPair c false true 2 : sProp 𝕄) from Entails.of_eq (if_pos rfl)) $$ Jt
  ihave Ef := (src_end I c false) $$ Ef
  ihave Et := (src_end I c true) $$ Et
  iapply Hk
  isplitl [Kaf Kat Kbf Kbt Jf Jt Ef Et]
  · isplitl [Kaf Kat Jf Jt]
    · isplitl [Kaf Jf]
      · iapply (back c false false)
        isplitl [Kaf]; · iexact Kaf
        iexact Jf
      · iapply (back c false true)
        isplitl [Kat]; · iexact Kat
        iexact Jt
    · isplitl [Kbf Ef]
      · iapply (back c true false)
        isplitl [Kbf] <;> iassumption
      · iapply (back c true true)
        isplitl [Kbt] <;> iassumption
  isplitl [Zaf Zat Zbf Zbt Zb]
  · unfold zeroD
    isplitr [Zb]
    · isplitl [Zaf Zat]
      · isplitl [Zaf] <;> iassumption
      · isplitl [Zbf] <;> iassumption
    iexact Zb
  isplitl [HO]; · iexact HO
  isplitl [Hin] <;> iassumption

/-! ## The output -/

/-- The block of rows a row lies in, and its half. -/
def bO (i : S8192x128.Idx) : Dev nD := ⟨(i 0).val / 512, Nat.div_lt_of_lt_mul (i 0).isLt⟩
def qO (i : S8192x128.Idx) : Fin 2 := ⟨(i 0).val % 512 / 256, Nat.div_lt_of_lt_mul (Nat.mod_lt _ (by decide))⟩
/-- An index lies within its window. -/
theorem off_le (i : S8192x128.Idx) : ∀ a, offB (bO i) (qO i) a ≤ (i a).val ∧ (i a).val - offB (bO i) (qO i) a < S256x128.size a := by
  intro a
  fin_cases a
  · show 512 * ((i 0).val / 512) + 256 * ((i 0).val % 512 / 256) ≤ (i 0).val ∧ (i 0).val - (512 * ((i 0).val / 512) + 256 * ((i 0).val % 512 / 256)) < 256
    omega
  · exact ⟨Nat.zero_le _, (i 1).isLt⟩
/-- An index within its window. -/
def xO (i : S8192x128.Idx) : S256x128.Idx := fun a => ⟨(i a).val - offB (bO i) (qO i) a, (off_le i a).2⟩

/-- The output as its windows say. -/
def outOf (M : Dev nD → Fin 2 → Vec F S256x128 .f32) : OutC F := fun i => M (bO i) (qO i) (xO i)

/-- Contents whose windows are known are known. -/
theorem out_eq {f : OutC F} {M : Dev nD → Fin 2 → Vec F S256x128 .f32} (h : ∀ b q, winV f b q = M b q) : f = outOf M := by
  funext i
  unfold outOf
  rw [← h]
  unfold winV
  rw [View.read_apply]
  refine congrArg f (funext fun a => Fin.ext ?_)
  have he := out_emb (bO i) (qO i) (xO i) a
  have hl := (off_le i a).1
  show (i a).val = (((oM.access (outR (bO i) (qO i))).emb (xO i) : S8192x128.Idx) a).val
  rw [he]
  show (i a).val = offB (bO i) (qO i) a + ((i a).val - offB (bO i) (qO i) a)
  omega

/-- The output with its windows known is the output with its contents known. -/
theorem outSt_eq (c : Dev nD) (M : Dev nD → Fin 2 → Vec F S256x128 .f32) :
    outSt c M ⊢ (((oM.view.loc (c : Thread nD τ)) ↦{fullShare} (outOf M : OutC F)) : sProp 𝕄) := by
  unfold outSt
  iintro ⟨%f, %hf, H⟩
  have hf' := out_eq hf
  subst hf'
  iexact H

/-! ## The windows' data -/

variable (m : (ℓ : Loc nD τ sig) → Buf (Elt F) ℓ) (ρ : Dev nD → PrngReg)

/-- The run's start: any memory, every counter at zero. -/
def s₀ : MemSt nD τ sig (Elt F) := ⟨m, fun _ => 0, ρ⟩

/-- What the devices hold of the three operands. -/
def inOf : Ins F where
  x c := (win0_0.blk (0 : Fin 1)).view.read (Elt F) (m ((c : Thread nD τ).loc main_arg0))
  w1 c := (win0_1.blk (0 : Fin 1)).view.read (Elt F) (m ((c : Thread nD τ).loc main_arg1))
  w2 c := (win0_2.blk (0 : Fin 1)).view.read (Elt F) (m ((c : Thread nD τ).loc main_arg2))

def outAt (c : Dev nD) : OutC F := outOf (finV (inOf m) c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => (inOf m).x c
    | ⟨1, _⟩ => (inOf m).w1 c
    | ⟨2, _⟩ => (inOf m).w2 c
    | ⟨3, _⟩ => outAt m c
  Φ t := match t with
    | ⟨0, _⟩ => iprop(start (inOf m) c ∗ scr c)
    | ⟨_ + 1, _⟩ => iprop(scr c ∗ zeroD c)
  q _ := fullShare
  owed t := match t with
    | ⟨0, _⟩ => sumD (allDebts c)
    | ⟨_ + 1, _⟩ => 0

/-- Holding a whole buffer, spelt as a cell range. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start (inOf m) c ∗ scr c) ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop((scr c ∗ zeroD c) ∗ (dats m ρ 0 c).owesAt 0 t0_0.succ
    ∗ stg c cc0_stg0_0 ((inOf m).x c) ∗ stg c cc0_stg1_0 ((inOf m).w1 c) ∗ stg c cc0_stg2_0 ((inOf m).w2 c) ∗ stg c cc0_stg3_0 (outAt m c))

/-- The body starts with the device's part of `x` staged. -/
theorem before_0 (c : Dev nD) (d) : (dats m ρ 0 c).before (0 : Fin 4) t0_0 d = (inOf m).x c := by
  unfold Pipeline.Dat.before; rw [if_pos (fetch0_0 t0_0)]; rfl
/-- The body starts with the device's part of `W1` staged. -/
theorem before_1 (c : Dev nD) (d) : (dats m ρ 0 c).before (1 : Fin 4) t0_0 d = (inOf m).w1 c := by
  unfold Pipeline.Dat.before; rw [if_pos (fetch0_1 t0_0)]; rfl
/-- The body starts with the device's part of `W2` staged. -/
theorem before_2 (c : Dev nD) (d) : (dats m ρ 0 c).before (2 : Fin 4) t0_0 d = (inOf m).w2 c := by
  unfold Pipeline.Dat.before; rw [if_pos (fetch0_2 t0_0)]; rfl

/-- The body runs, from what it starts with to what it ends with. -/
theorem sound_body (c : Dev nD) (Q : PUnit → sProp 𝕄) :
    bodyPre m ρ c ⊢ iprop((bodyPost m ρ c -∗ Q ⟨⟩) -∗ WP c (bodyAt0 (F := F) t0_0) Q) := by
  rw [body_eq]
  unfold bodyPre bodyPost
  iintro ⟨⟨Hs, Hc⟩, HO, ⟨%d0, %g0, %h0, H0⟩, ⟨%d1, %g1, %h1, H1⟩, ⟨%d2, %g2, %h2, H2⟩, ⟨%d3, %g3, %h3, H3⟩⟩ Hk
  have e0 : g0 = (inOf m).x c := h0.trans (before_0 m ρ c d0)
  have e1 : g1 = (inOf m).w1 c := h1.trans (before_1 m ρ c d1)
  have e2 : g2 = (inOf m).w2 c := h2.trans (before_2 m ρ c d2)
  subst e0; subst e1; subst e2
  iapply (WP_dev c Q)
  iapply (sound (inOf m) c (winV g3) Q) $$ [Hs Hc HO H0 H1 H2 H3]
  · isplitl [Hs]; · iexact Hs
    isplitl [Hc]; · iexact Hc
    isplitl [HO]
    · unfold Pipeline.Dat.owesAt Pipeline.owesWithin owe
      icases HO with ⟨%W, -, HO⟩
      iexists W; iexact HO
    isplitl [H0 H1 H2]
    · unfold insPt
      isplitl [H0]; · iexact H0
      isplitl [H1]; · iexact H1
      iexact H2
    unfold outSt
    iexists g3
    isplitr; · ipureintro; exact fun _ _ => rfl
    iexact H3
  iintro ⟨Hc, Hz, HO, Hin, Ho⟩
  iapply Hk
  isplitl [Hc Hz]; · isplitl [Hc] <;> iassumption
  isplitl [HO]
  · unfold owe Pipeline.Dat.owesAt Pipeline.owesWithin
    icases HO with ⟨%W, HO⟩
    iexists W
    isplitr; · ipureintro; exact fun _ _ => Or.inl trivial
    iexact HO
  unfold insPt
  icases Hin with ⟨H0, H1, H2⟩
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  ihave Ho := (outSt_eq c (finV (inOf m) c)) $$ Ho
  iexists _; isplitr; · (ipureintro; rfl)
  iexact Ho

/-- The launch's body obligation on device `c`. -/
theorem body_obligation (c : Dev nD) : Pipeline.BodyObligation (dats (F := F) m ρ 0 c) (defs₀ (F := F)) 𝒱₀ 0 Set.univ := fun t => by
  rw [fin_N0 t, bigSep_W0, bigSep_W0]
  simp only [owns_whole_eq]
  show bodyPre m ρ c ⊢ WP c (bodyAt0 (F := F) t0_0) (fun _ => bodyPost m ρ c)
  iintro H
  iapply (sound_body m ρ c fun _ => bodyPost m ρ c) $$ H
  iintro H; iexact H

/-! ## The launch's side conditions -/

/-- The call's own semaphores are those of its scratch operands. -/
theorem ownSemFacts : Pipeline.OwnSemFacts cfg0.spec osem := by decide +kernel

/-- Every operand is held in full. -/
theorem share_eq (c : Dev nD) (w : Fin cfg0.W) : (dats m ρ 0 c).share w = fullShare := by unfold Pipeline.Dat.share; split <;> rfl

/-- All of a device's semaphores at zero, as the end of the launch asks for them. -/
theorem zeroD_out (c : Dev nD) :
    zeroD c ⊢ (iprop(unscopedSems0 c ∗ Pipeline.ownSems0 (Ix := ℕ) (Name := ℕ) (U := UU) (Lvl := ℕ) (Val := Elt F) (τ := τ) osem c) : sProp 𝕄) := by
  rw [unscopedSems0_eq]
  unfold zeroD Pipeline.ownSems0
  rw [bigSep_own, bigSep_pd]
  iintro ⟨Hz, Hb⟩
  isplitl [Hb]; · iexact Hb
  iexact Hz

/-- The shared facts and the levels, together. -/
theorem recs_intro (κ : Dev nD × CK → ℕ) (κ' : SK → ℕ) : iprop(recs0 I κ κ' ∗ levAts L lv) ⊢ (recs I κ κ' : sProp 𝕄) := by
  unfold recs0 recs
  iintro ⟨⟨H1, H2, H3⟩, HL⟩
  isplitl [H1]; · iexact H1
  isplitl [H2]; · iexact H2
  isplitl [HL] <;> iassumption

/-- What a device starts with, from what the launch gives it. -/
theorem start_intro (c : Dev nD) :
    iprop(Pipeline.unscopedRestP Pipeline.Prefetch.none cfg0.spec c (fun b => m ((c : Thread nD τ).loc b)) ∗ levAts L lv
        ∗ Pipeline.launchCred (fun e => sumD (allDebts e)) c ∗ prngReg c (ρ c) ∗ G' (inOf m) c)
      ⊢ (|={Set.univ}=> iprop(start (inOf m) c ∗ emp) : sProp 𝕄) := by
  unfold G' start
  iintro ⟨-, Hlev, Hcr, -, ⟨%κ, %κ', HR, Hd⟩⟩
  ihave Hc := (launch_credits (F := F) c) $$ Hcr
  imodintro
  isplitl
  · iexists κ; iexists κ'
    isplitl [HR Hlev]
    · iapply (recs_intro (inOf m) κ κ')
      isplitl [HR] <;> iassumption
    isplitl [Hd]; · iexact Hd
    iexact Hc
  · iempintro

/-- The four scratch buffers, by name. -/
theorem scr_eq (c : Dev nD) : (scr c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ ((∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))) := rfl

/-- The scratch buffers, by name, from those the call allocates. -/
theorem scr_in (c : Dev nD) : (Pipeline.scopedRest cfg0.spec c : sProp 𝕄) ⊢ scr c := by
  rw [show (Pipeline.scopedRest cfg0.spec c : sProp 𝕄) = _ from scopedRest0_eq c, scr_eq]
  iintro ⟨H0, H1, H2, H3⟩
  isplitl [H0 H1]
  · isplitl [H0]; · iexact H0
    iexact H1
  · isplitl [H2]; · iexact H2
    iexact H3
/-- The scratch buffers given back to the call. -/
theorem scr_out (c : Dev nD) : scr c ⊢ (Pipeline.scopedRest cfg0.spec c : sProp 𝕄) := by
  rw [show (Pipeline.scopedRest cfg0.spec c : sProp 𝕄) = _ from scopedRest0_eq c, scr_eq]
  iintro ⟨⟨H0, H1⟩, H2, H3⟩
  isplitl [H0]; · iexact H0
  isplitl [H1]; · iexact H1
  isplitl [H2]; · iexact H2
  iexact H3

/-- What the body starts with, from the launch. -/
theorem phi0_intro (c : Dev nD) :
    iprop(start (inOf m) c ∗ Pipeline.prefHeld Pipeline.Prefetch.none c (fun _ => fullShare.right) (fun k => k.elim0) ∗ Pipeline.scopedRest cfg0.spec c)
      ⊢ (dats m ρ 0 c).Φ 0 := by
  show _ ⊢ iprop(start (inOf m) c ∗ scr c)
  iintro ⟨Hs, -, Hr⟩
  isplitl [Hs]; · iexact Hs
  iapply (scr_in c); iexact Hr

/-- What the body ends with, as the end of the launch asks for it. -/
theorem phi1_exit (c : Dev nD) :
    (dats m ρ 0 c).Φ (Fin.last cfg0.N) ⊢ iprop(unscopedSems0 c ∗ Pipeline.ownSems0 osem c ∗ Pipeline.scopedRest cfg0.spec c) := by
  show iprop(scr c ∗ zeroD c) ⊢ _
  iintro ⟨Hs, Hz⟩
  ihave Hz := (zeroD_out c) $$ Hz
  icases Hz with ⟨Hu, Ho⟩
  isplitl [Hu]; · iexact Hu
  isplitl [Ho]; · iexact Ho
  iapply (scr_out c); iexact Hs

/-- The staging semaphores are none of the ring's. -/
theorem lv_stage (c : Dev nD) (w : Fin 4) (s : Fin (cfg0.win w).nbuf) (i : ℕ) :
    lv ((c : Thread nD τ), .dma ((cfg0.win w).sem s)) i = 0 := by
  have h : ∀ (k : CK) (w : Fin 4) (s : Fin (cfg0.win w).nbuf), csem k ≠ .dma ((cfg0.win w).sem s) := by decide +kernel
  unfold lv
  split
  · next k hk => exact absurd (congrArg Prod.snd (keyOf_eq hk)).symm (h k w s)
  · rfl

/-- The pipeline's own waits are allowed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) (l := allDebts c) (by rw [lv_stage c w s 0]; exact above_all c)
    · exact mayWait c _ 0 (by decide) (l := []) (fun a ha => by cases ha)

/-! ## The run -/

def u₀ : UU :=
  (initOf (Pipeline.cells cfgs cellOf_inj) (Pipeline.launchToks cfgs cellOf_inj), (initOf ringCells ringToks, initSlots (Finset.univ : Finset SK) 4))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the sixteen devices, for any float values, from any memory with zero counters: every execution of the kernel
    ends, with each device's operands and output at known contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun e => sumD (allDebts e)) (howed₀ := fun _ => rfl) (howedN := fun _ => rfl)
    (L := L) (lv := lv) (hL := L_of_ne) (hwaits := waits m ρ)
    (G := G (inOf m)) (G' := G' (inOf m)) (u₀ := u₀)
    (hu₀ := by
      unfold u₀
      iintro Hu
      ihave H := (ownU_pair _ _) $$ Hu
      icases H with ⟨HP, HX⟩
      ihave HX := (own_pair_emb (embR (A := UR sig nD τ) (B := UB × US)) _ _) $$ HX
      imod (fund_ring (inOf m)) $$ HX with HG
      imodintro
      isplitl [HP] <;> iassumption)
    (hglob := glob (inOf m))
    (hA := fun _ _ => rfl) (hpf := fun _ k => k.elim0)
    (X := start (inOf m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were. -/
theorem finalA_0 (c : Dev nD) : finalA m ρ c (0 : Fin 4) = m ((c : Thread nD τ).loc main_arg0) := (dats (F := F) m ρ 0 c).arrAt_in (0 : Fin 4) rfl _
/-- The second operand ends as it was. -/
theorem finalA_1 (c : Dev nD) : finalA m ρ c (1 : Fin 4) = m ((c : Thread nD τ).loc main_arg1) := (dats (F := F) m ρ 0 c).arrAt_in (1 : Fin 4) rfl _
/-- The third operand ends as it was. -/
theorem finalA_2 (c : Dev nD) : finalA m ρ c (2 : Fin 4) = m ((c : Thread nD τ).loc main_arg2) := (dats (F := F) m ρ 0 c).arrAt_in (2 : Fin 4) rfl _

/-- The output ends as the body left its staging buffer. -/
theorem finalA_3 (c : Dev nD) : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 t0_0, if_pos rfl]
  exact View.read_write_univ _ _

end Cert.Ring

end
-- ==== Proof.Frames.lean ====
/-
# The three programs run

Each program ends on every execution, with its arguments as they were and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 1000000

noncomputable section

namespace Cert.Ring

open Idealize.ShloMosaic Idealize.SL.Sem

open Cert.KernelIdeal in
/-- Over any floats, the launch ends with the operands as they were and the semaphores at zero. -/
theorem frame_any {F : FTy → Type} [FloatOps F] (m : (ℓ : Loc nD τ sig) → Buf (Elt F) ℓ) (ρ : Dev nD → PrngReg) :
    θ_run Cert.KernelIdeal.defs (onTc main) ⟨m, fun _ => 0, ρ⟩ fun r =>
      (∀ c : Dev nD, r.2.mem (c.tc.loc main_arg0) = m (c.tc.loc main_arg0) ∧ r.2.mem (c.tc.loc main_arg1) = m (c.tc.loc main_arg1) ∧
        r.2.mem (c.tc.loc main_arg2) = m (c.tc.loc main_arg2)) ∧ r.2.sem = fun _ => 0 :=
  (θ_run Cert.KernelIdeal.defs _ _).mono
    (fun _ h => ⟨fun c => ⟨(h.1 c (0 : Fin 4)).trans (finalA_0 m ρ c), (h.1 c (1 : Fin 4)).trans (finalA_1 m ρ c), (h.1 c (2 : Fin 4)).trans (finalA_2 m ρ c)⟩, h.2⟩)
    (run_main m ρ)

/-- The idealized kernel ends, its operands as they were and its semaphores at zero. -/
theorem frame_kernelIdeal : Cert.quiescent_KernelIdeal := fun m ρ _ => frame_any m ρ

set_option maxHeartbeats 0 in
/-- The two modules' bodies are one function: by definitional unfolding. -/
theorem body_same {F : FTy → Type} [FloatOps F] :
    @Cert.Kernel.cc0_body F _ Cert.Kernel.Gen.facts = @Cert.KernelIdeal.cc0_body F _ Cert.KernelIdeal.Gen.facts := rfl

set_option maxHeartbeats 0 in
/-- The two modules' body tables are one table: their only label runs the same body on the same operands. -/
theorem defs₀_same {F : FTy → Type} [FloatOps F] : Cert.Kernel.defs₀ (F := F) = Cert.KernelIdeal.defs₀ := by
  unfold Cert.Kernel.defs₀ Cert.KernelIdeal.defs₀
  congr 1
  funext l a
  match l, a with
  | ⟨0, _⟩, (t, s) => rfl

/-- The two modules' definitions are the same. -/
theorem defs_same {F : FTy → Type} [FloatOps F] : Cert.Kernel.defs (F := F) = Cert.KernelIdeal.defs :=
  show Pipeline.defs Cert.KernelIdeal.pcfgs (Cert.Kernel.defs₀ (F := F)) = Pipeline.defs Cert.KernelIdeal.pcfgs Cert.KernelIdeal.defs₀ from
    congrArg _ defs₀_same

/-- The kernel ends, its operands as they were and its semaphores at zero: the same run, over the bit-level floats. -/
theorem frame_kernel : Cert.quiescent_Kernel := fun m ρ _ => by
  have h := frame_any (F := Bits) m ρ
  rw [← defs_same] at h
  exact h

/-- The reference ends, its operands as they were; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring

end
-- ==== Proof.Value.lean ====
/-
# What the kernel computes, index by index

Over the extended reals, where addition may be taken in any order: each tile that comes round the ring ends as the sum,
over the sixteen devices, of the products of their row windows of `x` with half the columns of their rows of `W1`; a
window of the output is that sum times the rows of the device's `W2`, the two halves added.
-/
module

public import proofs.«01_k».proof.Proof.Launch
public import Idealize.ShloMosaic.Lib.MatmulPlain
public import Idealize.ShloMosaic.Lib.ValueIdx

@[expose] public section

noncomputable section

namespace Cert.Ring

open Cert.KernelIdeal Cert.KernelIdeal.Gen
open Idealize.ShloMosaic Idealize.ShloMosaic.TcCoe Idealize.ShloMosaic.ValueIdx
open Idealize.SL Idealize.SL.Sem
open scoped BigOperators

/-- A row window of `x` times half the columns of `W1`, at an index: a sum of 512 products. -/
theorem mm1_apply (w : Vec Ideal S512x256 .f32) (x : Vec Ideal S256x512 .f32) (r k : Fin 256) :
    (mm1 w x (ix2 r k) : EReal) = ∑ l : Fin 512, (x (ix2 r l) : EReal) * w (ix2 l k) := by
  unfold mm1
  rw [shapeCast_self, shapeCast_self]
  refine (Ideal.matmul_plain_apply (M := 256) (K := 512) (N := 256) none x w _ r k).trans ?_
  rw [show (constant (F := Ideal) S256x256 .f32 0x00000000#32 (ix2 r k) : EReal) = 0 from Ideal.ofBits_zero_f32, zero_add]

/-- A tile times half the rows of `W2`, at an index: a sum of 256 products. -/
theorem mm2_apply (v : Vec Ideal S256x256 .f32) (w : Vec Ideal S256x128 .f32) (r : Fin 256) (j : Fin 128) :
    (mm2 (tileV v) w (ix2 r j) : EReal) = ∑ k : Fin 256, (v (ix2 r k) : EReal) * w (ix2 k j) := by
  unfold mm2
  rw [tileV_cast, shapeCast_self]
  refine (Ideal.matmul_plain_apply (M := 256) (K := 256) (N := 128) none v w _ r j).trans ?_
  rw [show (constant (F := Ideal) S256x128 .f32 0x00000000#32 (ix2 r j) : EReal) = 0 from Ideal.ofBits_zero_f32, zero_add]

/-- Row `r` of half `q` of block `b`, among all rows. -/
def rowO (b : Dev nD) (q : Fin 2) (r : Fin 256) : Fin 8192 :=
  ⟨512 * b.val + 256 * q.val + r.val, by have := b.isLt; have : b.val < 16 := this; omega⟩

/-- Column `k` of direction `d`'s half, among all 512. -/
def halfO (d : Bool) (k : Fin 256) : Fin 512 := ⟨(if d then 256 else 0) + k.val, by split <;> omega⟩

variable (I : Ins Ideal)

/-- Device `c`'s columns of `x`. -/
def xA (c : Dev nD) : S8192x512.Idx → EReal := I.x c
/-- Device `c`'s rows of `W1`. -/
def w1A (c : Dev nD) : S512x512.Idx → EReal := I.w1 c
/-- Device `c`'s columns of `W2`. -/
def w2A (c : Dev nD) : S512x128.Idx → EReal := I.w2 c
/-- Device `c`'s columns of the output. -/
def outA (c : Dev nD) : S8192x128.Idx → EReal := outOf (finV I c)

/-- What device `c` adds to entry `(r, k)` of direction `d`'s tile of half `q` of block `b`. -/
def prodAt (d : Bool) (q : Fin 2) (b c : Dev nD) (r k : Fin 256) : EReal :=
  ∑ l : Fin 512, (xA I c (ix2 (rowO b q r) l)) * w1A I c (ix2 l (halfO d k))

/-- The partial product read at the window of half `q` of block `b`. -/
theorem psub_apply (d : Bool) (q : Fin 2) (b c : Dev nD) (off : Fin 2 → Nat) (hoff : ∀ a, off a + S256x512.size a ≤ S8192x512.size a)
    (h : off = offB b q) (r k : Fin 256) : (psub I d c off hoff (ix2 r k) : EReal) = prodAt I d q b c r k := by
  subst h
  unfold psub prodAt
  rw [mm1_apply]
  refine Finset.sum_congr rfl fun l _ => congrArg₂ (· * ·) ?_ ?_
  · refine congrArg (xA I c) (funext fun a => Fin.ext ?_)
    fin_cases a
    · show 512 * b.val + 256 * q.val + 1 * r.val = 512 * b.val + 256 * q.val + r.val
      omega
    · show 0 + 1 * l.val = l.val
      omega
  · refine congrArg (w1A I c) (funext fun a => Fin.ext ?_)
    fin_cases a
    · show 0 + 1 * l.val = l.val
      omega
    · show (if d then 256 else 0) + 1 * k.val = (if d then 256 else 0) + k.val
      omega

/-- Direction `d`'s half of the rows of `W2`, at an index. -/
theorem w2V_apply (d : Bool) (c : Dev nD) (k : Fin 256) (j : Fin 128) :
    (w2V I d c (ix2 k j) : EReal) = w2A I c (ix2 (halfO d k) j) := by
  refine congrArg (w2A I c) (funext fun a => Fin.ext ?_)
  fin_cases a
  · show (if d then 256 else 0) + 1 * k.val = (if d then 256 else 0) + k.val
    omega
  · show 0 + 1 * j.val = j.val
    omega

/-! ## Round the ring -/

/-- The window of the first partial product is of the block of the device next up the ring. -/
theorem xoff0_blk (d : Bool) (c : Dev nD) (q : Fin 2) : xoff0 d c q = offB ((fromDev d)^[1] c) q := by
  revert d c q; decide +kernel

/-- The window of a step's partial product is of the block of the device as far up the ring as the step says. -/
theorem xoff_blk (d : Bool) (c : Dev nD) (q : Fin 2) {h : ℕ} (hh : h < 15) : xoff d c h q = offB ((fromDev d)^[h + 2] c) q := by
  have H : ∀ (d : Bool) (c : Dev nD) (q : Fin 2) (h : Fin 15), xoff d c h.val q = offB ((fromDev d)^[h.val + 2] c) q := by
    decide +kernel
  exact H d c q ⟨h, hh⟩

/-- Sixteen devices up the ring is the device itself. -/
theorem round_ring (d : Bool) (c : Dev nD) : (fromDev d)^[16] c = c := by
  revert d c; decide +kernel

/-- Every device is some number of devices, fewer than sixteen, up the ring. -/
theorem reach_ring : ∀ (d : Bool) (c b : Dev nD), ∃ i : Fin 16, (fromDev d)^[i.val] c = b := by
  decide +kernel

/-- A sum over the sixteen devices up the ring is a sum over all devices. -/
theorem sum_ring (d : Bool) (c : Dev nD) (f : Dev nD → EReal) :
    ∑ i ∈ Finset.range 16, f ((fromDev d)^[i] c) = ∑ b : Dev nD, f b := by
  rw [Finset.sum_range]
  have hs : Function.Surjective (fun i : Fin 16 => ((fromDev d)^[i.val] c : Fin 16)) := fun b => reach_ring d c b
  exact Function.Bijective.sum_comp (e := fun i : Fin 16 => ((fromDev d)^[i.val] c : Fin 16)) ⟨Finite.injective_iff_surjective.2 hs, hs⟩ f

/-- What a hop of the reduce-scatter sends, at an index: what the devices passed so far have added, to the tile of the
block it is on its way to. -/
theorem rsV_apply (d : Bool) (q : Fin 2) (r k : Fin 256) : ∀ (h : ℕ) (_ : h ≤ 15) (c : Dev nD),
    (rsV I d q h c (ix2 r k) : EReal) = ∑ i ∈ Finset.range (h + 1), prodAt I d q ((fromDev d)^[h + 1] c) ((fromDev d)^[i] c) r k
  | 0, _, c => by
    rw [Finset.sum_range_one]
    exact psub_apply I d q _ c _ _ (xoff0_blk d c q) r k
  | h + 1, hh, c => by
    rw [Finset.sum_range_succ']
    refine congrArg₂ (· + ·) ?_ ?_
    · exact rsV_apply d q r k h (by omega) (fromDev d c)
    · exact psub_apply I d q _ c _ _ (xoff_blk d c q (by omega)) r k

/-- Entry `(r, k)` of direction `d`'s complete tile of half `q` of block `b`: the sum over all devices. -/
def tileAt (d : Bool) (q : Fin 2) (b : Dev nD) (r k : Fin 256) : EReal := ∑ c : Dev nD, prodAt I d q b c r k

/-- What the reduce-scatter ends with. -/
theorem rsV_last (d : Bool) (q : Fin 2) (b : Dev nD) (r k : Fin 256) : (rsV I d q 15 b (ix2 r k) : EReal) = tileAt I d q b r k := by
  rw [rsV_apply I d q r k 15 le_rfl b, round_ring]
  exact sum_ring d b fun c => prodAt I d q b c r k

/-- One direction's part of an output window, at an index. -/
theorem part_apply (c : Dev nD) (d : Bool) (b : Dev nD) (q : Fin 2) (r : Fin 256) (j : Fin 128) :
    (part I c d b q (ix2 r j) : EReal) = ∑ k : Fin 256, tileAt I d q b r k * w2A I c (ix2 (halfO d k) j) := by
  unfold part
  rw [mm2_apply]
  exact Finset.sum_congr rfl fun k _ => congrArg₂ (· * ·) (rsV_last I d q b r k) (w2V_apply I d c k j)

/-- An output window, at an index: the two directions' parts, whichever came first. -/
theorem finV_apply (c b : Dev nD) (q : Fin 2) (r : Fin 256) (j : Fin 128) :
    (finV I c b q (ix2 r j) : EReal)
      = (∑ k : Fin 256, tileAt I false q b r k * w2A I c (ix2 (halfO false k) j))
        + ∑ k : Fin 256, tileAt I true q b r k * w2A I c (ix2 (halfO true k) j) := by
  rw [← part_apply, ← part_apply]
  unfold finV
  split
  · rfl
  · exact add_comm (part I c true b q (ix2 r j) : EReal) (part I c false b q (ix2 r j))

/-! ## The whole product -/

/-- Entry `(i, k)` of `x · W1`, from the devices' blocks: a sum over devices of sums over their columns of `x`. -/
def hid (i : Fin 8192) (k : Fin 512) : EReal :=
  ∑ c : Dev nD, ∑ l : Fin 512, (xA I c (ix2 i l)) * w1A I c (ix2 l k)

/-- The output of device `c`, at an index: row `i` of `x · W1` times column `j` of its `W2`. -/
theorem out_apply (c : Dev nD) (i : Fin 8192) (j : Fin 128) :
    outA I c (ix2 i j) = ∑ k : Fin 512, hid I i k * w2A I c (ix2 k j) := by
  have hrow : ∀ r : Fin 256, r.val = i.val - (512 * (i.val / 512) + 256 * (i.val % 512 / 256)) →
      rowO (bO (ix2 i j)) (qO (ix2 i j)) r = i := by
    intro r hr
    refine Fin.ext ?_
    show 512 * (i.val / 512) + 256 * (i.val % 512 / 256) + r.val = i.val
    omega
  have hx : xO (ix2 i j) = ix2 (⟨i.val - (512 * (i.val / 512) + 256 * (i.val % 512 / 256)), by omega⟩ : Fin 256) j := by
    refine funext fun a => Fin.ext ?_
    fin_cases a <;> rfl
  have ht : ∀ d k, tileAt I d (qO (ix2 i j)) (bO (ix2 i j)) (⟨i.val - (512 * (i.val / 512) + 256 * (i.val % 512 / 256)), by omega⟩ : Fin 256) k
      = hid I i (halfO d k) := by
    intro d k
    unfold tileAt prodAt hid
    rw [hrow _ rfl]
  unfold outA outOf
  rw [hx]
  refine (finV_apply I c _ _ _ _).trans ?_
  simp only [ht]
  rw [Fin.sum_univ_add (a := 256) (b := 256) fun k : Fin 512 => hid I i k * w2A I c (ix2 k j)]
  refine congrArg₂ (· + ·) (Finset.sum_congr rfl fun k _ => ?_) (Finset.sum_congr rfl fun k _ => ?_)
  · rw [show halfO false k = Fin.castAdd 256 k from Fin.ext (Nat.zero_add _)]
  · rw [show halfO true k = Fin.natAdd 256 k from rfl]

end Cert.Ring

end
-- ==== Proof.Equal.lean ====
/-
# Kernel and reference compute the same function

The reference is `(x · W1) · W2` on whole arrays. Device `c` of the kernel holds columns of `x`, rows of `W1` and columns
of `W2`, and ends with those columns of the reference's product: the sum over all 8192 columns of `x` is the sum over
devices of the sums over each device's 512.
-/
module

public import proofs.«01_k».proof.Defs
public import proofs.«01_k».proof.Proof.Value
public import proofs.«01_k».proof.Proof.Gen.ReferenceIdeal.Run
public import Idealize.ShloMosaic.Lib.StackMember

@[expose] public section

noncomputable section

namespace Cert.Ring

open Cert.KernelIdeal Cert.KernelIdeal.Gen
open Idealize.ShloMosaic Idealize.ShloMosaic.TcCoe Idealize.ShloMosaic.ValueIdx
open Idealize.SL Idealize.SL.Sem
open scoped BigOperators

/-! ## The reference -/

/-- The reference's result, as its program computes it. -/
abbrev refV (X : FVec Ideal ⟨2, ![8192, 8192]⟩ .f32) (A : FVec Ideal ⟨2, ![8192, 512]⟩ .f32) (B : FVec Ideal ⟨2, ![512, 2048]⟩ .f32) :
    FVec Ideal ⟨2, ![8192, 2048]⟩ .f32 :=
  Host.dotGeneral Cert.ReferenceIdeal.dot_S8192x512_S512x2048_S8192x2048_1_0_0_1_n_n none
    (Host.dotGeneral Cert.ReferenceIdeal.dot_S8192x8192_S8192x512_S8192x512_1_0_0_1_n_n none X A) B

/-- The reference's result at an index: a double sum of products. -/
theorem refV_apply (X : FVec Ideal ⟨2, ![8192, 8192]⟩ .f32) (A : FVec Ideal ⟨2, ![8192, 512]⟩ .f32) (B : FVec Ideal ⟨2, ![512, 2048]⟩ .f32)
    (i : Fin 8192) (j : Fin 2048) :
    (refV X A B (ix2 i j) : EReal) = ∑ k : Fin 512, (∑ L : Fin 8192, (X (ix2 i L) : EReal) * A (ix2 L k)) * B (ix2 k j) := by
  refine (StackMember.dotGeneral_plain_apply (m := 8192) (k := 512) (n := 2048) none _ B i j).trans ?_
  refine Finset.sum_congr rfl fun k _ => congrArg (· * (B (ix2 k j) : EReal)) ?_
  exact StackMember.dotGeneral_plain_apply (m := 8192) (k := 8192) (n := 512) none X A i k

/-! ## Sixteen blocks of 512 -/

/-- Place `l` of device `c`'s 512, among 8192. -/
def inBlk (c : Fin 16) (l : Fin 512) : Fin 8192 := ⟨c.val * 512 + l.val, by omega⟩

/-- A sum over 8192 places, block by block. -/
theorem sum_blocks (f : Fin 8192 → EReal) : ∑ L, f L = ∑ c : Fin 16, ∑ l : Fin 512, f (inBlk c l) := by
  rw [← (finProdFinEquiv (m := 16) (n := 512)).sum_comp f, Fintype.sum_prod_type]
  refine Finset.sum_congr rfl fun c _ => Finset.sum_congr rfl fun l _ => congrArg f (Fin.ext ?_)
  show l.val + 512 * c.val = c.val * 512 + l.val
  omega

/-- Device `c`'s column `j` of the output, among 2048. -/
def inOut (c : Fin 16) (j : Fin 128) : Fin 2048 := ⟨c.val * 128 + j.val, by omega⟩

/-! ## The blocks the launch starts with -/

variable {F : FTy → Type} [FloatOps F] (m : (ℓ : Loc nD τ sig) → Buf (Elt F) ℓ) (ρ : Dev nD → PrngReg)

/-- The window of `x` is the whole array. -/
theorem inOf_x (c : Dev nD) : (inOf m).x c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) (m ((c : Thread nD τ).loc main_arg0))

/-- The window of `W1` is the whole array. -/
theorem inOf_w1 (c : Dev nD) : (inOf m).w1 c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) (m ((c : Thread nD τ).loc main_arg1))

/-- The window of `W2` is the whole array. -/
theorem inOf_w2 (c : Dev nD) : (inOf m).w2 c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) (m ((c : Thread nD τ).loc main_arg2))

/-- The output array ends as the body left its window. -/
theorem finalA_out (c : Dev nD) : finalA m ρ c (3 : Fin 4) = outAt m c :=
  (Memref.read_access_unit_zero (Elt F) main_v1
    (show (fun a => (win0_3.index (0 : Fin 1)) a * main_v1.ty.shape.size a) = fun _ => 0 from funext fun a => by fin_cases a <;> decide)
    (fun a => by fin_cases a <;> decide) (finalA m ρ c (3 : Fin 4))).symm.trans (finalA_3 m ρ c)

/-! ## The equation -/

/-- Device `c`'s output is its block of the reference's result, if the devices start with their blocks of the whole
arrays. -/
theorem out_block (I : Ins Ideal) (X : FVec Ideal ⟨2, ![8192, 8192]⟩ .f32) (A : FVec Ideal ⟨2, ![8192, 512]⟩ .f32) (B : FVec Ideal ⟨2, ![512, 2048]⟩ .f32)
    (hx : ∀ c, xA I c = Layout.block ⟨2, ![8192, 512]⟩ ⟨2, ![8192, 8192]⟩ 1 16 c X)
    (h1 : ∀ c, w1A I c = Layout.block ⟨2, ![512, 512]⟩ ⟨2, ![8192, 512]⟩ 0 16 c A)
    (h2 : ∀ c, w2A I c = Layout.block ⟨2, ![512, 128]⟩ ⟨2, ![512, 2048]⟩ 1 16 c B) (c : Dev nD) :
    outA I c = Layout.block ⟨2, ![8192, 128]⟩ ⟨2, ![8192, 2048]⟩ 1 16 c (refV X A B) := by
  have ex : ∀ (b : Fin 16) (i : Fin 8192) (l : Fin 512), xA I b (ix2 i l) = X (ix2 i (inBlk b l)) := fun b i l => by
    rw [hx b]
    exact congrArg X (funext fun a => Fin.ext (by fin_cases a <;> rfl))
  have e1 : ∀ (b : Fin 16) (l k : Fin 512), w1A I b (ix2 l k) = A (ix2 (inBlk b l) k) := fun b l k => by
    rw [h1 b]
    exact congrArg A (funext fun a => Fin.ext (by fin_cases a <;> rfl))
  have e2 : ∀ (k : Fin 512) (j : Fin 128), w2A I c (ix2 k j) = B (ix2 k (inOut c j)) := fun k j => by
    rw [h2 c]
    exact congrArg B (funext fun a => Fin.ext (by fin_cases a <;> rfl))
  funext y
  obtain ⟨i, j, rfl⟩ : ∃ (i : Fin 8192) (j : Fin 128), y = ix2 i j := ⟨y 0, y 1, eq_ix2 y⟩
  have hb : Layout.block ⟨2, ![8192, 128]⟩ ⟨2, ![8192, 2048]⟩ 1 16 c (refV X A B) (by decide) (ix2 i j) = refV X A B (ix2 i (inOut c j)) :=
    congrArg (refV X A B) (funext fun a => Fin.ext (by fin_cases a <;> rfl))
  rw [hb, out_apply]
  refine Eq.trans ?_ (refV_apply X A B i (inOut c j)).symm
  refine Finset.sum_congr rfl fun k _ => congrArg₂ (· * ·) ?_ (e2 k j)
  rw [sum_blocks]
  exact Finset.sum_congr rfl fun b _ => Finset.sum_congr rfl fun l _ => congrArg₂ (· * ·) (ex b i l) (e1 b l k)

/-- Over the extended reals the kernel leaves on every device its block of the reference's result. -/
theorem algebraic : Cert.algebraic_KernelIdeal_ReferenceIdeal := by
  intro m ρ m' ρ' _ hagree
  refine ⟨refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run Cert.KernelIdeal.defs _ _).mono
      (fun _ h c => ⟨(h.1 c (3 : Fin 4)).trans ((finalA_out m ρ c).trans ?_), (h.1 c (0 : Fin 4)).trans (finalA_0 m ρ c),
        (h.1 c (1 : Fin 4)).trans (finalA_1 m ρ c), (h.1 c (2 : Fin 4)).trans (finalA_2 m ρ c)⟩)
      (run_main (F := Ideal) m ρ)
    exact out_block (inOf m) _ _ _ (fun b => (inOf_x m b).trans (hagree b).1) (fun b => (inOf_w1 m b).trans (hagree b).2.1)
      (fun b => (inOf_w2 m b).trans (hagree b).2.2) c
  · exact (θ_run Cert.ReferenceIdeal.defs _ _).mono (fun _ h => h 0) (Cert.ReferenceIdeal.Value.run (F := Ideal) m' ρ')

end Cert.Ring

end
-- ==== Proof.lean ====
/-
# The certificate

The claims of the statement, put together: the three programs run (`frame_kernel`, `frame_kernelIdeal`, `frame_referenceIdeal`),
the ideal program is the kernel with nothing rewritten, and kernel and reference compute the same function over the
extended reals (`algebraic`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

/-- Every claim made of the kernel and its reference. -/
theorem claim : Cert.Claim := ⟨Cert.Kernel.Gen.facts, Cert.KernelIdeal.Gen.facts, Cert.ReferenceIdeal.Gen.facts,
  Cert.Ring.frame_kernel, Cert.Ring.frame_kernelIdeal, Cert.Ring.frame_referenceIdeal, trivial, Cert.Ring.algebraic⟩

end Cert.Proof

end
